-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  True

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_v27) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v118) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_v68) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_bounded (hKernelIdeal := hKernelIdeal) (hReferenceIdeal := hReferenceIdeal) (hPre_bounded := hPre_bounded)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_bounded.lean ====
abbrev S36x2048x64 : Shape := ⟨3, ![36, 2048, 64]⟩
abbrev S12x2048x32 : Shape := ⟨3, ![12, 2048, 32]⟩
abbrev S12x2048x64 : Shape := ⟨3, ![12, 2048, 64]⟩
abbrev S12x2048x3 : Shape := ⟨3, ![12, 2048, 3]⟩
abbrev S12x2048x2048 : Shape := ⟨3, ![12, 2048, 2048]⟩
abbrev S_ : Shape := ⟨0, ![]⟩
abbrev S2048 : Shape := ⟨1, ![2048]⟩
abbrev S1x2048x1 : Shape := ⟨3, ![1, 2048, 1]⟩
abbrev S32 : Shape := ⟨1, ![32]⟩
abbrev S1x1x32 : Shape := ⟨3, ![1, 1, 32]⟩
abbrev S1x2048x32 : Shape := ⟨3, ![1, 2048, 32]⟩

class Facts : Prop where
  slices_S36x2048x64_S12x2048x64_0_0_0 : S36x2048x64.Slices ![0, 0, 0] S12x2048x64
  slices_S36x2048x64_S12x2048x64_12_0_0 : S36x2048x64.Slices ![12, 0, 0] S12x2048x64
  bcast_S_S12x2048x2048 : S_.BroadcastsInDim S12x2048x2048 (![] : Fin 0 → Fin S12x2048x2048.rank)
  bcast_S2048_S1x2048x1_1 : S2048.BroadcastsInDim S1x2048x1 (![1] : Fin 1 → Fin S1x2048x1.rank)
  bcast_S32_S1x1x32_2 : S32.BroadcastsInDim S1x1x32 (![2] : Fin 1 → Fin S1x1x32.rank)
  bcast_S_S12x2048x32 : S_.BroadcastsInDim S12x2048x32 (![] : Fin 0 → Fin S12x2048x32.rank)
  bcast_S_S1x1x32 : S_.BroadcastsInDim S1x1x32 (![] : Fin 0 → Fin S1x1x32.rank)
  bcast_S1x1x32_S1x2048x32_0_1_2 : S1x1x32.BroadcastsInDim S1x2048x32 (![0, 1, 2] : Fin 3 → Fin S1x2048x32.rank)
  bcast_S1x2048x1_S1x2048x32_0_1_2 : S1x2048x1.BroadcastsInDim S1x2048x32 (![0, 1, 2] : Fin 3 → Fin S1x2048x32.rank)
  bcast_S1x2048x32_S12x2048x32_0_1_2 : S1x2048x32.BroadcastsInDim S12x2048x32 (![0, 1, 2] : Fin 3 → Fin S12x2048x32.rank)
  dot_S12x2048x64_S12x2048x64_S12x2048x2048_2_2_1_1_0_0_wf : DotDims.WF S12x2048x64 S12x2048x64 S12x2048x2048 [2] [2] [1] [1] [0] [0]

variable [Facts]

def dot_S12x2048x64_S12x2048x64_S12x2048x2048_2_2_1_1_0_0 : DotDims S12x2048x64 S12x2048x64 S12x2048x2048 where
  lhsContracting := [2]
  rhsContracting := [2]
  lhsNonContracting := [1]
  rhsNonContracting := [1]
  lhsBatch := [0]
  rhsBatch := [0]
  wf := dot_S12x2048x64_S12x2048x64_S12x2048x2048_2_2_1_1_0_0_wf
def fn_part1 {F : FTy → Type} [FloatOps F] (main_v6 : IVec S1x2048x1 32) (main_v11 : IVec S12x2048x2048 1) (main_v13 : IVec S12x2048x32 1) (main_v15 : IVec S12x2048x32 1) (main_v17 : IVec S1x1x32 32) (main_c_3 : IVec S_ 32) : IVec S12x2048x2048 1 × IVec S12x2048x32 1 :=
  let main_v18 : IVec S1x1x32 32 := broadcastInDim S1x1x32 ![] bcast_S_S1x1x32 main_c_3
  let main_v19 : IVec S1x1x32 32 := addi main_v17 main_v18
  let main_v20 : IVec S1x2048x32 32 := broadcastInDim S1x2048x32 ![0, 1, 2] bcast_S1x1x32_S1x2048x32_0_1_2 main_v19
  let main_v21 : IVec S1x2048x32 32 := broadcastInDim S1x2048x32 ![0, 1, 2] bcast_S1x2048x1_S1x2048x32_0_1_2 main_v6
  let main_v22 : IVec S1x2048x32 1 := cmpi .sle main_v20 main_v21
  let main_v23 : IVec S12x2048x32 1 := broadcastInDim S12x2048x32 ![0, 1, 2] bcast_S1x2048x32_S12x2048x32_0_1_2 main_v22
  let main_v24 : IVec S12x2048x32 1 := andi main_v15 main_v23
  let main_v25 : IVec S12x2048x32 1 := ori main_v13 main_v24
  (main_v11, main_v25)

def fn {F : FTy → Type} [FloatOps F] (main_arg0 : FVec F S36x2048x64 .f32) (main_arg1 : FVec F S12x2048x32 .f32) (main_arg2 : FVec F S12x2048x64 .f32) (main_arg3 : FVec F S12x2048x3 .f32) : IVec S12x2048x2048 1 × IVec S12x2048x32 1 :=
  let main_v0 : FVec F S12x2048x64 .f32 := (extractStridedSlice S12x2048x64 ![0, 0, 0] · slices_S36x2048x64_S12x2048x64_0_0_0) main_arg0
  let main_v1 : FVec F S12x2048x64 .f32 := (extractStridedSlice S12x2048x64 ![12, 0, 0] · slices_S36x2048x64_S12x2048x64_12_0_0) main_arg0
  let main_v2 : FVec F S12x2048x2048 .f32 := (fun l r => Host.dotGeneral dot_S12x2048x64_S12x2048x64_S12x2048x2048_2_2_1_1_0_0 none l r) main_v0 main_v1
  let main_cst : FVec F S_ .f32 := constant S_ .f32 0x3E000000#32
  let main_v3 : FVec F S12x2048x2048 .f32 := broadcastInDim S12x2048x2048 ![] bcast_S_S12x2048x2048 main_cst
  let main_v4 : FVec F S12x2048x2048 .f32 := mulf main_v2 main_v3
  let main_v5 : IVec S2048 32 := iotaInDim S2048 32 0
  let main_v6 : IVec S1x2048x1 32 := broadcastInDim S1x2048x1 ![1] bcast_S2048_S1x2048x1_1 main_v5
  let main_v7 : IVec S32 32 := iotaInDim S32 32 0
  let main_v8 : IVec S1x1x32 32 := broadcastInDim S1x1x32 ![2] bcast_S32_S1x1x32_2 main_v7
  let main_v9 : FVec F S12x2048x2048 .f32 := Host.absf main_v4
  let main_cst_0 : FVec F S_ .f32 := constant S_ .f32 0x42000000#32
  let main_v10 : FVec F S12x2048x2048 .f32 := broadcastInDim S12x2048x2048 ![] bcast_S_S12x2048x2048 main_cst_0
  let main_v11 : IVec S12x2048x2048 1 := cmpf .ole main_v9 main_v10
  let main_cst_1 : FVec F S_ .f32 := constant S_ .f32 0x00000000#32
  let main_v12 : FVec F S12x2048x32 .f32 := broadcastInDim S12x2048x32 ![] bcast_S_S12x2048x32 main_cst_1
  let main_v13 : IVec S12x2048x32 1 := cmpf .oeq main_arg1 main_v12
  let main_cst_2 : FVec F S_ .f32 := constant S_ .f32 0x3F800000#32
  let main_v14 : FVec F S12x2048x32 .f32 := broadcastInDim S12x2048x32 ![] bcast_S_S12x2048x32 main_cst_2
  let main_v15 : IVec S12x2048x32 1 := cmpf .oeq main_arg1 main_v14
  let main_c : IVec S_ 32 := constantI S_ 32 64#32
  let main_v16 : IVec S1x1x32 32 := broadcastInDim S1x1x32 ![] bcast_S_S1x1x32 main_c
  let main_v17 : IVec S1x1x32 32 := muli main_v8 main_v16
  let main_c_3 : IVec S_ 32 := constantI S_ 32 64#32
  fn_part1 (F := F) main_v6 main_v11 main_v13 main_v15 main_v17 main_c_3
-- ==== Kernel.lean ====
abbrev S36x2048x64 : Shape := ⟨3, ![36, 2048, 64]⟩
abbrev S12x2048x32 : Shape := ⟨3, ![12, 2048, 32]⟩
abbrev S12x2048x64 : Shape := ⟨3, ![12, 2048, 64]⟩
abbrev S12x2048x3 : Shape := ⟨3, ![12, 2048, 3]⟩
abbrev S1x256x64 : Shape := ⟨3, ![1, 256, 64]⟩
abbrev S1x2048x64 : Shape := ⟨3, ![1, 2048, 64]⟩
abbrev S1x256x32 : Shape := ⟨3, ![1, 256, 32]⟩
abbrev S1x256x3 : Shape := ⟨3, ![1, 256, 3]⟩
abbrev S256x64 : Shape := ⟨2, ![256, 64]⟩
abbrev S256x32 : Shape := ⟨2, ![256, 32]⟩
abbrev S256x1 : Shape := ⟨2, ![256, 1]⟩
abbrev S1x512x64 : Shape := ⟨3, ![1, 512, 64]⟩
abbrev S512x64 : Shape := ⟨2, ![512, 64]⟩
abbrev S256x512 : Shape := ⟨2, ![256, 512]⟩
abbrev S256 : Shape := ⟨1, ![256]⟩
abbrev S32x512 : Shape := ⟨2, ![32, 512]⟩
abbrev S256x3 : Shape := ⟨2, ![256, 3]⟩

abbrev nBuf : Space → Nat
  | .hbm => 5
  | .vmem => 14
  | .smem => 0
  | _ => 0

abbrev bufTy : (tb : Table) → Fin (tcTables nBuf tb) → BufTy
  | .hbm, ⟨0, _⟩ => ⟨S36x2048x64, .f32⟩
  | .hbm, ⟨1, _⟩ => ⟨S12x2048x32, .f32⟩
  | .hbm, ⟨2, _⟩ => ⟨S12x2048x64, .f32⟩
  | .hbm, ⟨3, _⟩ => ⟨S12x2048x3, .f32⟩
  | .hbm, ⟨4, _⟩ => ⟨S12x2048x64, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x256x32, .f32⟩
  | .local _ .vmem, ⟨7, _⟩ => ⟨S1x256x32, .f32⟩
  | .local _ .vmem, ⟨8, _⟩ => ⟨S1x256x64, .f32⟩
  | .local _ .vmem, ⟨9, _⟩ => ⟨S1x256x64, .f32⟩
  | .local _ .vmem, ⟨10, _⟩ => ⟨S1x256x3, .f32⟩
  | .local _ .vmem, ⟨11, _⟩ => ⟨S1x256x3, .f32⟩
  | .local _ .vmem, ⟨12, _⟩ => ⟨S1x256x64, .f32⟩
  | .local _ .vmem, ⟨13, _⟩ => ⟨S1x256x64, .f32⟩
  | _, _ => ⟨S36x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![12, 8], ![false, false]⟩

@[reducible] def k0_t1_loop (i : grid0.Coords) : Scf.Loop 32 :=
  let c0_i32_14 : BitVec 32 := 0#32
  let arg1 : BitVec 32 := BitVec.ofNat 32 (i 1).val
  let c0_i32 : BitVec 32 := 0#32
  let v11 : BitVec 1 := Scalar.cmpi .sgt arg1 c0_i32
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c2_i32 : BitVec 32 := 2#32
  let c0_i32_6 : BitVec 32 := 0#32
  let v16 : BitVec 1 := Scalar.cmpi .sgt c2_i32 c0_i32_6
  let v17 : BitVec 32 := Scalar.extui v16
  let c0_i32_7 : BitVec 32 := 0#32
  let v18 : BitVec 1 := Scalar.cmpi .slt c2_i32 c0_i32_7
  let v19 : BitVec 32 := Scalar.extui v18
  let v20 : BitVec 32 := Scalar.subi v17 v19
  let v21 : BitVec 1 := Scalar.cmpi .ne v15 v20
  let v22 : BitVec 32 := Scalar.remsi arg1 c2_i32
  let c0_i32_8 : BitVec 32 := 0#32
  let v23 : BitVec 1 := Scalar.cmpi .ne v22 c0_i32_8
  let v24 : BitVec 1 := Scalar.andi v21 v23
  let v10 : BitVec 32 := Scalar.divsi arg1 c2_i32
  let c1_i32 : BitVec 32 := 1#32
  let v25 : BitVec 32 := Scalar.subi v10 c1_i32
  let v26 : BitVec 32 := Scalar.select v24 v25 v10
  let c1_i32_9 : BitVec 32 := 1#32
  let v27 : BitVec 32 := Scalar.addi v26 c1_i32_9
  let c2_i32_13 : BitVec 32 := 2#32
  let v31 : BitVec 32 := Scalar.subi v27 c2_i32_13
  let v32 : BitVec 32 := Scalar.subi v31 c0_i32_14
  let c1_i32_15 : BitVec 32 := 1#32
  let v34 : BitVec 32 := Scalar.divsi v32 c1_i32_15
  let v35 : BitVec 32 := Scalar.muli v34 c1_i32_15
  let v36 : BitVec 32 := Scalar.addi c0_i32_14 v35
  let c1_i32_16 : BitVec 32 := 1#32
  ⟨c0_i32_14, v36, c1_i32_16⟩
def k0_off1 (i : grid0.Coords) (k0_t1 : Fin (k0_t1_loop i).trips) : Fin 3 → Nat :=
  let c0_54 : Index := 0#32
  let c0_i32_14 : BitVec 32 := 0#32
  let c1_i32_16 : BitVec 32 := 1#32
  let arg9 : BitVec 32 := Scf.iv c0_i32_14 c1_i32_16 k0_t1
  let c512_i32_53 : BitVec 32 := 512#32
  let v149 : BitVec 32 := Scalar.muli arg9 c512_i32_53
  let v150 : Index := Scalar.indexCast v149
  let c0_55 : Index := 0#32
  ![0, v150.toNat, 0]
@[reducible] def k0_t2_loop (i : grid0.Coords) : Scf.Loop 32 :=
  let c0_i32_14 : BitVec 32 := 0#32
  let arg1 : BitVec 32 := BitVec.ofNat 32 (i 1).val
  let c0_i32 : BitVec 32 := 0#32
  let v11 : BitVec 1 := Scalar.cmpi .sgt arg1 c0_i32
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c2_i32 : BitVec 32 := 2#32
  let c0_i32_6 : BitVec 32 := 0#32
  let v16 : BitVec 1 := Scalar.cmpi .sgt c2_i32 c0_i32_6
  let v17 : BitVec 32 := Scalar.extui v16
  let c0_i32_7 : BitVec 32 := 0#32
  let v18 : BitVec 1 := Scalar.cmpi .slt c2_i32 c0_i32_7
  let v19 : BitVec 32 := Scalar.extui v18
  let v20 : BitVec 32 := Scalar.subi v17 v19
  let v21 : BitVec 1 := Scalar.cmpi .ne v15 v20
  let v22 : BitVec 32 := Scalar.remsi arg1 c2_i32
  let c0_i32_8 : BitVec 32 := 0#32
  let v23 : BitVec 1 := Scalar.cmpi .ne v22 c0_i32_8
  let v24 : BitVec 1 := Scalar.andi v21 v23
  let v10 : BitVec 32 := Scalar.divsi arg1 c2_i32
  let c1_i32 : BitVec 32 := 1#32
  let v25 : BitVec 32 := Scalar.subi v10 c1_i32
  let v26 : BitVec 32 := Scalar.select v24 v25 v10
  let c1_i32_9 : BitVec 32 := 1#32
  let v27 : BitVec 32 := Scalar.addi v26 c1_i32_9
  let c2_i32_13 : BitVec 32 := 2#32
  let v31 : BitVec 32 := Scalar.subi v27 c2_i32_13
  let v32 : BitVec 32 := Scalar.subi v31 c0_i32_14
  let c1_i32_15 : BitVec 32 := 1#32
  let v34 : BitVec 32 := Scalar.divsi v32 c1_i32_15
  let v35 : BitVec 32 := Scalar.muli v34 c1_i32_15
  let v36 : BitVec 32 := Scalar.addi c0_i32_14 v35
  let v33 : BitVec 32 := Scalar.addi c0_i32_14 v32
  let c1_i32_17 : BitVec 32 := 1#32
  ⟨v36, v33, c1_i32_17⟩
def k0_off2 (i : grid0.Coords) (k0_t2 : Fin (k0_t2_loop i).trips) : Fin 3 → Nat :=
  let c0_54 : Index := 0#32
  let c0_i32_14 : BitVec 32 := 0#32
  let arg1 : BitVec 32 := BitVec.ofNat 32 (i 1).val
  let c0_i32 : BitVec 32 := 0#32
  let v11 : BitVec 1 := Scalar.cmpi .sgt arg1 c0_i32
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c2_i32 : BitVec 32 := 2#32
  let c0_i32_6 : BitVec 32 := 0#32
  let v16 : BitVec 1 := Scalar.cmpi .sgt c2_i32 c0_i32_6
  let v17 : BitVec 32 := Scalar.extui v16
  let c0_i32_7 : BitVec 32 := 0#32
  let v18 : BitVec 1 := Scalar.cmpi .slt c2_i32 c0_i32_7
  let v19 : BitVec 32 := Scalar.extui v18
  let v20 : BitVec 32 := Scalar.subi v17 v19
  let v21 : BitVec 1 := Scalar.cmpi .ne v15 v20
  let v22 : BitVec 32 := Scalar.remsi arg1 c2_i32
  let c0_i32_8 : BitVec 32 := 0#32
  let v23 : BitVec 1 := Scalar.cmpi .ne v22 c0_i32_8
  let v24 : BitVec 1 := Scalar.andi v21 v23
  let v10 : BitVec 32 := Scalar.divsi arg1 c2_i32
  let c1_i32 : BitVec 32 := 1#32
  let v25 : BitVec 32 := Scalar.subi v10 c1_i32
  let v26 : BitVec 32 := Scalar.select v24 v25 v10
  let c1_i32_9 : BitVec 32 := 1#32
  let v27 : BitVec 32 := Scalar.addi v26 c1_i32_9
  let c2_i32_13 : BitVec 32 := 2#32
  let v31 : BitVec 32 := Scalar.subi v27 c2_i32_13
  let v32 : BitVec 32 := Scalar.subi v31 c0_i32_14
  let c1_i32_15 : BitVec 32 := 1#32
  let v34 : BitVec 32 := Scalar.divsi v32 c1_i32_15
  let v35 : BitVec 32 := Scalar.muli v34 c1_i32_15
  let v36 : BitVec 32 := Scalar.addi c0_i32_14 v35
  let c1_i32_17 : BitVec 32 := 1#32
  let arg9 : BitVec 32 := Scf.iv v36 c1_i32_17 k0_t2
  let c512_i32_53 : BitVec 32 := 512#32
  let v149 : BitVec 32 := Scalar.muli arg9 c512_i32_53
  let v150 : Index := Scalar.indexCast v149
  let c0_55 : Index := 0#32
  ![0, v150.toNat, 0]
def k0_cond1 (i : grid0.Coords) : BitVec 1 :=
  let arg1 : BitVec 32 := BitVec.ofNat 32 (i 1).val
  let c0_i32 : BitVec 32 := 0#32
  let v11 : BitVec 1 := Scalar.cmpi .sgt arg1 c0_i32
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c2_i32 : BitVec 32 := 2#32
  let c0_i32_6 : BitVec 32 := 0#32
  let v16 : BitVec 1 := Scalar.cmpi .sgt c2_i32 c0_i32_6
  let v17 : BitVec 32 := Scalar.extui v16
  let c0_i32_7 : BitVec 32 := 0#32
  let v18 : BitVec 1 := Scalar.cmpi .slt c2_i32 c0_i32_7
  let v19 : BitVec 32 := Scalar.extui v18
  let v20 : BitVec 32 := Scalar.subi v17 v19
  let v21 : BitVec 1 := Scalar.cmpi .ne v15 v20
  let v22 : BitVec 32 := Scalar.remsi arg1 c2_i32
  let c0_i32_8 : BitVec 32 := 0#32
  let v23 : BitVec 1 := Scalar.cmpi .ne v22 c0_i32_8
  let v24 : BitVec 1 := Scalar.andi v21 v23
  let v10 : BitVec 32 := Scalar.divsi arg1 c2_i32
  let c1_i32 : BitVec 32 := 1#32
  let v25 : BitVec 32 := Scalar.subi v10 c1_i32
  let v26 : BitVec 32 := Scalar.select v24 v25 v10
  let c1_i32_9 : BitVec 32 := 1#32
  let v27 : BitVec 32 := Scalar.addi v26 c1_i32_9
  let c2_i32_18 : BitVec 32 := 2#32
  let v39 : BitVec 1 := Scalar.cmpi .sge v27 c2_i32_18
  let v40 : BitVec 32 := Scalar.extui v39
  let c0_i32_19 : BitVec 32 := 0#32
  let v41 : BitVec 1 := Scalar.cmpi .ne v40 c0_i32_19
  v41

def k0_off3 (i : grid0.Coords) : Fin 3 → Nat :=
  let c0_55 : Index := 0#32
  let arg1 : BitVec 32 := BitVec.ofNat 32 (i 1).val
  let c0_i32 : BitVec 32 := 0#32
  let v11 : BitVec 1 := Scalar.cmpi .sgt arg1 c0_i32
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c2_i32 : BitVec 32 := 2#32
  let c0_i32_6 : BitVec 32 := 0#32
  let v16 : BitVec 1 := Scalar.cmpi .sgt c2_i32 c0_i32_6
  let v17 : BitVec 32 := Scalar.extui v16
  let c0_i32_7 : BitVec 32 := 0#32
  let v18 : BitVec 1 := Scalar.cmpi .slt c2_i32 c0_i32_7
  let v19 : BitVec 32 := Scalar.extui v18
  let v20 : BitVec 32 := Scalar.subi v17 v19
  let v21 : BitVec 1 := Scalar.cmpi .ne v15 v20
  let v22 : BitVec 32 := Scalar.remsi arg1 c2_i32
  let c0_i32_8 : BitVec 32 := 0#32
  let v23 : BitVec 1 := Scalar.cmpi .ne v22 c0_i32_8
  let v24 : BitVec 1 := Scalar.andi v21 v23
  let v10 : BitVec 32 := Scalar.divsi arg1 c2_i32
  let c1_i32 : BitVec 32 := 1#32
  let v25 : BitVec 32 := Scalar.subi v10 c1_i32
  let v26 : BitVec 32 := Scalar.select v24 v25 v10
  let c1_i32_9 : BitVec 32 := 1#32
  let v27 : BitVec 32 := Scalar.addi v26 c1_i32_9
  let c2_i32_53 : BitVec 32 := 2#32
  let v149 : BitVec 32 := Scalar.subi v27 c2_i32_53
  let c512_i32_54 : BitVec 32 := 512#32
  let v150 : BitVec 32 := Scalar.muli v149 c512_i32_54
  let v151 : Index := Scalar.indexCast v150
  let c0_56 : Index := 0#32
  ![0, v151.toNat, 0]
def k0_off4 (i : grid0.Coords) : Fin 3 → Nat :=
  let c0_21 : Index := 0#32
  let arg1 : BitVec 32 := BitVec.ofNat 32 (i 1).val
  let c0_i32 : BitVec 32 := 0#32
  let v11 : BitVec 1 := Scalar.cmpi .sgt arg1 c0_i32
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c2_i32 : BitVec 32 := 2#32
  let c0_i32_6 : BitVec 32 := 0#32
  let v16 : BitVec 1 := Scalar.cmpi .sgt c2_i32 c0_i32_6
  let v17 : BitVec 32 := Scalar.extui v16
  let c0_i32_7 : BitVec 32 := 0#32
  let v18 : BitVec 1 := Scalar.cmpi .slt c2_i32 c0_i32_7
  let v19 : BitVec 32 := Scalar.extui v18
  let v20 : BitVec 32 := Scalar.subi v17 v19
  let v21 : BitVec 1 := Scalar.cmpi .ne v15 v20
  let v22 : BitVec 32 := Scalar.remsi arg1 c2_i32
  let c0_i32_8 : BitVec 32 := 0#32
  let v23 : BitVec 1 := Scalar.cmpi .ne v22 c0_i32_8
  let v24 : BitVec 1 := Scalar.andi v21 v23
  let v10 : BitVec 32 := Scalar.divsi arg1 c2_i32
  let c1_i32 : BitVec 32 := 1#32
  let v25 : BitVec 32 := Scalar.subi v10 c1_i32
  let v26 : BitVec 32 := Scalar.select v24 v25 v10
  let c1_i32_9 : BitVec 32 := 1#32
  let v27 : BitVec 32 := Scalar.addi v26 c1_i32_9
  let c1_i32_20 : BitVec 32 := 1#32
  let v43 : BitVec 32 := Scalar.subi v27 c1_i32_20
  let c512_i32 : BitVec 32 := 512#32
  let v44 : BitVec 32 := Scalar.muli v43 c512_i32
  let v45 : Index := Scalar.indexCast v44
  let c0_22 : Index := 0#32
  ![0, v45.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S36x2048x64 : Shape := ⟨3, ![36, 2048, 64]⟩
abbrev S12x2048x32 : Shape := ⟨3, ![12, 2048, 32]⟩
abbrev S12x2048x64 : Shape := ⟨3, ![12, 2048, 64]⟩
abbrev S12x2048x3 : Shape := ⟨3, ![12, 2048, 3]⟩
abbrev S12x2048x2048 : Shape := ⟨3, ![12, 2048, 2048]⟩
abbrev S_ : Shape := ⟨0, ![]⟩
abbrev S12x2048x32x64 : Shape := ⟨4, ![12, 2048, 32, 64]⟩
abbrev S12x2048 : Shape := ⟨2, ![12, 2048]⟩
abbrev S12x2048x1 : Shape := ⟨3, ![12, 2048, 1]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩

abbrev nBuf : Space → Nat
  | .hbm => 88
  | .vmem => 0
  | .smem => 0
  | _ => 0

abbrev bufTy : (tb : Table) → Fin (tcTables nBuf tb) → BufTy
  | .hbm, ⟨0, _⟩ => ⟨S36x2048x64, .f32⟩
  | .hbm, ⟨1, _⟩ => ⟨S12x2048x32, .f32⟩
  | .hbm, ⟨2, _⟩ => ⟨S12x2048x64, .f32⟩
  | .hbm, ⟨3, _⟩ => ⟨S12x2048x3, .f32⟩
  | .hbm, ⟨4, _⟩ => ⟨S12x2048x64, .f32⟩
  | .hbm, ⟨5, _⟩ => ⟨S12x2048x64, .f32⟩
  | .hbm, ⟨6, _⟩ => ⟨S12x2048x64, .f32⟩
  | .hbm, ⟨7, _⟩ => ⟨S12x2048x2048, .f32⟩
  | .hbm, ⟨8, _⟩ => ⟨S_, .f32⟩
  | .hbm, ⟨9, _⟩ => ⟨S12x2048x2048, .f32⟩
  | .hbm, ⟨10, _⟩ => ⟨S12x2048x2048, .f32⟩
  | .hbm, ⟨11, _⟩ => ⟨S12x2048x32x64, .f32⟩
  | .hbm, ⟨12, _⟩ => ⟨S12x2048x2048, .f32⟩
  | .hbm, ⟨13, _⟩ => ⟨S_, .f32⟩
  | .hbm, ⟨14, _⟩ => ⟨S12x2048x2048, .f32⟩
  | .hbm, ⟨15, _⟩ => ⟨S12x2048x2048, .i1⟩
  | .hbm, ⟨16, _⟩ => ⟨S_, .f32⟩
  | .hbm, ⟨17, _⟩ => ⟨S12x2048x2048, .f32⟩
  | .hbm, ⟨18, _⟩ => ⟨S12x2048x2048, .f32⟩
  | .hbm, ⟨19, _⟩ => ⟨S_, .f32⟩
  | .hbm, ⟨20, _⟩ => ⟨S12x2048, .f32⟩
  | .hbm, ⟨21, _⟩ => ⟨S12x2048x1, .f32⟩
  | .hbm, ⟨22, _⟩ => ⟨S12x2048x2048, .f32⟩
  | .hbm, ⟨23, _⟩ => ⟨S12x2048x2048, .f32⟩
  | .hbm, ⟨24, _⟩ => ⟨S12x2048x2048, .f32⟩
  | .hbm, ⟨25, _⟩ => ⟨S_, .f32⟩
  | .hbm, ⟨26, _⟩ => ⟨S_, .f32⟩
  | .hbm, ⟨27, _⟩ => ⟨S12x2048x2048, .f32⟩
  | .hbm, ⟨28, _⟩ => ⟨S12x2048x2048, .f32⟩
  | .hbm, ⟨29, _⟩ => ⟨S_, .f32⟩
  | .hbm, ⟨30, _⟩ => ⟨S12x2048, .f32⟩
  | .hbm, ⟨31, _⟩ => ⟨S12x2048x1, .f32⟩
  | .hbm, ⟨32, _⟩ => ⟨S_, .f32⟩
  | .hbm, ⟨33, _⟩ => ⟨S12x2048x1, .f32⟩
  | .hbm, ⟨34, _⟩ => ⟨S12x2048x1, .f32⟩
  | .hbm, ⟨35, _⟩ => ⟨S12x2048x2048, .f32⟩
  | .hbm, ⟨36, _⟩ => ⟨S12x2048x2048, .f32⟩
  | .hbm, ⟨37, _⟩ => ⟨S12x2048x64, .f32⟩
  | .hbm, ⟨38, _⟩ => ⟨S2048, .i32⟩
  | .hbm, ⟨39, _⟩ => ⟨S2048x1, .i32⟩
  | .hbm, ⟨40, _⟩ => ⟨S2048, .i32⟩
  | .hbm, ⟨41, _⟩ => ⟨S1x2048, .i32⟩
  | .hbm, ⟨42, _⟩ => ⟨S2048x2048, .i32⟩
  | .hbm, ⟨43, _⟩ => ⟨S2048x2048, .i32⟩
  | .hbm, ⟨44, _⟩ => ⟨S2048x2048, .i1⟩
  | .hbm, ⟨45, _⟩ => ⟨S2048x2048, .i32⟩
  | .hbm, ⟨46, _⟩ => ⟨S2048x2048, .i32⟩
  | .hbm, ⟨47, _⟩ => ⟨S2048x2048, .i32⟩
  | .hbm, ⟨48, _⟩ => ⟨S_, .i32⟩
  | .hbm, ⟨49, _⟩ => ⟨S2048x2048, .i32⟩
  | .hbm, ⟨50, _⟩ => ⟨S2048x2048, .i1⟩
  | .hbm, ⟨51, _⟩ => ⟨S2048x2048, .i1⟩
  | .hbm, ⟨52, _⟩ => ⟨S1x2048x2048, .i1⟩
  | .hbm, ⟨53, _⟩ => ⟨S_, .f32⟩
  | .hbm, ⟨54, _⟩ => ⟨S12x2048x2048, .i1⟩
  | .hbm, ⟨55, _⟩ => ⟨S12x2048x2048, .f32⟩
  | .hbm, ⟨56, _⟩ => ⟨S12x2048x2048, .f32⟩
  | .hbm, ⟨57, _⟩ => ⟨S_, .f32⟩
  | .hbm, ⟨58, _⟩ => ⟨S12x2048, .f32⟩
  | .hbm, ⟨59, _⟩ => ⟨S12x2048x1, .f32⟩
  | .hbm, ⟨60, _⟩ => ⟨S12x2048x2048, .f32⟩
  | .hbm, ⟨61, _⟩ => ⟨S12x2048x2048, .f32⟩
  | .hbm, ⟨62, _⟩ => ⟨S12x2048x2048, .f32⟩
  | .hbm, ⟨63, _⟩ => ⟨S_, .f32⟩
  | .hbm, ⟨64, _⟩ => ⟨S_, .f32⟩
  | .hbm, ⟨65, _⟩ => ⟨S12x2048x2048, .i1⟩
  | .hbm, ⟨66, _⟩ => ⟨S12x2048x2048, .f32⟩
  | .hbm, ⟨67, _⟩ => ⟨S12x2048x2048, .f32⟩
  | .hbm, ⟨68, _⟩ => ⟨S_, .f32⟩
  | .hbm, ⟨69, _⟩ => ⟨S12x2048, .f32⟩
  | .hbm, ⟨70, _⟩ => ⟨S12x2048x1, .f32⟩
  | .hbm, ⟨71, _⟩ => ⟨S_, .f32⟩
  | .hbm, ⟨72, _⟩ => ⟨S12x2048x1, .f32⟩
  | .hbm, ⟨73, _⟩ => ⟨S12x2048x1, .f32⟩
  | .hbm, ⟨74, _⟩ => ⟨S12x2048x2048, .f32⟩
  | .hbm, ⟨75, _⟩ => ⟨S12x2048x2048, .f32⟩
  | .hbm, ⟨76, _⟩ => ⟨S12x2048x64, .f32⟩
  | .hbm, ⟨77, _⟩ => ⟨S12x2048x1, .f32⟩
  | .hbm, ⟨78, _⟩ => ⟨S12x2048x64, .f32⟩
  | .hbm, ⟨79, _⟩ => ⟨S12x2048x64, .f32⟩
  | .hbm, ⟨80, _⟩ => ⟨S12x2048x1, .f32⟩
  | .hbm, ⟨81, _⟩ => ⟨S12x2048x64, .f32⟩
  | .hbm, ⟨82, _⟩ => ⟨S12x2048x64, .f32⟩
  | .hbm, ⟨83, _⟩ => ⟨S12x2048x64, .f32⟩
  | .hbm, ⟨84, _⟩ => ⟨S12x2048x1, .f32⟩
  | .hbm, ⟨85, _⟩ => ⟨S12x2048x64, .f32⟩
  | .hbm, ⟨86, _⟩ => ⟨S12x2048x64, .f32⟩
  | .hbm, ⟨87, _⟩ => ⟨S12x2048x64, .f32⟩
  | _, _ => ⟨S36x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_call0_v0 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_call2_v0 : Ref sig .tc := ⟨.hbm, 54, rfl⟩
abbrev main_call2_v1 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩

abbrev nD : Nat := 1
abbrev τ : Topo := Topo.v7x

variable {F : FTy → Type} [FloatOps F]
-- ==== Kernel2.lean ====
abbrev S1x2048x768 : Shape := ⟨3, ![1, 2048, 768]⟩
abbrev S768x768 : Shape := ⟨2, ![768, 768]⟩
abbrev S384x768 : Shape := ⟨2, ![384, 768]⟩
abbrev S36x384 : Shape := ⟨2, ![36, 384]⟩
abbrev S2048x768 : Shape := ⟨2, ![2048, 768]⟩
abbrev S2304x768 : Shape := ⟨2, ![2304, 768]⟩
abbrev S36x64x768 : Shape := ⟨3, ![36, 64, 768]⟩
abbrev S36x2048x64 : Shape := ⟨3, ![36, 2048, 64]⟩
abbrev S2048x36 : Shape := ⟨2, ![2048, 36]⟩
abbrev S256x768 : Shape := ⟨2, ![256, 768]⟩
abbrev S36x256x64 : Shape := ⟨3, ![36, 256, 64]⟩
abbrev S256x36 : Shape := ⟨2, ![256, 36]⟩
abbrev S1x64x768 : Shape := ⟨3, ![1, 64, 768]⟩
abbrev S64x768 : Shape := ⟨2, ![64, 768]⟩
abbrev S256x64 : Shape := ⟨2, ![256, 64]⟩
abbrev S1x256x64 : Shape := ⟨3, ![1, 256, 64]⟩
abbrev S256x384 : Shape := ⟨2, ![256, 384]⟩

abbrev nBuf : Space → Nat
  | .hbm => 11
  | .vmem => 9
  | .smem => 0
  | _ => 0

abbrev bufTy : (tb : Table) → Fin (tcTables nBuf tb) → BufTy
  | .hbm, ⟨0, _⟩ => ⟨S1x2048x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S384x768, .f32⟩
  | .hbm, ⟨5, _⟩ => ⟨S36x384, .f32⟩
  | .hbm, ⟨6, _⟩ => ⟨S2048x768, .f32⟩
  | .hbm, ⟨7, _⟩ => ⟨S2304x768, .f32⟩
  | .hbm, ⟨8, _⟩ => ⟨S36x64x768, .f32⟩
  | .hbm, ⟨9, _⟩ => ⟨S36x2048x64, .f32⟩
  | .hbm, ⟨10, _⟩ => ⟨S2048x36, .f32⟩
  | .local _ .vmem, ⟨0, _⟩ => ⟨S256x768, .f32⟩
  | .local _ .vmem, ⟨1, _⟩ => ⟨S256x768, .f32⟩
  | .local _ .vmem, ⟨2, _⟩ => ⟨S36x64x768, .f32⟩
  | .local _ .vmem, ⟨3, _⟩ => ⟨S384x768, .f32⟩
  | .local _ .vmem, ⟨4, _⟩ => ⟨S36x384, .f32⟩
  | .local _ .vmem, ⟨5, _⟩ => ⟨S36x256x64, .f32⟩
  | .local _ .vmem, ⟨6, _⟩ => ⟨S36x256x64, .f32⟩
  | .local _ .vmem, ⟨7, _⟩ => ⟨S256x36, .f32⟩
  | .local _ .vmem, ⟨8, _⟩ => ⟨S256x36, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S36x64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S36x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S36x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x36 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S1x2048x768 : Shape := ⟨3, ![1, 2048, 768]⟩
abbrev S768x768 : Shape := ⟨2, ![768, 768]⟩
abbrev S384x768 : Shape := ⟨2, ![384, 768]⟩
abbrev S36x384 : Shape := ⟨2, ![36, 384]⟩
abbrev S768x384 : Shape := ⟨2, ![768, 384]⟩
abbrev S1x2048x384 : Shape := ⟨3, ![1, 2048, 384]⟩
abbrev S_ : Shape := ⟨0, ![]⟩
abbrev S384x36 : Shape := ⟨2, ![384, 36]⟩
abbrev S1x2048x36 : Shape := ⟨3, ![1, 2048, 36]⟩
abbrev S1x2048x12x64 : Shape := ⟨4, ![1, 2048, 12, 64]⟩
abbrev S1x12x2048x64 : Shape := ⟨4, ![1, 12, 2048, 64]⟩
abbrev S12x2048x64 : Shape := ⟨3, ![12, 2048, 64]⟩
abbrev S36x2048x64 : Shape := ⟨3, ![36, 2048, 64]⟩
abbrev S2048x36 : Shape := ⟨2, ![2048, 36]⟩

abbrev nBuf : Space → Nat
  | .hbm => 44
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S384x768, .f32⟩
  | .hbm, ⟨5, _⟩ => ⟨S36x384, .f32⟩
  | .hbm, ⟨6, _⟩ => ⟨S768x384, .f32⟩
  | .hbm, ⟨7, _⟩ => ⟨S1x2048x384, .f32⟩
  | .hbm, ⟨8, _⟩ => ⟨S1x2048x384, .f32⟩
  | .hbm, ⟨9, _⟩ => ⟨S1x2048x384, .f32⟩
  | .hbm, ⟨10, _⟩ => ⟨S_, .f32⟩
  | .hbm, ⟨11, _⟩ => ⟨S1x2048x384, .f32⟩
  | .hbm, ⟨12, _⟩ => ⟨S1x2048x384, .f32⟩
  | .hbm, ⟨13, _⟩ => ⟨S_, .f32⟩
  | .hbm, ⟨14, _⟩ => ⟨S1x2048x384, .f32⟩
  | .hbm, ⟨15, _⟩ => ⟨S1x2048x384, .f32⟩
  | .hbm, ⟨16, _⟩ => ⟨S1x2048x384, .f32⟩
  | .hbm, ⟨17, _⟩ => ⟨S384x36, .f32⟩
  | .hbm, ⟨18, _⟩ => ⟨S1x2048x36, .f32⟩
  | .hbm, ⟨19, _⟩ => ⟨S1x2048x36, .f32⟩
  | .hbm, ⟨20, _⟩ => ⟨S1x2048x36, .f32⟩
  | .hbm, ⟨21, _⟩ => ⟨S_, .f32⟩
  | .hbm, ⟨22, _⟩ => ⟨S1x2048x36, .f32⟩
  | .hbm, ⟨23, _⟩ => ⟨S1x2048x36, .f32⟩
  | .hbm, ⟨24, _⟩ => ⟨S_, .f32⟩
  | .hbm, ⟨25, _⟩ => ⟨S1x2048x36, .f32⟩
  | .hbm, ⟨26, _⟩ => ⟨S1x2048x36, .f32⟩
  | .hbm, ⟨27, _⟩ => ⟨S768x768, .f32⟩
  | .hbm, ⟨28, _⟩ => ⟨S1x2048x768, .f32⟩
  | .hbm, ⟨29, _⟩ => ⟨S1x2048x12x64, .f32⟩
  | .hbm, ⟨30, _⟩ => ⟨S1x12x2048x64, .f32⟩
  | .hbm, ⟨31, _⟩ => ⟨S768x768, .f32⟩
  | .hbm, ⟨32, _⟩ => ⟨S1x2048x768, .f32⟩
  | .hbm, ⟨33, _⟩ => ⟨S1x2048x12x64, .f32⟩
  | .hbm, ⟨34, _⟩ => ⟨S1x12x2048x64, .f32⟩
  | .hbm, ⟨35, _⟩ => ⟨S768x768, .f32⟩
  | .hbm, ⟨36, _⟩ => ⟨S1x2048x768, .f32⟩
  | .hbm, ⟨37, _⟩ => ⟨S1x2048x12x64, .f32⟩
  | .hbm, ⟨38, _⟩ => ⟨S1x12x2048x64, .f32⟩
  | .hbm, ⟨39, _⟩ => ⟨S12x2048x64, .f32⟩
  | .hbm, ⟨40, _⟩ => ⟨S12x2048x64, .f32⟩
  | .hbm, ⟨41, _⟩ => ⟨S12x2048x64, .f32⟩
  | .hbm, ⟨42, _⟩ => ⟨S36x2048x64, .f32⟩
  | .hbm, ⟨43, _⟩ => ⟨S2048x36, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Kernel3.lean ====
abbrev S12x2048x64 : Shape := ⟨3, ![12, 2048, 64]⟩
abbrev S768x768 : Shape := ⟨2, ![768, 768]⟩
abbrev S768x12x64 : Shape := ⟨3, ![768, 12, 64]⟩
abbrev S12x64x768 : Shape := ⟨3, ![12, 64, 768]⟩
abbrev S2048x768 : Shape := ⟨2, ![2048, 768]⟩
abbrev S12x256x64 : Shape := ⟨3, ![12, 256, 64]⟩
abbrev S256x768 : Shape := ⟨2, ![256, 768]⟩
abbrev S1x256x64 : Shape := ⟨3, ![1, 256, 64]⟩
abbrev S256x64 : Shape := ⟨2, ![256, 64]⟩
abbrev S1x64x768 : Shape := ⟨3, ![1, 64, 768]⟩
abbrev S64x768 : Shape := ⟨2, ![64, 768]⟩

abbrev nBuf : Space → Nat
  | .hbm => 5
  | .vmem => 5
  | .smem => 0
  | _ => 0

abbrev bufTy : (tb : Table) → Fin (tcTables nBuf tb) → BufTy
  | .hbm, ⟨0, _⟩ => ⟨S12x2048x64, .f32⟩
  | .hbm, ⟨1, _⟩ => ⟨S768x768, .f32⟩
  | .hbm, ⟨2, _⟩ => ⟨S768x12x64, .f32⟩
  | .hbm, ⟨3, _⟩ => ⟨S12x64x768, .f32⟩
  | .hbm, ⟨4, _⟩ => ⟨S2048x768, .f32⟩
  | .local _ .vmem, ⟨0, _⟩ => ⟨S12x256x64, .f32⟩
  | .local _ .vmem, ⟨1, _⟩ => ⟨S12x256x64, .f32⟩
  | .local _ .vmem, ⟨2, _⟩ => ⟨S12x64x768, .f32⟩
  | .local _ .vmem, ⟨3, _⟩ => ⟨S256x768, .f32⟩
  | .local _ .vmem, ⟨4, _⟩ => ⟨S256x768, .f32⟩
  | _, _ => ⟨S12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S12x2048x64 : Shape := ⟨3, ![12, 2048, 64]⟩
abbrev S768x768 : Shape := ⟨2, ![768, 768]⟩
abbrev S1x12x2048x64 : Shape := ⟨4, ![1, 12, 2048, 64]⟩
abbrev S1x2048x12x64 : Shape := ⟨4, ![1, 2048, 12, 64]⟩
abbrev S1x2048x768 : Shape := ⟨3, ![1, 2048, 768]⟩
abbrev S2048x768 : Shape := ⟨2, ![2048, 768]⟩

abbrev nBuf : Space → Nat
  | .hbm => 8
  | .vmem => 0
  | .smem => 0
  | _ => 0

abbrev bufTy : (tb : Table) → Fin (tcTables nBuf tb) → BufTy
  | .hbm, ⟨0, _⟩ => ⟨S12x2048x64, .f32⟩
  | .hbm, ⟨1, _⟩ => ⟨S768x768, .f32⟩
  | .hbm, ⟨2, _⟩ => ⟨S1x12x2048x64, .f32⟩
  | .hbm, ⟨3, _⟩ => ⟨S1x2048x12x64, .f32⟩
  | .hbm, ⟨4, _⟩ => ⟨S1x2048x768, .f32⟩
  | .hbm, ⟨5, _⟩ => ⟨S768x768, .f32⟩
  | .hbm, ⟨6, _⟩ => ⟨S1x2048x768, .f32⟩
  | .hbm, ⟨7, _⟩ => ⟨S2048x768, .f32⟩
  | _, _ => ⟨S12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel4.lean ====
abbrev S36x2048x64 : Shape := ⟨3, ![36, 2048, 64]⟩
abbrev S32x64 : Shape := ⟨2, ![32, 64]⟩
abbrev S5x64x128 : Shape := ⟨3, ![5, 64, 128]⟩
abbrev S64x64 : Shape := ⟨2, ![64, 64]⟩
abbrev S1x32x64 : Shape := ⟨3, ![1, 32, 64]⟩
abbrev S2x32x64 : Shape := ⟨3, ![2, 32, 64]⟩
abbrev S1x5x64x128 : Shape := ⟨4, ![1, 5, 64, 128]⟩
abbrev S2x5x64x128 : Shape := ⟨4, ![2, 5, 64, 128]⟩
abbrev S1x64x64 : Shape := ⟨3, ![1, 64, 64]⟩
abbrev S2x64x64 : Shape := ⟨3, ![2, 64, 64]⟩
abbrev S2x12x128x64 : Shape := ⟨4, ![2, 12, 128, 64]⟩
abbrev S1x2048x64 : Shape := ⟨3, ![1, 2048, 64]⟩
abbrev S1x1x128x64 : Shape := ⟨4, ![1, 1, 128, 64]⟩
abbrev S2048x64 : Shape := ⟨2, ![2048, 64]⟩
abbrev S128x16x64 : Shape := ⟨3, ![128, 16, 64]⟩
abbrev S127x16x64 : Shape := ⟨3, ![127, 16, 64]⟩
abbrev S127x32x64 : Shape := ⟨3, ![127, 32, 64]⟩
abbrev S128x32x64 : Shape := ⟨3, ![128, 32, 64]⟩
abbrev S4096x64 : Shape := ⟨2, ![4096, 64]⟩
abbrev S2048x2x64 : Shape := ⟨3, ![2048, 2, 64]⟩
abbrev S2048x1x64 : Shape := ⟨3, ![2048, 1, 64]⟩
abbrev S1x1x64x64 : Shape := ⟨4, ![1, 1, 64, 64]⟩
abbrev S1024x2x64 : Shape := ⟨3, ![1024, 2, 64]⟩
abbrev S1024x1x64 : Shape := ⟨3, ![1024, 1, 64]⟩
abbrev S1024x64 : Shape := ⟨2, ![1024, 64]⟩
abbrev S512x2x64 : Shape := ⟨3, ![512, 2, 64]⟩
abbrev S512x1x64 : Shape := ⟨3, ![512, 1, 64]⟩
abbrev S512x64 : Shape := ⟨2, ![512, 64]⟩
abbrev S256x2x64 : Shape := ⟨3, ![256, 2, 64]⟩
abbrev S256x1x64 : Shape := ⟨3, ![256, 1, 64]⟩
abbrev S256x64 : Shape := ⟨2, ![256, 64]⟩
abbrev S128x2x64 : Shape := ⟨3, ![128, 2, 64]⟩
abbrev S128x1x64 : Shape := ⟨3, ![128, 1, 64]⟩
abbrev S128x64 : Shape := ⟨2, ![128, 64]⟩

abbrev nBuf : Space → Nat
  | .hbm => 17
  | .vmem => 10
  | .smem => 0
  | _ => 0

abbrev bufTy : (tb : Table) → Fin (tcTables nBuf tb) → BufTy
  | .hbm, ⟨0, _⟩ => ⟨S36x2048x64, .f32⟩
  | .hbm, ⟨1, _⟩ => ⟨S32x64, .f32⟩
  | .hbm, ⟨2, _⟩ => ⟨S5x64x128, .f32⟩
  | .hbm, ⟨3, _⟩ => ⟨S64x64, .f32⟩
  | .hbm, ⟨4, _⟩ => ⟨S32x64, .f32⟩
  | .hbm, ⟨5, _⟩ => ⟨S5x64x128, .f32⟩
  | .hbm, ⟨6, _⟩ => ⟨S64x64, .f32⟩
  | .hbm, ⟨7, _⟩ => ⟨S1x32x64, .f32⟩
  | .hbm, ⟨8, _⟩ => ⟨S1x32x64, .f32⟩
  | .hbm, ⟨9, _⟩ => ⟨S2x32x64, .f32⟩
  | .hbm, ⟨10, _⟩ => ⟨S1x5x64x128, .f32⟩
  | .hbm, ⟨11, _⟩ => ⟨S1x5x64x128, .f32⟩
  | .hbm, ⟨12, _⟩ => ⟨S2x5x64x128, .f32⟩
  | .hbm, ⟨13, _⟩ => ⟨S1x64x64, .f32⟩
  | .hbm, ⟨14, _⟩ => ⟨S1x64x64, .f32⟩
  | .hbm, ⟨15, _⟩ => ⟨S2x64x64, .f32⟩
  | .hbm, ⟨16, _⟩ => ⟨S2x12x128x64, .f32⟩
  | .local _ .vmem, ⟨0, _⟩ => ⟨S1x2048x64, .f32⟩
  | .local _ .vmem, ⟨1, _⟩ => ⟨S1x2048x64, .f32⟩
  | .local _ .vmem, ⟨2, _⟩ => ⟨S1x32x64, .f32⟩
  | .local _ .vmem, ⟨3, _⟩ => ⟨S1x32x64, .f32⟩
  | .local _ .vmem, ⟨4, _⟩ => ⟨S1x5x64x128, .f32⟩
  | .local _ .vmem, ⟨5, _⟩ => ⟨S1x5x64x128, .f32⟩
  | .local _ .vmem, ⟨6, _⟩ => ⟨S1x64x64, .f32⟩
  | .local _ .vmem, ⟨7, _⟩ => ⟨S1x64x64, .f32⟩
  | .local _ .vmem, ⟨8, _⟩ => ⟨S1x1x128x64, .f32⟩
  | .local _ .vmem, ⟨9, _⟩ => ⟨S1x1x128x64, .f32⟩
  | _, _ => ⟨S36x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 12], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c12_i32 : BitVec 32 := 12#32
  let v1 : BitVec 32 := Scalar.muli c12_i32 v0
  let v2 : BitVec 32 := Scalar.addi v1 arg1
  let c0_i32 : BitVec 32 := 0#32
  let c0_i32_0 : BitVec 32 := 0#32
  let c0_i32_1 : BitVec 32 := 0#32
  ![v2.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x5x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S36x2048x64 : Shape := ⟨3, ![36, 2048, 64]⟩
abbrev S32x64 : Shape := ⟨2, ![32, 64]⟩
abbrev S5x64x128 : Shape := ⟨3, ![5, 64, 128]⟩
abbrev S64x64 : Shape := ⟨2, ![64, 64]⟩
abbrev S12x2048x64 : Shape := ⟨3, ![12, 2048, 64]⟩
abbrev S1x12x2048x64 : Shape := ⟨4, ![1, 12, 2048, 64]⟩
abbrev S127 : Shape := ⟨1, ![127]⟩
abbrev S127x1 : Shape := ⟨2, ![127, 1]⟩
abbrev S_ : Shape := ⟨0, ![]⟩
abbrev S32 : Shape := ⟨1, ![32]⟩
abbrev S1x32 : Shape := ⟨2, ![1, 32]⟩
abbrev S127x32 : Shape := ⟨2, ![127, 32]⟩
abbrev S127x32x1 : Shape := ⟨3, ![127, 32, 1]⟩
abbrev S1x12x127x32x64 : Shape := ⟨5, ![1, 12, 127, 32, 64]⟩
abbrev S1x1x1x32x64 : Shape := ⟨5, ![1, 1, 1, 32, 64]⟩
abbrev S1x12x1x32x64 : Shape := ⟨5, ![1, 12, 1, 32, 64]⟩
abbrev S1x12x128x32x64 : Shape := ⟨5, ![1, 12, 128, 32, 64]⟩
abbrev S1x12x128x16x128 : Shape := ⟨5, ![1, 12, 128, 16, 128]⟩
abbrev S1x64x128 : Shape := ⟨3, ![1, 64, 128]⟩
abbrev S64x128 : Shape := ⟨2, ![64, 128]⟩
abbrev S128x64 : Shape := ⟨2, ![128, 64]⟩
abbrev S1x12x128x16x64 : Shape := ⟨5, ![1, 12, 128, 16, 64]⟩
abbrev S1x12x128x8x128 : Shape := ⟨5, ![1, 12, 128, 8, 128]⟩
abbrev S1x12x128x8x64 : Shape := ⟨5, ![1, 12, 128, 8, 64]⟩
abbrev S1x12x128x4x128 : Shape := ⟨5, ![1, 12, 128, 4, 128]⟩
abbrev S1x12x128x4x64 : Shape := ⟨5, ![1, 12, 128, 4, 64]⟩
abbrev S1x12x128x2x128 : Shape := ⟨5, ![1, 12, 128, 2, 128]⟩
abbrev S1x12x128x2x64 : Shape := ⟨5, ![1, 12, 128, 2, 64]⟩
abbrev S1x12x128x1x128 : Shape := ⟨5, ![1, 12, 128, 1, 128]⟩
abbrev S1x12x128x1x64 : Shape := ⟨5, ![1, 12, 128, 1, 64]⟩
abbrev S1x12x128x64 : Shape := ⟨4, ![1, 12, 128, 64]⟩
abbrev S12x128x64 : Shape := ⟨3, ![12, 128, 64]⟩
abbrev S2x12x128x64 : Shape := ⟨4, ![2, 12, 128, 64]⟩

abbrev nBuf : Space → Nat
  | .hbm => 214
  | .vmem => 0
  | .smem => 0
  | _ => 0

abbrev hbmTy0_0 (i : Nat) : BufTy := match i % 128 with
  | 0 => ⟨S36x2048x64, .f32⟩
  | 1 => ⟨S32x64, .f32⟩
  | 2 => ⟨S5x64x128, .f32⟩
  | 3 => ⟨S64x64, .f32⟩
  | 4 => ⟨S32x64, .f32⟩
  | 5 => ⟨S5x64x128, .f32⟩
  | 6 => ⟨S64x64, .f32⟩
  | 7 => ⟨S12x2048x64, .f32⟩
  | 8 => ⟨S1x12x2048x64, .f32⟩
  | 9 => ⟨S12x2048x64, .f32⟩
  | 10 => ⟨S1x12x2048x64, .f32⟩
  | 11 => ⟨S127, .i32⟩
  | 12 => ⟨S127x1, .i32⟩
  | 13 => ⟨S_, .i32⟩
  | 14 => ⟨S127x1, .i32⟩
  | 15 => ⟨S127x1, .i32⟩
  | 16 => ⟨S32, .i32⟩
  | 17 => ⟨S1x32, .i32⟩
  | 18 => ⟨S127x32, .i32⟩
  | 19 => ⟨S127x32, .i32⟩
  | 20 => ⟨S127x32, .i32⟩
  | 21 => ⟨S_, .i32⟩
  | 22 => ⟨S127x32, .i32⟩
  | 23 => ⟨S127x32, .i1⟩
  | 24 => ⟨S_, .i32⟩
  | 25 => ⟨S127x32, .i32⟩
  | 26 => ⟨S127x32, .i32⟩
  | 27 => ⟨S127x32, .i32⟩
  | 28 => ⟨S127x32x1, .i32⟩
  | 29 => ⟨S1x12x127x32x64, .f32⟩
  | 30 => ⟨S1x1x1x32x64, .f32⟩
  | 31 => ⟨S1x12x127x32x64, .f32⟩
  | 32 => ⟨S1x12x127x32x64, .f32⟩
  | 33 => ⟨S1x12x1x32x64, .f32⟩
  | 34 => ⟨S_, .f32⟩
  | 35 => ⟨S1x12x1x32x64, .f32⟩
  | 36 => ⟨S1x12x128x32x64, .f32⟩
  | 37 => ⟨S1x12x128x16x128, .f32⟩
  | 38 => ⟨S1x64x128, .f32⟩
  | 39 => ⟨S64x128, .f32⟩
  | 40 => ⟨S128x64, .f32⟩
  | 41 => ⟨S1x12x128x16x64, .f32⟩
  | 42 => ⟨S1x12x128x16x64, .f32⟩
  | 43 => ⟨S1x12x128x16x64, .f32⟩
  | 44 => ⟨S_, .f32⟩
  | 45 => ⟨S1x12x128x16x64, .f32⟩
  | 46 => ⟨S1x12x128x16x64, .f32⟩
  | 47 => ⟨S_, .f32⟩
  | 48 => ⟨S1x12x128x16x64, .f32⟩
  | 49 => ⟨S1x12x128x16x64, .f32⟩
  | 50 => ⟨S1x12x128x16x64, .f32⟩
  | 51 => ⟨S1x12x128x8x128, .f32⟩
  | 52 => ⟨S1x64x128, .f32⟩
  | 53 => ⟨S64x128, .f32⟩
  | 54 => ⟨S128x64, .f32⟩
  | 55 => ⟨S1x12x128x8x64, .f32⟩
  | 56 => ⟨S1x12x128x8x64, .f32⟩
  | 57 => ⟨S1x12x128x8x64, .f32⟩
  | 58 => ⟨S_, .f32⟩
  | 59 => ⟨S1x12x128x8x64, .f32⟩
  | 60 => ⟨S1x12x128x8x64, .f32⟩
  | 61 => ⟨S_, .f32⟩
  | 62 => ⟨S1x12x128x8x64, .f32⟩
  | 63 => ⟨S1x12x128x8x64, .f32⟩
  | 64 => ⟨S1x12x128x8x64, .f32⟩
  | 65 => ⟨S1x12x128x4x128, .f32⟩
  | 66 => ⟨S1x64x128, .f32⟩
  | 67 => ⟨S64x128, .f32⟩
  | 68 => ⟨S128x64, .f32⟩
  | 69 => ⟨S1x12x128x4x64, .f32⟩
  | 70 => ⟨S1x12x128x4x64, .f32⟩
  | 71 => ⟨S1x12x128x4x64, .f32⟩
  | 72 => ⟨S_, .f32⟩
  | 73 => ⟨S1x12x128x4x64, .f32⟩
  | 74 => ⟨S1x12x128x4x64, .f32⟩
  | 75 => ⟨S_, .f32⟩
  | 76 => ⟨S1x12x128x4x64, .f32⟩
  | 77 => ⟨S1x12x128x4x64, .f32⟩
  | 78 => ⟨S1x12x128x4x64, .f32⟩
  | 79 => ⟨S1x12x128x2x128, .f32⟩
  | 80 => ⟨S1x64x128, .f32⟩
  | 81 => ⟨S64x128, .f32⟩
  | 82 => ⟨S128x64, .f32⟩
  | 83 => ⟨S1x12x128x2x64, .f32⟩
  | 84 => ⟨S1x12x128x2x64, .f32⟩
  | 85 => ⟨S1x12x128x2x64, .f32⟩
  | 86 => ⟨S_, .f32⟩
  | 87 => ⟨S1x12x128x2x64, .f32⟩
  | 88 => ⟨S1x12x128x2x64, .f32⟩
  | 89 => ⟨S_, .f32⟩
  | 90 => ⟨S1x12x128x2x64, .f32⟩
  | 91 => ⟨S1x12x128x2x64, .f32⟩
  | 92 => ⟨S1x12x128x2x64, .f32⟩
  | 93 => ⟨S1x12x128x1x128, .f32⟩
  | 94 => ⟨S1x64x128, .f32⟩
  | 95 => ⟨S64x128, .f32⟩
  | 96 => ⟨S128x64, .f32⟩
  | 97 => ⟨S1x12x128x1x64, .f32⟩
  | 98 => ⟨S1x12x128x1x64, .f32⟩
  | 99 => ⟨S1x12x128x1x64, .f32⟩
  | 100 => ⟨S_, .f32⟩
  | 101 => ⟨S1x12x128x1x64, .f32⟩
  | 102 => ⟨S1x12x128x1x64, .f32⟩
  | 103 => ⟨S_, .f32⟩
  | 104 => ⟨S1x12x128x1x64, .f32⟩
  | 105 => ⟨S1x12x128x1x64, .f32⟩
  | 106 => ⟨S1x12x128x1x64, .f32⟩
  | 107 => ⟨S64x64, .f32⟩
  | 108 => ⟨S1x12x128x1x64, .f32⟩
  | 109 => ⟨S1x12x128x64, .f32⟩
  | 110 => ⟨S127, .i32⟩
  | 111 => ⟨S127x1, .i32⟩
  | 112 => ⟨S_, .i32⟩
  | 113 => ⟨S127x1, .i32⟩
  | 114 => ⟨S127x1, .i32⟩
  | 115 => ⟨S32, .i32⟩
  | 116 => ⟨S1x32, .i32⟩
  | 117 => ⟨S127x32, .i32⟩
  | 118 => ⟨S127x32, .i32⟩
  | 119 => ⟨S127x32, .i32⟩
  | 120 => ⟨S_, .i32⟩
  | 121 => ⟨S127x32, .i32⟩
  | 122 => ⟨S127x32, .i1⟩
  | 123 => ⟨S_, .i32⟩
  | 124 => ⟨S127x32, .i32⟩
  | 125 => ⟨S127x32, .i32⟩
  | 126 => ⟨S127x32, .i32⟩
  | 127 => ⟨S127x32x1, .i32⟩
  | _ => ⟨S36x2048x64, .f32⟩

abbrev hbmTy0_1 (i : Nat) : BufTy := match i % 128 with
  | 0 => ⟨S1x12x127x32x64, .f32⟩
  | 1 => ⟨S1x1x1x32x64, .f32⟩
  | 2 => ⟨S1x12x127x32x64, .f32⟩
  | 3 => ⟨S1x12x127x32x64, .f32⟩
  | 4 => ⟨S1x12x1x32x64, .f32⟩
  | 5 => ⟨S_, .f32⟩
  | 6 => ⟨S1x12x1x32x64, .f32⟩
  | 7 => ⟨S1x12x128x32x64, .f32⟩
  | 8 => ⟨S1x12x128x16x128, .f32⟩
  | 9 => ⟨S1x64x128, .f32⟩
  | 10 => ⟨S64x128, .f32⟩
  | 11 => ⟨S128x64, .f32⟩
  | 12 => ⟨S1x12x128x16x64, .f32⟩
  | 13 => ⟨S1x12x128x16x64, .f32⟩
  | 14 => ⟨S1x12x128x16x64, .f32⟩
  | 15 => ⟨S_, .f32⟩
  | 16 => ⟨S1x12x128x16x64, .f32⟩
  | 17 => ⟨S1x12x128x16x64, .f32⟩
  | 18 => ⟨S_, .f32⟩
  | 19 => ⟨S1x12x128x16x64, .f32⟩
  | 20 => ⟨S1x12x128x16x64, .f32⟩
  | 21 => ⟨S1x12x128x16x64, .f32⟩
  | 22 => ⟨S1x12x128x8x128, .f32⟩
  | 23 => ⟨S1x64x128, .f32⟩
  | 24 => ⟨S64x128, .f32⟩
  | 25 => ⟨S128x64, .f32⟩
  | 26 => ⟨S1x12x128x8x64, .f32⟩
  | 27 => ⟨S1x12x128x8x64, .f32⟩
  | 28 => ⟨S1x12x128x8x64, .f32⟩
  | 29 => ⟨S_, .f32⟩
  | 30 => ⟨S1x12x128x8x64, .f32⟩
  | 31 => ⟨S1x12x128x8x64, .f32⟩
  | 32 => ⟨S_, .f32⟩
  | 33 => ⟨S1x12x128x8x64, .f32⟩
  | 34 => ⟨S1x12x128x8x64, .f32⟩
  | 35 => ⟨S1x12x128x8x64, .f32⟩
  | 36 => ⟨S1x12x128x4x128, .f32⟩
  | 37 => ⟨S1x64x128, .f32⟩
  | 38 => ⟨S64x128, .f32⟩
  | 39 => ⟨S128x64, .f32⟩
  | 40 => ⟨S1x12x128x4x64, .f32⟩
  | 41 => ⟨S1x12x128x4x64, .f32⟩
  | 42 => ⟨S1x12x128x4x64, .f32⟩
  | 43 => ⟨S_, .f32⟩
  | 44 => ⟨S1x12x128x4x64, .f32⟩
  | 45 => ⟨S1x12x128x4x64, .f32⟩
  | 46 => ⟨S_, .f32⟩
  | 47 => ⟨S1x12x128x4x64, .f32⟩
  | 48 => ⟨S1x12x128x4x64, .f32⟩
  | 49 => ⟨S1x12x128x4x64, .f32⟩
  | 50 => ⟨S1x12x128x2x128, .f32⟩
  | 51 => ⟨S1x64x128, .f32⟩
  | 52 => ⟨S64x128, .f32⟩
  | 53 => ⟨S128x64, .f32⟩
  | 54 => ⟨S1x12x128x2x64, .f32⟩
  | 55 => ⟨S1x12x128x2x64, .f32⟩
  | 56 => ⟨S1x12x128x2x64, .f32⟩
  | 57 => ⟨S_, .f32⟩
  | 58 => ⟨S1x12x128x2x64, .f32⟩
  | 59 => ⟨S1x12x128x2x64, .f32⟩
  | 60 => ⟨S_, .f32⟩
  | 61 => ⟨S1x12x128x2x64, .f32⟩
  | 62 => ⟨S1x12x128x2x64, .f32⟩
  | 63 => ⟨S1x12x128x2x64, .f32⟩
  | 64 => ⟨S1x12x128x1x128, .f32⟩
  | 65 => ⟨S1x64x128, .f32⟩
  | 66 => ⟨S64x128, .f32⟩
  | 67 => ⟨S128x64, .f32⟩
  | 68 => ⟨S1x12x128x1x64, .f32⟩
  | 69 => ⟨S1x12x128x1x64, .f32⟩
  | 70 => ⟨S1x12x128x1x64, .f32⟩
  | 71 => ⟨S_, .f32⟩
  | 72 => ⟨S1x12x128x1x64, .f32⟩
  | 73 => ⟨S1x12x128x1x64, .f32⟩
  | 74 => ⟨S_, .f32⟩
  | 75 => ⟨S1x12x128x1x64, .f32⟩
  | 76 => ⟨S1x12x128x1x64, .f32⟩
  | 77 => ⟨S1x12x128x1x64, .f32⟩
  | 78 => ⟨S64x64, .f32⟩
  | 79 => ⟨S1x12x128x1x64, .f32⟩
  | 80 => ⟨S1x12x128x64, .f32⟩
  | 81 => ⟨S12x128x64, .f32⟩
  | 82 => ⟨S12x128x64, .f32⟩
  | 83 => ⟨S1x12x128x64, .f32⟩
  | 84 => ⟨S1x12x128x64, .f32⟩
  | 85 => ⟨S2x12x128x64, .f32⟩
  | _ => ⟨S36x2048x64, .f32⟩

abbrev hbmTy (i : Nat) : BufTy := match i / 128 with
  | 0 => hbmTy0_0 i
  | 1 => hbmTy0_1 i
  | _ => ⟨S36x2048x64, .f32⟩

abbrev bufTy : (tb : Table) → Fin (tcTables nBuf tb) → BufTy
  | .hbm, ⟨i, _⟩ => hbmTy i
  | _, _ => ⟨S36x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_call2_v0 : Ref sig .tc := ⟨.hbm, 70, rfl⟩
abbrev main_call2_v1 : Ref sig .tc := ⟨.hbm, 71, rfl⟩
abbrev main_call2_cst : Ref sig .tc := ⟨.hbm, 72, rfl⟩
abbrev main_call2_v2 : Ref sig .tc := ⟨.hbm, 73, rfl⟩
abbrev main_call2_v3 : Ref sig .tc := ⟨.hbm, 74, rfl⟩
abbrev main_call2_cst_0 : Ref sig .tc := ⟨.hbm, 75, rfl⟩
abbrev main_call2_v4 : Ref sig .tc := ⟨.hbm, 76, rfl⟩
abbrev main_call2_v5 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_call3_v0 : Ref sig .tc := ⟨.hbm, 84, rfl⟩
abbrev main_call3_v1 : Ref sig .tc := ⟨.hbm, 85, rfl⟩
abbrev main_call3_cst : Ref sig .tc := ⟨.hbm, 86, rfl⟩
abbrev main_call3_v2 : Ref sig .tc := ⟨.hbm, 87, rfl⟩
abbrev main_call3_v3 : Ref sig .tc := ⟨.hbm, 88, rfl⟩
abbrev main_call3_cst_0 : Ref sig .tc := ⟨.hbm, 89, rfl⟩
abbrev main_call3_v4 : Ref sig .tc := ⟨.hbm, 90, rfl⟩
abbrev main_call3_v5 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_call4_v0 : Ref sig .tc := ⟨.hbm, 98, rfl⟩
abbrev main_call4_v1 : Ref sig .tc := ⟨.hbm, 99, rfl⟩
abbrev main_call4_cst : Ref sig .tc := ⟨.hbm, 100, rfl⟩
abbrev main_call4_v2 : Ref sig .tc := ⟨.hbm, 101, rfl⟩
abbrev main_call4_v3 : Ref sig .tc := ⟨.hbm, 102, rfl⟩
abbrev main_call4_cst_0 : Ref sig .tc := ⟨.hbm, 103, rfl⟩
abbrev main_call4_v4 : Ref sig .tc := ⟨.hbm, 104, rfl⟩
abbrev main_call4_v5 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_c_2 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_c_3 : Ref sig .tc := ⟨.hbm, 120, rfl⟩
abbrev main_v68 : Ref sig .tc := ⟨.hbm, 121, rfl⟩
abbrev main_v69 : Ref sig .tc := ⟨.hbm, 122, rfl⟩
abbrev main_c_4 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_cst_5 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_call5_v0 : Ref sig .tc := ⟨.hbm, 141, rfl⟩
abbrev main_call5_v1 : Ref sig .tc := ⟨.hbm, 142, rfl⟩
abbrev main_call5_cst : Ref sig .tc := ⟨.hbm, 143, rfl⟩
abbrev main_call5_v2 : Ref sig .tc := ⟨.hbm, 144, rfl⟩
abbrev main_call5_v3 : Ref sig .tc := ⟨.hbm, 145, rfl⟩
abbrev main_call5_cst_0 : Ref sig .tc := ⟨.hbm, 146, rfl⟩
abbrev main_call5_v4 : Ref sig .tc := ⟨.hbm, 147, rfl⟩
abbrev main_call5_v5 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_call6_v0 : Ref sig .tc := ⟨.hbm, 155, rfl⟩
abbrev main_call6_v1 : Ref sig .tc := ⟨.hbm, 156, rfl⟩
abbrev main_call6_cst : Ref sig .tc := ⟨.hbm, 157, rfl⟩
abbrev main_call6_v2 : Ref sig .tc := ⟨.hbm, 158, rfl⟩
abbrev main_call6_v3 : Ref sig .tc := ⟨.hbm, 159, rfl⟩
abbrev main_call6_cst_0 : Ref sig .tc := ⟨.hbm, 160, rfl⟩
abbrev main_call6_v4 : Ref sig .tc := ⟨.hbm, 161, rfl⟩
abbrev main_call6_v5 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_call7_v0 : Ref sig .tc := ⟨.hbm, 169, rfl⟩
abbrev main_call7_v1 : Ref sig .tc := ⟨.hbm, 170, rfl⟩
abbrev main_call7_cst : Ref sig .tc := ⟨.hbm, 171, rfl⟩
abbrev main_call7_v2 : Ref sig .tc := ⟨.hbm, 172, rfl⟩
abbrev main_call7_v3 : Ref sig .tc := ⟨.hbm, 173, rfl⟩
abbrev main_call7_cst_0 : Ref sig .tc := ⟨.hbm, 174, rfl⟩
abbrev main_call7_v4 : Ref sig .tc := ⟨.hbm, 175, rfl⟩
abbrev main_call7_v5 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_call8_v0 : Ref sig .tc := ⟨.hbm, 183, rfl⟩
abbrev main_call8_v1 : Ref sig .tc := ⟨.hbm, 184, rfl⟩
abbrev main_call8_cst : Ref sig .tc := ⟨.hbm, 185, rfl⟩
abbrev main_call8_v2 : Ref sig .tc := ⟨.hbm, 186, rfl⟩
abbrev main_call8_v3 : Ref sig .tc := ⟨.hbm, 187, rfl⟩
abbrev main_call8_cst_0 : Ref sig .tc := ⟨.hbm, 188, rfl⟩
abbrev main_call8_v4 : Ref sig .tc := ⟨.hbm, 189, rfl⟩
abbrev main_call8_v5 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_call9_v0 : Ref sig .tc := ⟨.hbm, 197, rfl⟩
abbrev main_call9_v1 : Ref sig .tc := ⟨.hbm, 198, rfl⟩
abbrev main_call9_cst : Ref sig .tc := ⟨.hbm, 199, rfl⟩
abbrev main_call9_v2 : Ref sig .tc := ⟨.hbm, 200, rfl⟩
abbrev main_call9_v3 : Ref sig .tc := ⟨.hbm, 201, rfl⟩
abbrev main_call9_cst_0 : Ref sig .tc := ⟨.hbm, 202, rfl⟩
abbrev main_call9_v4 : Ref sig .tc := ⟨.hbm, 203, rfl⟩
abbrev main_call9_v5 : Ref sig .tc := ⟨.hbm, 204, rfl⟩
abbrev main_v110 : Ref sig .tc := ⟨.hbm, 205, rfl⟩
abbrev main_v111 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_v117 : Ref sig .tc := ⟨.hbm, 212, rfl⟩
abbrev main_v118 : Ref sig .tc := ⟨.hbm, 213, rfl⟩

abbrev nD : Nat := 1
abbrev τ : Topo := Topo.v7x

variable {F : FTy → Type} [FloatOps F]
-- ==== Kernel5.lean ====
abbrev S36x2048x64 : Shape := ⟨3, ![36, 2048, 64]⟩
abbrev S2x12x128x64 : Shape := ⟨4, ![2, 12, 128, 64]⟩
abbrev S12x2048x64 : Shape := ⟨3, ![12, 2048, 64]⟩
abbrev S12x2048x32 : Shape := ⟨3, ![12, 2048, 32]⟩
abbrev S1x2048x64 : Shape := ⟨3, ![1, 2048, 64]⟩
abbrev S1x1x128x64 : Shape := ⟨4, ![1, 1, 128, 64]⟩
abbrev S1x2048x32 : Shape := ⟨3, ![1, 2048, 32]⟩
abbrev S2048x64 : Shape := ⟨2, ![2048, 64]⟩
abbrev S128x64 : Shape := ⟨2, ![128, 64]⟩
abbrev S2048x128 : Shape := ⟨2, ![2048, 128]⟩
abbrev S2048x1 : Shape := ⟨2, ![2048, 1]⟩
abbrev S2048 : Shape := ⟨1, ![2048]⟩
abbrev S128x32 : Shape := ⟨2, ![128, 32]⟩
abbrev S2048x32 : Shape := ⟨2, ![2048, 32]⟩
abbrev S2048x32x1 : Shape := ⟨3, ![2048, 32, 1]⟩
abbrev S2048x1x32 : Shape := ⟨3, ![2048, 1, 32]⟩
abbrev S2048x32x32 : Shape := ⟨3, ![2048, 32, 32]⟩

abbrev nBuf : Space → Nat
  | .hbm => 4
  | .vmem => 10
  | .smem => 0
  | _ => 0

abbrev bufTy : (tb : Table) → Fin (tcTables nBuf tb) → BufTy
  | .hbm, ⟨0, _⟩ => ⟨S36x2048x64, .f32⟩
  | .hbm, ⟨1, _⟩ => ⟨S2x12x128x64, .f32⟩
  | .hbm, ⟨2, _⟩ => ⟨S12x2048x64, .f32⟩
  | .hbm, ⟨3, _⟩ => ⟨S12x2048x32, .f32⟩
  | .local _ .vmem, ⟨0, _⟩ => ⟨S1x2048x64, .f32⟩
  | .local _ .vmem, ⟨1, _⟩ => ⟨S1x2048x64, .f32⟩
  | .local _ .vmem, ⟨2, _⟩ => ⟨S1x1x128x64, .f32⟩
  | .local _ .vmem, ⟨3, _⟩ => ⟨S1x1x128x64, .f32⟩
  | .local _ .vmem, ⟨4, _⟩ => ⟨S1x1x128x64, .f32⟩
  | .local _ .vmem, ⟨5, _⟩ => ⟨S1x1x128x64, .f32⟩
  | .local _ .vmem, ⟨6, _⟩ => ⟨S1x2048x64, .f32⟩
  | .local _ .vmem, ⟨7, _⟩ => ⟨S1x2048x64, .f32⟩
  | .local _ .vmem, ⟨8, _⟩ => ⟨S1x2048x32, .f32⟩
  | .local _ .vmem, ⟨9, _⟩ => ⟨S1x2048x32, .f32⟩
  | _, _ => ⟨S36x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S36x2048x64 : Shape := ⟨3, ![36, 2048, 64]⟩
abbrev S2x12x128x64 : Shape := ⟨4, ![2, 12, 128, 64]⟩
abbrev S5 : Shape := ⟨1, ![5]⟩
abbrev S12x2048x64 : Shape := ⟨3, ![12, 2048, 64]⟩
abbrev S1x12x128x64 : Shape := ⟨4, ![1, 12, 128, 64]⟩
abbrev S12x128x64 : Shape := ⟨3, ![12, 128, 64]⟩
abbrev S_ : Shape := ⟨0, ![]⟩
abbrev S128x128 : Shape := ⟨2, ![128, 128]⟩
abbrev S1 : Shape := ⟨1, ![1]⟩
abbrev S2 : Shape := ⟨1, ![2]⟩
abbrev S32 : Shape := ⟨1, ![32]⟩
abbrev S128x16x128 : Shape := ⟨3, ![128, 16, 128]⟩
abbrev S2048x128 : Shape := ⟨2, ![2048, 128]⟩
abbrev S12x2048x128 : Shape := ⟨3, ![12, 2048, 128]⟩
abbrev S1x2048x128 : Shape := ⟨3, ![1, 2048, 128]⟩
abbrev S12x2048 : Shape := ⟨2, ![12, 2048]⟩
abbrev S12x2048x1 : Shape := ⟨3, ![12, 2048, 1]⟩
abbrev S12x2048x130 : Shape := ⟨3, ![12, 2048, 130]⟩
abbrev S32x1 : Shape := ⟨2, ![32, 1]⟩
abbrev S1x5 : Shape := ⟨2, ![1, 5]⟩
abbrev S32x5 : Shape := ⟨2, ![32, 5]⟩
abbrev S32x5x1 : Shape := ⟨3, ![32, 5, 1]⟩
abbrev S12x2048x32x5 : Shape := ⟨4, ![12, 2048, 32, 5]⟩
abbrev S1x1x1x5 : Shape := ⟨4, ![1, 1, 1, 5]⟩
abbrev S12x2048x32 : Shape := ⟨3, ![12, 2048, 32]⟩
abbrev S12x2048x16 : Shape := ⟨3, ![12, 2048, 16]⟩
abbrev S12x2048x16x1 : Shape := ⟨4, ![12, 2048, 16, 1]⟩
abbrev S1x32 : Shape := ⟨2, ![1, 32]⟩
abbrev S1x1x1x32 : Shape := ⟨4, ![1, 1, 1, 32]⟩
abbrev S12x2048x16x32 : Shape := ⟨4, ![12, 2048, 16, 32]⟩
abbrev S32x32 : Shape := ⟨2, ![32, 32]⟩
abbrev S32x64x32 : Shape := ⟨3, ![32, 64, 32]⟩
abbrev S2048x32 : Shape := ⟨2, ![2048, 32]⟩
abbrev S1x2048x32 : Shape := ⟨3, ![1, 2048, 32]⟩

abbrev nBuf : Space → Nat
  | .hbm => 113
  | .vmem => 0
  | .smem => 0
  | _ => 0

abbrev bufTy : (tb : Table) → Fin (tcTables nBuf tb) → BufTy
  | .hbm, ⟨0, _⟩ => ⟨S36x2048x64, .f32⟩
  | .hbm, ⟨1, _⟩ => ⟨S2x12x128x64, .f32⟩
  | .hbm, ⟨2, _⟩ => ⟨S5, .f32⟩
  | .hbm, ⟨3, _⟩ => ⟨S12x2048x64, .f32⟩
  | .hbm, ⟨4, _⟩ => ⟨S1x12x128x64, .f32⟩
  | .hbm, ⟨5, _⟩ => ⟨S12x128x64, .f32⟩
  | .hbm, ⟨6, _⟩ => ⟨S1x12x128x64, .f32⟩
  | .hbm, ⟨7, _⟩ => ⟨S12x128x64, .f32⟩
  | .hbm, ⟨8, _⟩ => ⟨S_, .i1⟩
  | .hbm, ⟨9, _⟩ => ⟨S128x128, .i1⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i1⟩
  | .hbm, ⟨16, _⟩ => ⟨S_, .i1⟩
  | .hbm, ⟨17, _⟩ => ⟨S128x128, .i1⟩
  | .hbm, ⟨18, _⟩ => ⟨S128x128, .i1⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S_, .i1⟩
  | .hbm, ⟨25, _⟩ => ⟨S32, .i1⟩
  | .hbm, ⟨26, _⟩ => ⟨S128x128, .i1⟩
  | .hbm, ⟨27, _⟩ => ⟨S128x16x128, .i1⟩
  | .hbm, ⟨28, _⟩ => ⟨S2048x128, .i1⟩
  | .hbm, ⟨29, _⟩ => ⟨S12x2048x128, .f32⟩
  | .hbm, ⟨30, _⟩ => ⟨S_, .f32⟩
  | .hbm, ⟨31, _⟩ => ⟨S12x2048x128, .f32⟩
  | .hbm, ⟨32, _⟩ => ⟨S12x2048x128, .f32⟩
  | .hbm, ⟨33, _⟩ => ⟨S1x2048x128, .i1⟩
  | .hbm, ⟨34, _⟩ => ⟨S_, .f32⟩
  | .hbm, ⟨35, _⟩ => ⟨S12x2048x128, .i1⟩
  | .hbm, ⟨36, _⟩ => ⟨S12x2048x128, .f32⟩
  | .hbm, ⟨37, _⟩ => ⟨S12x2048x128, .f32⟩
  | .hbm, ⟨38, _⟩ => ⟨S_, .f32⟩
  | .hbm, ⟨39, _⟩ => ⟨S12x2048, .f32⟩
  | .hbm, ⟨40, _⟩ => ⟨S12x2048x1, .f32⟩
  | .hbm, ⟨41, _⟩ => ⟨S12x2048x128, .f32⟩
  | .hbm, ⟨42, _⟩ => ⟨S12x2048x128, .f32⟩
  | .hbm, ⟨43, _⟩ => ⟨S12x2048x128, .f32⟩
  | .hbm, ⟨44, _⟩ => ⟨S_, .f32⟩
  | .hbm, ⟨45, _⟩ => ⟨S_, .f32⟩
  | .hbm, ⟨46, _⟩ => ⟨S12x2048x128, .i1⟩
  | .hbm, ⟨47, _⟩ => ⟨S12x2048x128, .f32⟩
  | .hbm, ⟨48, _⟩ => ⟨S12x2048x128, .f32⟩
  | .hbm, ⟨49, _⟩ => ⟨S_, .f32⟩
  | .hbm, ⟨50, _⟩ => ⟨S12x2048, .f32⟩
  | .hbm, ⟨51, _⟩ => ⟨S12x2048x1, .f32⟩
  | .hbm, ⟨52, _⟩ => ⟨S_, .f32⟩
  | .hbm, ⟨53, _⟩ => ⟨S12x2048x1, .f32⟩
  | .hbm, ⟨54, _⟩ => ⟨S12x2048x1, .f32⟩
  | .hbm, ⟨55, _⟩ => ⟨S12x2048x128, .f32⟩
  | .hbm, ⟨56, _⟩ => ⟨S12x2048x128, .f32⟩
  | .hbm, ⟨57, _⟩ => ⟨S12x2048x64, .f32⟩
  | .hbm, ⟨58, _⟩ => ⟨S_, .i32⟩
  | .hbm, ⟨59, _⟩ => ⟨S_, .f32⟩
  | .hbm, ⟨60, _⟩ => ⟨S12x2048x130, .f32⟩
  | .hbm, ⟨61, _⟩ => ⟨S32, .i32⟩
  | .hbm, ⟨62, _⟩ => ⟨S32x1, .i32⟩
  | .hbm, ⟨63, _⟩ => ⟨S_, .i32⟩
  | .hbm, ⟨64, _⟩ => ⟨S32x1, .i32⟩
  | .hbm, ⟨65, _⟩ => ⟨S32x1, .i32⟩
  | .hbm, ⟨66, _⟩ => ⟨S5, .i32⟩
  | .hbm, ⟨67, _⟩ => ⟨S1x5, .i32⟩
  | .hbm, ⟨68, _⟩ => ⟨S32x5, .i32⟩
  | .hbm, ⟨69, _⟩ => ⟨S32x5, .i32⟩
  | .hbm, ⟨70, _⟩ => ⟨S32x5, .i32⟩
  | .hbm, ⟨71, _⟩ => ⟨S_, .i32⟩
  | .hbm, ⟨72, _⟩ => ⟨S32x5, .i32⟩
  | .hbm, ⟨73, _⟩ => ⟨S32x5, .i1⟩
  | .hbm, ⟨74, _⟩ => ⟨S_, .i32⟩
  | .hbm, ⟨75, _⟩ => ⟨S32x5, .i32⟩
  | .hbm, ⟨76, _⟩ => ⟨S32x5, .i32⟩
  | .hbm, ⟨77, _⟩ => ⟨S32x5, .i32⟩
  | .hbm, ⟨78, _⟩ => ⟨S32x5x1, .i32⟩
  | .hbm, ⟨79, _⟩ => ⟨S12x2048x32x5, .f32⟩
  | .hbm, ⟨80, _⟩ => ⟨S1x1x1x5, .f32⟩
  | .hbm, ⟨81, _⟩ => ⟨S12x2048x32x5, .f32⟩
  | .hbm, ⟨82, _⟩ => ⟨S12x2048x32x5, .f32⟩
  | .hbm, ⟨83, _⟩ => ⟨S_, .f32⟩
  | .hbm, ⟨84, _⟩ => ⟨S12x2048x32, .f32⟩
  | .hbm, ⟨85, _⟩ => ⟨S12x2048x16, .f32⟩
  | .hbm, ⟨86, _⟩ => ⟨S12x2048x16, .i32⟩
  | .hbm, ⟨87, _⟩ => ⟨S12x2048x16x1, .i32⟩
  | .hbm, ⟨88, _⟩ => ⟨S32, .i32⟩
  | .hbm, ⟨89, _⟩ => ⟨S1x32, .i32⟩
  | .hbm, ⟨90, _⟩ => ⟨S1x1x1x32, .i32⟩
  | .hbm, ⟨91, _⟩ => ⟨S12x2048x16x32, .i32⟩
  | .hbm, ⟨92, _⟩ => ⟨S12x2048x16x32, .i32⟩
  | .hbm, ⟨93, _⟩ => ⟨S12x2048x16x32, .i1⟩
  | .hbm, ⟨94, _⟩ => ⟨S_, .i1⟩
  | .hbm, ⟨95, _⟩ => ⟨S12x2048x32, .i1⟩
  | .hbm, ⟨96, _⟩ => ⟨S_, .i1⟩
  | .hbm, ⟨97, _⟩ => ⟨S32x32, .i1⟩
  | .hbm, ⟨98, _⟩ => ⟨S32x32, .i32⟩
  | .hbm, ⟨99, _⟩ => ⟨S_, .i32⟩
  | .hbm, ⟨100, _⟩ => ⟨S32x32, .i32⟩
  | .hbm, ⟨101, _⟩ => ⟨S32x32, .i32⟩
  | .hbm, ⟨102, _⟩ => ⟨S32x32, .i32⟩
  | .hbm, ⟨103, _⟩ => ⟨S32x32, .i1⟩
  | .hbm, ⟨104, _⟩ => ⟨S_, .i1⟩
  | .hbm, ⟨105, _⟩ => ⟨S32x32, .i1⟩
  | .hbm, ⟨106, _⟩ => ⟨S32x32, .i1⟩
  | .hbm, ⟨107, _⟩ => ⟨S32x64x32, .i1⟩
  | .hbm, ⟨108, _⟩ => ⟨S2048x32, .i1⟩
  | .hbm, ⟨109, _⟩ => ⟨S1x2048x32, .i1⟩
  | .hbm, ⟨110, _⟩ => ⟨S12x2048x32, .i1⟩
  | .hbm, ⟨111, _⟩ => ⟨S12x2048x32, .i1⟩
  | .hbm, ⟨112, _⟩ => ⟨S12x2048x32, .f32⟩
  | _, _ => ⟨S36x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_cst_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_6 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_v24 : Ref sig .tc := ⟨.hbm, 48, rfl⟩
abbrev main_cst_7 : Ref sig .tc := ⟨.hbm, 49, rfl⟩
abbrev main_v25 : Ref sig .tc := ⟨.hbm, 50, rfl⟩
abbrev main_v26 : Ref sig .tc := ⟨.hbm, 51, rfl⟩
abbrev main_cst_8 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_9 : Ref sig .tc := ⟨.hbm, 58, rfl⟩
abbrev main_call3_v0 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_c_10 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_11 : Ref sig .tc := ⟨.hbm, 71, rfl⟩
abbrev main_v42 : Ref sig .tc := ⟨.hbm, 72, rfl⟩
abbrev main_v43 : Ref sig .tc := ⟨.hbm, 73, rfl⟩
abbrev main_c_12 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_13 : Ref sig .tc := ⟨.hbm, 83, rfl⟩
abbrev main_v52 : Ref sig .tc := ⟨.hbm, 84, rfl⟩
abbrev main_values : Ref sig .tc := ⟨.hbm, 85, rfl⟩
abbrev main_indices : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_c_14 : Ref sig .tc := ⟨.hbm, 94, rfl⟩
abbrev main_v60 : Ref sig .tc := ⟨.hbm, 95, rfl⟩
abbrev main_c_15 : Ref sig .tc := ⟨.hbm, 96, rfl⟩
abbrev main_v61 : Ref sig .tc := ⟨.hbm, 97, rfl⟩
abbrev main_call4_v0 : Ref sig .tc := ⟨.hbm, 98, rfl⟩
abbrev main_call4_c : Ref sig .tc := ⟨.hbm, 99, rfl⟩
abbrev main_call4_v1 : Ref sig .tc := ⟨.hbm, 100, rfl⟩
abbrev main_call4_v2 : Ref sig .tc := ⟨.hbm, 101, rfl⟩
abbrev main_call4_v3 : Ref sig .tc := ⟨.hbm, 102, rfl⟩
abbrev main_call4_v4 : Ref sig .tc := ⟨.hbm, 103, rfl⟩
abbrev main_call4_c_0 : Ref sig .tc := ⟨.hbm, 104, rfl⟩
abbrev main_call4_v5 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩

abbrev nD : Nat := 1
abbrev τ : Topo := Topo.v7x

variable {F : FTy → Type} [FloatOps F]
-- ==== Proof.Body.lean ====
/- What one call of the attention kernel's body computes, from the six blocks it reads: the running state of the tile
   loops (maximum, selected sum, selected weighted values), the tile taken only from the third grid row on, the diagonal
   tile, and the gated result. Stated for any values, and shown to be what the body leaves in its output block. -/
module

public import proofs.«01_k».proof.Proof.Gen.KernelIdeal.Loops
public import proofs.«01_k».proof.Proof.Gen.KernelIdeal.Frame
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The running state of a branch of the online softmax: row maximum, row sum, weighted values. -/
abbrev St (F : FTy → Type) [FloatOps F] := FVec F S256x1 .f32 × FVec F S256x1 .f32 × FVec F S256x64 .f32

/-- One unmasked tile of 512 keys and values: the state after it. `w` is the tile's number. -/
def tstep (q : FVec F S256x64 .f32) (sel : FVec F S256x32 .f32) (w : BitVec 32) (kT vT : Vec F S1x512x64 .f32) (acc : St F) : St F :=
  (k0_pay4 q acc.1 kT,
   k0_pay31 sel acc.2.1 w (k0_pay5 q acc.1 kT) (k0_pay6 q acc.1 kT) k0_pay7 k0_pay8 1#32,
   k0_pay32 sel acc.2.2 w (k0_pay2 vT) (k0_pay5 q acc.1 kT) (k0_pay6 q acc.1 kT) k0_pay7 k0_pay8 1#32)

/-- The state after the first `n` of `N` steps `f`. -/
def loopSt {N : ℕ} (f : Fin N → St F → St F) (init : St F) : ℕ → St F
  | 0 => init
  | n + 1 => if h : n < N then f ⟨n, h⟩ (loopSt f init n) else loopSt f init n

/-- The number of 512-wide tiles up to the diagonal one, as the body computes it. -/
def ntW (i : grid0.Coords) : BitVec 32 :=
  let a : BitVec 32 := BitVec.ofNat 32 (i 1).val
  Scalar.addi (Scalar.select (Scalar.andi (Scalar.cmpi .ne
      (Scalar.subi (Scalar.extui (Scalar.cmpi .sgt a 0#32)) (Scalar.extui (Scalar.cmpi .slt a 0#32)))
      (Scalar.subi (Scalar.extui (Scalar.cmpi .sgt 2#32 0#32)) (Scalar.extui (Scalar.cmpi .slt 2#32 0#32))))
      (Scalar.cmpi .ne (Scalar.remsi a 2#32) 0#32)) (Scalar.subi (Scalar.divsi a 2#32) 1#32) (Scalar.divsi a 2#32)) 1#32

/-- Where the tile loop's leftover part starts, as the body computes it. -/
def restW (i : grid0.Coords) : BitVec 32 :=
  Scalar.addi 0#32 (Scalar.muli (Scalar.divsi (Scalar.subi (Scalar.subi (ntW i) 2#32) 0#32) 1#32) 1#32)

/-- The state before any tile. -/
def st0 : St F := (k0_pay27, k0_pay28, k0_pay29)

/-- A step of the tile loop. -/
def step1 (i : grid0.Coords) (q : FVec F S256x64 .f32) (sel : FVec F S256x32 .f32) (K V : Vec F S1x2048x64 .f32)
    (k : Fin (k0_t1_loop i).trips) : St F → St F :=
  tstep q sel (Scf.iv 0#32 1#32 k) (View.ld K (Rect.unit (s := S1x2048x64) (k0_off1 i k) S1x512x64.size (k0_off1_inb i k)))
    (View.ld V (Rect.unit (s := S1x2048x64) (k0_off1 i k) S1x512x64.size (k0_off1_inb i k)))

/-- A step of the tile loop's leftover part. -/
def step2 (i : grid0.Coords) (q : FVec F S256x64 .f32) (sel : FVec F S256x32 .f32) (K V : Vec F S1x2048x64 .f32)
    (k : Fin (k0_t2_loop i).trips) : St F → St F :=
  tstep q sel (Scf.iv (restW i) 1#32 k) (View.ld K (Rect.unit (s := S1x2048x64) (k0_off2 i k) S1x512x64.size (k0_off2_inb i k)))
    (View.ld V (Rect.unit (s := S1x2048x64) (k0_off2 i k) S1x512x64.size (k0_off2_inb i k)))

/-- The state after the tile loop. -/
def loops (i : grid0.Coords) (q : FVec F S256x64 .f32) (sel : FVec F S256x32 .f32) (K V : Vec F S1x2048x64 .f32) : St F :=
  loopSt (step2 i q sel K V) (loopSt (step1 i q sel K V) st0 (k0_t1_loop i).trips) (k0_t2_loop i).trips

/-- The window branch's state after the tile before the diagonal one, from the scores' weights there. -/
def wstep (i : grid0.Coords) (q : FVec F S256x64 .f32) (kT vT : Vec F S1x512x64 .f32) (mx : FVec F S256x1 .f32) : St F :=
  (k0_pay4 q mx kT,
   k0_pay41 (k0_pay26 i) k0_pay27 k0_pay28 (k0_pay18 (ntW i)) (k0_pay4 q mx kT) (k0_pay6 q mx kT),
   k0_pay42 (k0_pay26 i) k0_pay27 k0_pay29 (k0_pay2 vT) (k0_pay18 (ntW i)) (k0_pay4 q mx kT) (k0_pay6 q mx kT))

/-- The two branches' states before the diagonal tile: the conditional tile's, where there is one. -/
def mid (i : grid0.Coords) (q : FVec F S256x64 .f32) (sel : FVec F S256x32 .f32) (K V : Vec F S1x2048x64 .f32) : St F × St F :=
  if h : k0_cond1 i = 1#1 then
    (tstep q sel (Scalar.subi (ntW i) 2#32) (View.ld K (Rect.unit (s := S1x2048x64) (k0_off3 i) S1x512x64.size (k0_off3_inb i h)))
        (View.ld V (Rect.unit (s := S1x2048x64) (k0_off3 i) S1x512x64.size (k0_off3_inb i h))) (loops i q sel K V),
     wstep i q (View.ld K (Rect.unit (s := S1x2048x64) (k0_off3 i) S1x512x64.size (k0_off3_inb i h)))
        (View.ld V (Rect.unit (s := S1x2048x64) (k0_off3 i) S1x512x64.size (k0_off3_inb i h))) (loops i q sel K V).1)
  else (loops i q sel K V, st0)

/-- The diagonal tile and the gated combination, from the two branches' states before it. -/
def fin (i : grid0.Coords) (q : FVec F S256x64 .f32) (sel : FVec F S256x32 .f32) (kT vT : Vec F S1x512x64 .f32)
    (oc : Vec F S1x256x64 .f32) (g : Vec F S1x256x3 .f32) (s : St F × St F) : FVec F S1x256x64 .f32 :=
  k0_pay1
    (k0_pay52 sel s.1.2.2 (Scalar.subi (ntW i) 1#32) (k0_pay43 vT) (k0_pay47 q (k0_pay26 i) (ntW i) s.1.1 kT)
      (k0_pay48 q (k0_pay26 i) (ntW i) s.1.1 kT) (iota .tc S32x512 32 [1] iota_S32x512_d1_w32) 64#32 k0_pay49 k0_pay50 0#32)
    (k0_pay54 s.2.1 s.2.2.1 (k0_pay46 q (k0_pay26 i) (ntW i) s.1.1 kT) (k0_pay48 q (k0_pay26 i) (ntW i) s.1.1 kT))
    (k0_pay55 s.2.1 s.2.2.2 (k0_pay43 vT) (k0_pay46 q (k0_pay26 i) (ntW i) s.1.1 kT) (k0_pay48 q (k0_pay26 i) (ntW i) s.1.1 kT))
    (k0_pay56 sel s.1.2.1 (Scalar.subi (ntW i) 1#32) (k0_pay47 q (k0_pay26 i) (ntW i) s.1.1 kT)
      (k0_pay48 q (k0_pay26 i) (ntW i) s.1.1 kT) (iota .tc S32x512 32 [1] iota_S32x512_d1_w32) 64#32 k0_pay49 k0_pay50 0#32)
    g oc

/-- A whole query, compression or output block, -/
abbrev rO : Rect S1x256x64 := Rect.unit (s := S1x256x64) ![0, 0, 0] S1x256x64.size inb_S1x256x64_S1x256x64_0_0_0
/-- a whole selection block, -/
abbrev rS : Rect S1x256x32 := Rect.unit (s := S1x256x32) ![0, 0, 0] S1x256x32.size inb_S1x256x32_S1x256x32_0_0_0
/-- a whole block of gates. -/
abbrev rG : Rect S1x256x3 := Rect.unit (s := S1x256x3) ![0, 0, 0] S1x256x3.size inb_S1x256x3_S1x256x3_0_0_0

/-- The body's output block from its six input blocks. -/
def outF (i : grid0.Coords) (x0 : Vec F S1x256x64 .f32) (x1 x2 : Vec F S1x2048x64 .f32) (x3 : Vec F S1x256x32 .f32)
    (x4 : Vec F S1x256x64 .f32) (x5 : Vec F S1x256x3 .f32) : FVec F S1x256x64 .f32 :=
  fin i (k0_pay24 (View.ld x0 rO)) (k0_pay25 (View.ld x3 rS)) (View.ld x1 (Rect.unit (s := S1x2048x64) (k0_off4 i) S1x512x64.size (k0_off4_inb i)))
    (View.ld x2 (Rect.unit (s := S1x2048x64) (k0_off4 i) S1x512x64.size (k0_off4_inb i)))
    (View.ld x4 rO) (View.ld x5 rG)
    (mid i (k0_pay24 (View.ld x0 rO)) (k0_pay25 (View.ld x3 rS)) x1 x2)

/-- The tile loop's state as the run has it is the loop of `step1`. -/
theorem st1_eq (𝒱 : Variants) (c : Dev nD) (bd : Option 𝒱.V) (i : grid0.Coords) (arg2 : Memref sig .tc .vmem S1x256x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x256x32 .f32) (harg5 : arg5.IsWhole) (arg6 : Memref sig .tc .vmem S1x256x64 .f32) (harg6 : arg6.IsWhole) (arg7 : Memref sig .tc .vmem S1x256x3 .f32) (harg7 : arg7.IsWhole) (arg8 : Memref sig .tc .vmem S1x256x64 .f32) (harg8 : arg8.IsWhole)
    (v3 : FVec F S256x64 .f32) (v5 : FVec F S256x32 .f32) (v9 : IVec S256x1 32) (v27 : BitVec 32) (v28 v29 : FVec F S256x1 .f32) (v30 : FVec F S256x64 .f32) (v35 : BitVec 32)
    (X3 : BufTy.Contents (Elt F) arg3.view.ty) (X4 : BufTy.Contents (Elt F) arg4.view.ty) (init : St F) (n : ℕ) :
    st_k0_t1 (F := F) 𝒱 c bd i arg2 harg2 arg3 harg3 arg4 harg4 arg5 harg5 arg6 harg6 arg7 harg7 arg8 harg8 v3 v5 v9 v27 v28 v29 v30 0#32 v35 X3 X4 init n
      = loopSt (step1 i v3 v5 (arg3.view.read (Elt F) X3) (arg4.view.read (Elt F) X4)) init n := by
  induction n with
  | zero => rfl
  | succ n ih =>
    rw [st_k0_t1.eq_2, ih, loopSt]
    generalize loopSt (F := F) _ _ n = acc
    unfold st_k0_t1Step tripR_k0_t1 trip_k0_t1
    rfl

/-- The leftover part's state as the run has it is the loop of `step2`. -/
theorem st2_eq (𝒱 : Variants) (c : Dev nD) (bd : Option 𝒱.V) (i : grid0.Coords) (arg2 : Memref sig .tc .vmem S1x256x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x256x32 .f32) (harg5 : arg5.IsWhole) (arg6 : Memref sig .tc .vmem S1x256x64 .f32) (harg6 : arg6.IsWhole) (arg7 : Memref sig .tc .vmem S1x256x3 .f32) (harg7 : arg7.IsWhole) (arg8 : Memref sig .tc .vmem S1x256x64 .f32) (harg8 : arg8.IsWhole)
    (v3 : FVec F S256x64 .f32) (v5 : FVec F S256x32 .f32) (v9 : IVec S256x1 32) (v27 : BitVec 32) (v28 v29 : FVec F S256x1 .f32) (v30 : FVec F S256x64 .f32) (v35 : BitVec 32)
    (X3 : BufTy.Contents (Elt F) arg3.view.ty) (X4 : BufTy.Contents (Elt F) arg4.view.ty) (init : St F) (n : ℕ) :
    st_k0_t2 (F := F) 𝒱 c bd i arg2 harg2 arg3 harg3 arg4 harg4 arg5 harg5 arg6 harg6 arg7 harg7 arg8 harg8 v3 v5 v9 v27 v28 v29 v30 0#32 v35 (restW i) X3 X4 init n
      = loopSt (step2 i v3 v5 (arg3.view.read (Elt F) X3) (arg4.view.read (Elt F) X4)) init n := by
  induction n with
  | zero => rfl
  | succ n ih =>
    rw [st_k0_t2.eq_2, ih, loopSt]
    generalize loopSt (F := F) _ _ n = acc
    unfold st_k0_t2Step tripR_k0_t2 trip_k0_t2
    rfl

/-- The body's one store fills the output block. -/
theorem cover_out (p0 : Vec F S1x256x64 .f32) (y : S1x256x64.Idx) :
    ∃ pc ∈ ([⟨Rect.unit (s := S1x256x64) ![0, 0, 0] S1x256x64.size inb_S1x256x64_S1x256x64_0_0_0, p0⟩] : List (View.Piece (Elt F) S1x256x64 .f32)), y ∈ pc.1.set :=
  View.cover_of_tiled [⟨Rect.unit (s := S1x256x64) ![0, 0, 0] S1x256x64.size inb_S1x256x64_S1x256x64_0_0_0, p0⟩] S1x256x64.size (by rfl) y

theorem hz3 : (![0, 0, 0] : Fin 3 → Nat) = fun _ => 0 := funext fun a => by fin_cases a <;> rfl

set_option maxHeartbeats 4000000 in
/-- The body on whole staging buffers holding the six input blocks runs, leaves them as they were, and leaves its output
    buffer at `outF` of them. -/
theorem sound_kernel (c : Dev nD) (E : Set ℕ) (i : grid0.Coords) (arg2 : Memref sig .tc .vmem S1x256x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x256x32 .f32) (harg5 : arg5.IsWhole) (arg6 : Memref sig .tc .vmem S1x256x64 .f32) (harg6 : arg6.IsWhole) (arg7 : Memref sig .tc .vmem S1x256x3 .f32) (harg7 : arg7.IsWhole) (arg8 : Memref sig .tc .vmem S1x256x64 .f32) (harg8 : arg8.IsWhole)
    (x0 : Vec F S1x256x64 .f32) (x1 x2 : Vec F S1x2048x64 .f32) (x3 : Vec F S1x256x32 .f32) (x4 : Vec F S1x256x64 .f32) (x5 : Vec F S1x256x3 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5 ∗ owns (c : Thread nD τ) arg8 fullShare (outF i x0 x1 x2 x3 x4 x5)) -∗ K ⟨⟩))
      ⊢ wp frame (wpE (defs₀ (F := F)) Variants.none c none) E (cc0__flash_body i arg2 harg2 arg3 harg3 arg4 harg4 arg5 harg5 arg6 harg6 arg7 harg7 arg8 harg8) K := by
  simp only [cc0__flash_body_eq_skeleton]; unfold cc0__flash_body_skel
  simp only [k0_part1_eq_skeleton, k0_part2_eq_skeleton, k0_part3_eq_skeleton, k0_part4_eq_skeleton, k0_part5_eq_skeleton, k0_part6_eq_skeleton]
  unfold owns
  by_cases hc : k0_cond1 i = 1#1
  all_goals
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    subst hf0 hf1 hf2 hf3 hf4 hf5
    sl_exec (disch := sl_exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists _; isplitr
    swap; · iexact H6
    ipureintro
    refine (View.read_writes_eq_canon _ _ _ (cover_out _)).trans ?_
    refine (View.canon_unit_zero (S := S1x256x64) hz3 _ _).trans ?_
    unfold outF mid loops
    simp only [hc, ↓reduceDIte]
    rw [← st1_eq Variants.none c none i arg2 harg2 arg3 harg3 arg4 harg4 arg5 harg5 arg6 harg6 arg7 harg7 arg8 harg8 (k0_pay24 (View.ld (arg2.view.read (Elt F) f0) rO)) (k0_pay25 (View.ld (arg5.view.read (Elt F) f3) rS)) (k0_pay26 i) (ntW i) k0_pay27 k0_pay28 k0_pay29 (Scalar.muli (Scalar.divsi (Scalar.subi (Scalar.subi (ntW i) 2#32) 0#32) 1#32) 1#32) f1 f2,
      ← st2_eq Variants.none c none i arg2 harg2 arg3 harg3 arg4 harg4 arg5 harg5 arg6 harg6 arg7 harg7 arg8 harg8 (k0_pay24 (View.ld (arg2.view.read (Elt F) f0) rO)) (k0_pay25 (View.ld (arg5.view.read (Elt F) f3) rS)) (k0_pay26 i) (ntW i) k0_pay27 k0_pay28 k0_pay29 (Scalar.muli (Scalar.divsi (Scalar.subi (Scalar.subi (ntW i) 2#32) 0#32) 1#32) 1#32) f1 f2]
    rfl

end Cert.KernelIdeal.Hand

end
-- ==== Proof.Run.lean ====
/- The attention call as launched: what each of its ninety-six grid points leaves in its output block, every execution's
   final memory, and the frame. Stated for any values. -/
module

public import proofs.«01_k».proof.Proof.Body
public import proofs.«01_k».proof.Proof.Gen.KernelIdeal.Points

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- The output block of grid point `t`, from the point's six input blocks. -/
def outAt (c : Dev nD) (t : Fin cfg0.N) : Vec F S1x256x64 .f32 :=
  outF (grid0.coords t) (iblk m c 0 t) (iblk m c 1 t) (iblk m c 2 t) (iblk m c 3 t) (iblk m c 4 t) (iblk m c 5 t)

/-- The pipeline's data on core `c`: inputs stay at their blocks, the output block ends at `outAt`. -/
def flashDat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q w := Pipeline.shareOf spec0 w
  owed _ := 0

theorem dat_A (c : Dev nD) (w : Fin cfg0.W) : (flashDat m 0 c).A w = V m c (Pipeline.arrRef spec0 w) := by
  dsimp only [flashDat]

theorem after_q (c : Dev nD) (t : Fin cfg0.N) : (flashDat m 0 c).after 0 t = iblk m c 0 t := by dsimp only [flashDat]
theorem after_k (c : Dev nD) (t : Fin cfg0.N) : (flashDat m 0 c).after 1 t = iblk m c 1 t := by dsimp only [flashDat]
theorem after_v (c : Dev nD) (t : Fin cfg0.N) : (flashDat m 0 c).after 2 t = iblk m c 2 t := by dsimp only [flashDat]
theorem after_sel (c : Dev nD) (t : Fin cfg0.N) : (flashDat m 0 c).after 3 t = iblk m c 3 t := by dsimp only [flashDat]
theorem after_ocmp (c : Dev nD) (t : Fin cfg0.N) : (flashDat m 0 c).after 4 t = iblk m c 4 t := by dsimp only [flashDat]
theorem after_gate (c : Dev nD) (t : Fin cfg0.N) : (flashDat m 0 c).after 5 t = iblk m c 5 t := by dsimp only [flashDat]
theorem after_out (c : Dev nD) (t : Fin cfg0.N) : (flashDat m 0 c).after 6 t = outAt m c t := by dsimp only [flashDat]

/-- One grid point's body, from staging buffers holding the point's blocks, leaves them and writes `outAt`. -/
theorem point_sound (c : Dev nD) (t : Fin cfg0.N) :
    iprop((flashDat m 0 c).Φ t.castSucc ∗ (flashDat m 0 c).owesAt () t.castSucc
        ∗ (∃ d, owns (c : Thread nD τ) (st0_0 t) fullShare ((flashDat m 0 c).before 0 t d))
        ∗ (∃ d, owns (c : Thread nD τ) (st0_1 t) fullShare ((flashDat m 0 c).before 1 t d))
        ∗ (∃ d, owns (c : Thread nD τ) (st0_2 t) fullShare ((flashDat m 0 c).before 2 t d))
        ∗ (∃ d, owns (c : Thread nD τ) (st0_3 t) fullShare ((flashDat m 0 c).before 3 t d))
        ∗ (∃ d, owns (c : Thread nD τ) (st0_4 t) fullShare ((flashDat m 0 c).before 4 t d))
        ∗ (∃ d, owns (c : Thread nD τ) (st0_5 t) fullShare ((flashDat m 0 c).before 5 t d))
        ∗ (∃ d, owns (c : Thread nD τ) (st0_6 t) fullShare ((flashDat m 0 c).before 6 t d)))
      ⊢ (wp frame (wpE (defs₀ (F := F)) Variants.none c none) Set.univ (bodyAt0 t) (fun _ =>
        iprop((flashDat m 0 c).Φ t.succ ∗ (flashDat m 0 c).owesAt () t.succ
        ∗ owns (c : Thread nD τ) (st0_0 t) fullShare ((flashDat m 0 c).after 0 t)
        ∗ owns (c : Thread nD τ) (st0_1 t) fullShare ((flashDat m 0 c).after 1 t)
        ∗ owns (c : Thread nD τ) (st0_2 t) fullShare ((flashDat m 0 c).after 2 t)
        ∗ owns (c : Thread nD τ) (st0_3 t) fullShare ((flashDat m 0 c).after 3 t)
        ∗ owns (c : Thread nD τ) (st0_4 t) fullShare ((flashDat m 0 c).after 4 t)
        ∗ owns (c : Thread nD τ) (st0_5 t) fullShare ((flashDat m 0 c).after 5 t)
        ∗ owns (c : Thread nD τ) (st0_6 t) fullShare ((flashDat m 0 c).after 6 t))) : sProp 𝕄) := by
  have b0 := fun d => before0_0_of m (flashDat m 0 c) (dat_A m c 0) (after_q m c) t d
  have b1 := fun d => before0_1_of m (flashDat m 0 c) (dat_A m c 1) (after_k m c) t d
  have b2 := fun d => before0_2_of m (flashDat m 0 c) (dat_A m c 2) (after_v m c) t d
  have b3 := fun d => before0_3_of m (flashDat m 0 c) (dat_A m c 3) (after_sel m c) t d
  have b4 := fun d => before0_4_of m (flashDat m 0 c) (dat_A m c 4) (after_ocmp m c) t d
  have b5 := fun d => before0_5_of m (flashDat m 0 c) (dat_A m c 5) (after_gate m c) t d
  unfold bodyAt0
  simp only [b0, b1, b2, b3, b4, b5]
  rw [show (flashDat m 0 c).Φ t.succ = (flashDat m 0 c).Φ t.castSucc from rfl,
    show (flashDat m 0 c).owesAt () t.succ = (flashDat m 0 c).owesAt () t.castSucc from rfl,
    after_q, after_k, after_v, after_sel, after_ocmp, after_gate, after_out, outAt]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on its body, at every grid point. -/
theorem obligation (c : Dev nD) : BodyObligation (flashDat (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (point_sound m c t) rfl .rfl fun _ => .rfl

set_option backward.isDefEq.respectTransparency.types false in
set_option maxHeartbeats 800000 in
/-- Every execution of the call ends, with its arrays as the grid points' blocks leave them and every counter at zero. -/
theorem run_quiet : θ_run defs (onTc (τ := τ) (main (F := F))) (s₀ m ρ)
    (fun r => Pipeline.FramePost cfgs (flashDat m) 0 (V m) r ∧ r.2.sem = fun _ => 0) :=
  Pipeline.θ_run_frame_shared (Q' := _) cfgs (flashDat m) (0 : Fin 1) launch₀0 defs₀ Variants.none m ρ main
    (hbody := fun c => (obligation m c).loose) (hq := fun _ _ _ => rfl)
    (howed := fun _ _ => rfl) (V := V m) (hmain := hmain m Variants.none) (hA := dat_A m) (hΦ := fun _ _ => rfl)

/-- The final memory alone. -/
theorem run_mem : θ_run defs (onTc (τ := τ) (main (F := F))) (s₀ m ρ) (Pipeline.FramePost cfgs (flashDat m) 0 (V m)) :=
  (θ_run defs _ _).mono (fun _ h => h.1) (run_quiet m ρ)

/-- The frame: every execution ends with the four argument arrays unchanged and every counter at zero. -/
theorem flash_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨((h.1 c).1 2).trans (((flashDat m 0 c).arrAt_in 2 rfl _).trans ((dat_A m c 2).trans (V_main_arg0 m c))),
        ((h.1 c).1 3).trans (((flashDat m 0 c).arrAt_in 3 rfl _).trans ((dat_A m c 3).trans (V_main_arg1 m c))),
        ((h.1 c).1 4).trans (((flashDat m 0 c).arrAt_in 4 rfl _).trans ((dat_A m c 4).trans (V_main_arg2 m c))),
        ((h.1 c).1 5).trans (((flashDat m 0 c).arrAt_in 5 rfl _).trans ((dat_A m c 5).trans (V_main_arg3 m c)))⟩, h.2⟩)
    (run_quiet m ρ)

end Cert.KernelIdeal.Hand

end
-- ==== Proof.Math.lean ====
/- One row of a masked softmax, written as sums over its columns: the running maximum, sum and weighted values of the
   online form, and the weighted average both forms end at. Nothing here mentions a program. -/
module

public import Idealize.ShloMosaic.Lib.Pointwise

@[expose] public section

noncomputable section

namespace Cert.Attn

open Idealize.ShloMosaic

/-! ## The constants -/

/-- One eighth. -/
theorem ofBits_scale : Ideal.ofBits .f32 0x3E000000#32 = ((1 / 8 : ℝ) : EReal) := by
  simp [Ideal.ofBits, Ideal.ieee, -EReal.coe_mul]; norm_num

/-- One half. -/
theorem ofBits_half : Ideal.ofBits .f32 0x3F000000#32 = ((1 / 2 : ℝ) : EReal) := by
  simp [Ideal.ofBits, Ideal.ieee, -EReal.coe_mul]; norm_num

/-- Thirty-two. -/
theorem ofBits_bound : Ideal.ofBits .f32 0x42000000#32 = ((32 : ℝ) : EReal) := by
  simp [Ideal.ofBits, Ideal.ieee, -EReal.coe_mul]; norm_num

/-- One. -/
theorem ofBits_one : Ideal.ofBits .f32 0x3F800000#32 = ((1 : ℝ) : EReal) := by
  simp [Ideal.ofBits, Ideal.ieee, -EReal.coe_mul]; norm_num

/-- The negative infinity. -/
theorem ofBits_ninf : Ideal.ofBits .f32 0xFF800000#32 = ⊥ := by
  simp [Ideal.ofBits, Ideal.ieee]

/-- The masked scores' value is a real number, far below zero. -/
theorem ofBits_low : ∃ r : ℝ, Ideal.ofBits .f32 0xFF7FFFFF#32 = (r : EReal) ∧ r ≤ 32 := by
  refine ⟨_, by simp [Ideal.ofBits, Ideal.ieee, -EReal.coe_mul]; rfl, ?_⟩
  norm_num

/-- The least denominator is a positive real number, below `exp (-64)`. -/
theorem ofBits_eps : ∃ r : ℝ, Ideal.ofBits .f32 0x0DA24260#32 = (r : EReal) ∧ 0 < r ∧ r ≤ Real.exp (-64) := by
  refine ⟨_, by simp [Ideal.ofBits, Ideal.ieee, -EReal.coe_mul]; rfl, by norm_num, ?_⟩
  have h1 : Real.exp 64 ≤ (2.911 : ℝ) ^ 64 := by
    have h8 : Real.exp (1 / 8) ≤ 8 / 7 := by
      have h := Real.add_one_le_exp (-(1 / 8) : ℝ)
      rw [Real.exp_neg] at h
      have h' := inv_anti₀ (by norm_num : (0 : ℝ) < -(1 / 8) + 1) h
      rw [inv_inv] at h'
      exact h'.trans (by norm_num)
    have h1 : Real.exp 1 ≤ 2.911 := by
      rw [show (1 : ℝ) = ((8 : ℕ) : ℝ) * (1 / 8) by norm_num, Real.exp_nat_mul]
      exact (pow_le_pow_left₀ (Real.exp_pos _).le h8 8).trans (by norm_num)
    rw [show (64 : ℝ) = ((64 : ℕ) : ℝ) * 1 by norm_num, Real.exp_nat_mul]
    exact pow_le_pow_left₀ (Real.exp_pos _).le h1 64
  rw [Real.exp_neg]
  refine le_trans ?_ (inv_anti₀ (Real.exp_pos 64) h1)
  norm_num

/-! ## Sums of extended reals -/

/-- A nonnegative real factor goes into a sum. -/
theorem sum_mul_real {ι : Type} (S : Finset ι) (f : ι → EReal) {c : ℝ} (hc : 0 ≤ c) :
    (∑ k ∈ S, f k) * (c : EReal) = ∑ k ∈ S, f k * (c : EReal) := by
  classical
  induction S using Finset.induction_on with
  | empty => simp
  | insert a S ha ih =>
    rw [Finset.sum_insert ha, Finset.sum_insert ha,
      EReal.right_distrib_of_nonneg_of_ne_top (by exact_mod_cast hc) (EReal.coe_ne_top c), ih]

/-- A sum of real numbers is a real number. -/
theorem coe_sum {ι : Type} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- The exponential of a difference of two real numbers. -/
theorem exp_sub (x y : ℝ) : Ideal.exp ((x : EReal) - (y : EReal)) = ((Real.exp (x - y) : ℝ) : EReal) := by
  rw [← EReal.coe_sub]; rfl

/-- A quotient by a positive real number. -/
theorem div_real (x : EReal) {c : ℝ} (hc : 0 < c) : Ideal.div x (c : EReal) = x * ((c⁻¹ : ℝ) : EReal) := by
  unfold Ideal.div
  rw [if_neg (by exact_mod_cast hc.ne'), EReal.coe_inv]

/-- The largest of finitely many real numbers, none above `B`, is one such. -/
theorem fold_max_real {n : ℕ} (hn : 0 < n) {f : Fin n → EReal} {B : ℝ} (hf : ∀ k, ∃ r : ℝ, f k = (r : EReal) ∧ r ≤ B) :
    ∃ M : ℝ, Finset.univ.fold max (⊥ : EReal) f = (M : EReal) ∧ M ≤ B := by
  have hle : Finset.univ.fold max (⊥ : EReal) f ≤ (B : EReal) := by
    refine Finset.fold_max_le _ |>.2 ⟨bot_le, fun k _ => ?_⟩
    obtain ⟨r, hr, hb⟩ := hf k
    rw [hr]; exact_mod_cast hb
  obtain ⟨r, hr, -⟩ := hf ⟨0, hn⟩
  have hge : (r : EReal) ≤ Finset.univ.fold max (⊥ : EReal) f :=
    Finset.le_fold_max _ |>.2 (.inr ⟨⟨0, hn⟩, Finset.mem_univ _, hr.ge⟩)
  generalize Finset.univ.fold max (⊥ : EReal) f = x at hle hge
  induction x using EReal.rec with
  | bot => exact absurd (le_bot_iff.1 hge) (EReal.coe_ne_bot r)
  | top => exact absurd (top_le_iff.1 hle) (EReal.coe_ne_top B)
  | coe x => exact ⟨x, rfl, by exact_mod_cast hle⟩

/-- The larger of a real number and the largest of finitely many. -/
theorem max_fold_real {n : ℕ} (hn : 0 < n) {f : Fin n → EReal} {M B : ℝ} (hM : M ≤ B)
    (hf : ∀ k, ∃ r : ℝ, f k = (r : EReal) ∧ r ≤ B) :
    ∃ M' : ℝ, max (M : EReal) (Finset.univ.fold max (⊥ : EReal) f) = (M' : EReal) ∧ M' ≤ B := by
  obtain ⟨x, hx, hb⟩ := fold_max_real hn hf
  exact ⟨max M x, by rw [hx]; exact (EReal.coe_strictMono.monotone.map_max).symm, max_le hM hb⟩

/-! ## A row's running state -/

variable (s w : ℕ → ℝ)

/-- Column `k`'s weight relative to `M`: the exponential of its score, where the column is taken (`w k = 1`). -/
def wt (M : ℝ) (k : ℕ) : ℝ := Real.exp (s k - M) * w k

/-- The sum of the first `C` weights. -/
def rowSum (M : ℝ) (C : ℕ) : ℝ := ∑ k ∈ Finset.range C, wt s w M k

/-- The weighted sum of the first `C` values. -/
def rowAcc (v : ℕ → EReal) (M : ℝ) (C : ℕ) : EReal := ∑ k ∈ Finset.range C, ((wt s w M k : ℝ) : EReal) * v k

/-- The weighted average of the first `N` values. -/
def attn (v : ℕ → EReal) (N : ℕ) : EReal :=
  ∑ k ∈ Finset.range N, ((Real.exp (s k) * w k / ∑ j ∈ Finset.range N, Real.exp (s j) * w j : ℝ) : EReal) * v k

/-- A row's running state after the first `C` columns: some real maximum `M`, at most 32, with the sum of the weights and the
    weighted sums of the values relative to it. -/
def Inv (v : Fin 64 → ℕ → EReal) (C : ℕ) (m l : EReal) (a : Fin 64 → EReal) : Prop :=
  ∃ M : ℝ, M ≤ 32 ∧ m = (M : EReal) ∧ l = (rowSum s w M C : EReal) ∧ ∀ d, a d = rowAcc s w (v d) M C

variable {s w} {v : Fin 64 → ℕ → EReal} {C N : ℕ} {m l : EReal} {a : Fin 64 → EReal}

/-- Changing the maximum multiplies every weight by the same factor. -/
theorem wt_rescale (M M' : ℝ) (k : ℕ) : wt s w M k * Real.exp (M - M') = wt s w M' k := by
  unfold wt
  rw [mul_right_comm, ← Real.exp_add]; congr 2; ring

theorem rowSum_rescale (M M' : ℝ) (C : ℕ) : rowSum s w M C * Real.exp (M - M') = rowSum s w M' C := by
  unfold rowSum
  rw [Finset.sum_mul]; exact Finset.sum_congr rfl fun k _ => wt_rescale M M' k

theorem rowAcc_rescale (u : ℕ → EReal) (M M' : ℝ) (C : ℕ) :
    rowAcc s w u M C * ((Real.exp (M - M') : ℝ) : EReal) = rowAcc s w u M' C := by
  unfold rowAcc
  rw [sum_mul_real _ _ (Real.exp_pos _).le]
  refine Finset.sum_congr rfl fun k _ => ?_
  rw [mul_right_comm, ← EReal.coe_mul, wt_rescale]

/-- Before any taken column the state is the empty one. -/
theorem Inv.start {M : ℝ} (hM : M ≤ 32) (hz : ∀ k < C, w k = 0) : Inv s w v C (M : EReal) 0 (fun _ => 0) := by
  have h0 : ∀ k ∈ Finset.range C, wt s w M k = 0 := fun k hk => by
    unfold wt; rw [hz k (Finset.mem_range.1 hk), mul_zero]
  refine ⟨M, hM, rfl, ?_, fun d => ?_⟩
  · unfold rowSum; rw [Finset.sum_eq_zero h0]; rfl
  · unfold rowAcc
    exact (Finset.sum_eq_zero fun k hk => by rw [h0 k hk, EReal.coe_zero, zero_mul]).symm

/-- Taking the next `n` columns: the old sums rescaled to the new maximum, and the new columns' weights added. -/
theorem Inv.step (h : Inv s w v C m l a) {n : ℕ} {m' : EReal} (hm : ∃ M' : ℝ, m' = (M' : EReal) ∧ M' ≤ 32)
    {e : Fin n → EReal} (he : ∀ M' : ℝ, m' = (M' : EReal) → ∀ j, e j = ((wt s w M' (C + j.val) : ℝ) : EReal)) {l' : EReal} {a' : Fin 64 → EReal}
    (hl : l' = l * Ideal.exp (m - m') + ∑ j, e j)
    (ha : ∀ d, a' d = a d * Ideal.exp (m - m') + ∑ j, e j * v d (C + j.val)) :
    Inv s w v (C + n) m' l' a' := by
  obtain ⟨M, hM, rfl, rfl, haM⟩ := h
  obtain ⟨M', rfl, hM'⟩ := hm
  have he' := he M' rfl
  refine ⟨M', hM', rfl, ?_, fun d => ?_⟩
  · rw [hl, exp_sub, ← EReal.coe_mul, rowSum_rescale, Finset.sum_congr rfl fun j _ => he' j, ← coe_sum, ← EReal.coe_add]
    unfold rowSum
    rw [Finset.sum_range_add, Finset.sum_range fun x => wt s w M' (C + x)]
  · rw [ha, haM, exp_sub, rowAcc_rescale, Finset.sum_congr rfl fun j _ => by rw [he' j]]
    unfold rowAcc
    rw [Finset.sum_range_add, Finset.sum_range fun x => ((wt s w M' (C + x) : ℝ) : EReal) * v d (C + x)]

/-- The weights' ratio to their sum does not depend on the maximum. -/
theorem wt_ratio (M : ℝ) (N k : ℕ) :
    wt s w M k * (rowSum s w M N)⁻¹ = Real.exp (s k) * w k / ∑ j ∈ Finset.range N, Real.exp (s j) * w j := by
  have h1 : ∀ j, wt s w M j = Real.exp (-M) * (Real.exp (s j) * w j) := fun j => by
    unfold wt; rw [← mul_assoc, ← Real.exp_add]; congr 2; ring
  unfold rowSum
  rw [← div_eq_mul_inv, Finset.sum_congr rfl fun j _ => h1 j, ← Finset.mul_sum, h1,
    mul_div_mul_left _ _ (Real.exp_pos _).ne']

/-- Columns that are not taken add nothing. -/
theorem rowSum_extend (M : ℝ) (hC : C ≤ N) (hz : ∀ k, C ≤ k → k < N → w k = 0) : rowSum s w M C = rowSum s w M N := by
  unfold rowSum
  refine Finset.sum_subset (Finset.range_mono hC) fun k hk hk' => ?_
  unfold wt; rw [hz k (by simpa using hk') (Finset.mem_range.1 hk), mul_zero]

theorem rowAcc_extend (u : ℕ → EReal) (M : ℝ) (hC : C ≤ N) (hz : ∀ k, C ≤ k → k < N → w k = 0) :
    rowAcc s w u M C = rowAcc s w u M N := by
  unfold rowAcc
  refine Finset.sum_subset (Finset.range_mono hC) fun k hk hk' => ?_
  unfold wt; rw [hz k (by simpa using hk') (Finset.mem_range.1 hk), mul_zero, EReal.coe_zero, zero_mul]

/-- Either no column is taken, or the sum of the weights is at least the least denominator. -/
theorem sum_cases {M : ℝ} (hM : M ≤ 32) (hw : ∀ k, w k = 0 ∨ w k = 1) (hs : ∀ k < N, -32 ≤ s k) :
    (∀ k < N, w k = 0) ∨ (0 < rowSum s w M N ∧ max (rowSum s w M N : EReal) (Ideal.ofBits .f32 0x0DA24260#32) = (rowSum s w M N : EReal)) := by
  by_cases h : ∀ k < N, w k = 0
  · exact .inl h
  · push Not at h
    obtain ⟨k, hk, hk1⟩ := h
    obtain ⟨ε, hε, h0, h64⟩ := ofBits_eps
    have hnn : ∀ j ∈ Finset.range N, 0 ≤ wt s w M j := fun j _ =>
      mul_nonneg (Real.exp_pos _).le (by rcases hw j with h | h <;> rw [h] <;> norm_num)
    have hge : Real.exp (-64) ≤ rowSum s w M N := by
      refine le_trans ?_ (Finset.single_le_sum hnn (Finset.mem_range.2 hk))
      unfold wt
      rw [(hw k).resolve_left hk1, mul_one]
      exact Real.exp_le_exp.2 (by have := hs k hk; linarith)
    refine .inr ⟨lt_of_lt_of_le (Real.exp_pos _) hge, ?_⟩
    rw [hε]
    exact max_eq_left (by exact_mod_cast h64.trans hge)

/-- The weighted average with the whole row's sums, in the online form: the quotient taken once. -/
theorem avg_online {M : ℝ} (hM : M ≤ 32) (hw : ∀ k, w k = 0 ∨ w k = 1) (hs : ∀ k < N, -32 ≤ s k) (u : ℕ → EReal) :
    Ideal.div (rowAcc s w u M N) (max (rowSum s w M N : EReal) (Ideal.ofBits .f32 0x0DA24260#32)) = attn s w u N := by
  rcases sum_cases (N := N) hM hw hs with h | ⟨h0, hmax⟩
  · have h1 : ∀ k ∈ Finset.range N, wt s w M k = 0 := fun k hk => by
      unfold wt; rw [h k (Finset.mem_range.1 hk), mul_zero]
    have hA : rowAcc s w u M N = 0 := Finset.sum_eq_zero fun k hk => by rw [h1 k hk, EReal.coe_zero, zero_mul]
    have hT : attn s w u N = 0 := Finset.sum_eq_zero fun k hk => by
      rw [h k (Finset.mem_range.1 hk), mul_zero, zero_div, EReal.coe_zero, zero_mul]
    obtain ⟨ε, hε, h0, -⟩ := ofBits_eps
    rw [hA, hT, show rowSum s w M N = 0 from Finset.sum_eq_zero h1, hε, ← EReal.coe_strictMono.monotone.map_max, max_eq_right h0.le, div_real _ h0, zero_mul]
  · rw [hmax, div_real _ h0]
    unfold rowAcc attn
    rw [sum_mul_real _ _ (inv_pos.2 h0).le]
    refine Finset.sum_congr rfl fun k _ => ?_
    rw [mul_right_comm, ← EReal.coe_mul, wt_ratio]

/-- The weighted average with each weight divided first. -/
theorem avg_each {M : ℝ} (hM : M ≤ 32) (hw : ∀ k, w k = 0 ∨ w k = 1) (hs : ∀ k < N, -32 ≤ s k) (u : ℕ → EReal) :
    ∑ k ∈ Finset.range N, Ideal.div ((wt s w M k : ℝ) : EReal) (max (rowSum s w M N : EReal) (Ideal.ofBits .f32 0x0DA24260#32)) * u k
      = attn s w u N := by
  unfold attn
  refine Finset.sum_congr rfl fun k hk => ?_
  rcases sum_cases (N := N) hM hw hs with h | ⟨h0, hmax⟩
  · obtain ⟨ε, hε, h0, -⟩ := ofBits_eps
    have hk0 : wt s w M k = 0 := by unfold wt; rw [h k (Finset.mem_range.1 hk), mul_zero]
    have hS : rowSum s w M N = 0 := Finset.sum_eq_zero fun j hj => by unfold wt; rw [h j (Finset.mem_range.1 hj), mul_zero]
    rw [h k (Finset.mem_range.1 hk), mul_zero, zero_div, hk0, hS, hε, ← EReal.coe_strictMono.monotone.map_max, max_eq_right h0.le, div_real _ h0, EReal.coe_zero, zero_mul]
  · rw [hmax, div_real _ h0, ← EReal.coe_mul, wt_ratio]

/-- The state after enough columns, divided, is the weighted average. -/
theorem Inv.finish (h : Inv s w v C m l a) (hC : C ≤ N) (hz : ∀ k, C ≤ k → k < N → w k = 0)
    (hw : ∀ k, w k = 0 ∨ w k = 1) (hs : ∀ k < N, -32 ≤ s k) (d : Fin 64) :
    Ideal.div (a d) (max l (Ideal.ofBits .f32 0x0DA24260#32)) = attn s w (v d) N := by
  obtain ⟨M, hM, rfl, rfl, ha⟩ := h
  rw [ha, rowAcc_extend (v d) M hC hz, rowSum_extend M hC hz, avg_online hM hw hs]

end Cert.Attn

end
-- ==== Proof.Words.lean ====
/- The attention body's index words as numbers: block numbers, row and column positions, and their comparisons. -/
module

public import Idealize.ShloMosaic.Lib.Pointwise

@[expose] public section

set_option maxRecDepth 16384

noncomputable section

namespace Cert.Attn

open Idealize.ShloMosaic

/-- The body's floor division of a column word by 64. -/
theorem floor64 : ∀ j : Fin 512,
    Scalar.select
      (IntOp.andi
        (IntOp.cmpi CmpIPredicate.ne
          (IntOp.subi (BitVec.setWidth 32 (IntOp.cmpi CmpIPredicate.sgt (BitVec.ofNat 32 ↑j) 0#32))
            (BitVec.setWidth 32 (IntOp.cmpi CmpIPredicate.slt (BitVec.ofNat 32 ↑j) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 ↑j) 64#32) 0#32))
      (IntOp.subi (IntOp.divsi ArithUnit.vector (BitVec.ofNat 32 ↑j) 64#32) 1#32)
      (IntOp.divsi ArithUnit.vector (BitVec.ofNat 32 ↑j) 64#32) = BitVec.ofNat 32 (j.val / 64) := by
  decide +kernel

/-- A column's block number, compared with a block. -/
theorem block_word : ∀ (t : Fin 4) (b : Fin 8) (x : Fin 32),
    (BitVec.setWidth 32 (IntOp.cmpi CmpIPredicate.eq
      (IntOp.addi (BitVec.ofNat 32 b.val) (Scalar.muli (BitVec.ofNat 32 t.val) 8#32)) (BitVec.ofNat 32 x.val))).toInt
      = if x.val = 8 * t.val + b.val then 1 else 0 := by
  decide +kernel

/-- The sum of a vector against one block's indicator. -/
theorem pick_block (f : Fin 32 → EReal) (t : Fin 4) (j : Fin 512) :
    ∑ x : Fin 32, f x * FloatOps.sitofp (F := Ideal) FTy.f32 (BitVec.setWidth 32 (IntOp.cmpi CmpIPredicate.eq
      (IntOp.addi (BitVec.ofNat 32 (j.val / 64)) (Scalar.muli (BitVec.ofNat 32 t.val) 8#32)) (BitVec.ofNat 32 x.val)))
      = f ⟨8 * t.val + j.val / 64, by omega⟩ := by
  have h : ∀ x : Fin 32, FloatOps.sitofp (F := Ideal) FTy.f32 (BitVec.setWidth 32 (IntOp.cmpi CmpIPredicate.eq
      (IntOp.addi (BitVec.ofNat 32 (j.val / 64)) (Scalar.muli (BitVec.ofNat 32 t.val) 8#32)) (BitVec.ofNat 32 x.val)))
      = if x = (⟨8 * t.val + j.val / 64, by omega⟩ : Fin 32) then (1 : EReal) else 0 := fun x => by
    have := block_word t ⟨j.val / 64, by omega⟩ x
    show ((_ : ℤ) : ℝ).toEReal = _
    rw [this]
    by_cases hx : x.val = 8 * t.val + j.val / 64
    · rw [if_pos hx, if_pos (Fin.ext hx)]; simp
    · rw [if_neg hx, if_neg fun h => hx (congrArg Fin.val h)]; simp
  rw [Finset.sum_congr rfl fun x _ => by rw [h x]]
  simp

/-- A position word: `c` steps of `n` and `r` more. -/
theorem pos_word (c n r : ℕ) :
    IntOp.addi (Scalar.muli (BitVec.ofNat 32 c) (BitVec.ofNat 32 n)) (BitVec.ofNat 32 r) = BitVec.ofNat 32 (n * c + r) := by
  show BitVec.ofNat 32 c * BitVec.ofNat 32 n + BitVec.ofNat 32 r = _
  rw [← BitVec.ofNat_mul, ← BitVec.ofNat_add, Nat.mul_comm]

theorem toInt_small {x : ℕ} (hx : x < 2 ^ 31) : (BitVec.ofNat 32 x).toInt = x := by
  have h : (BitVec.ofNat 32 x).toNat = x := by rw [BitVec.toNat_ofNat]; omega
  rw [BitVec.toInt_eq_toNat_of_lt (by omega), h]

theorem toInt_sub {x y : ℕ} (hx : x < 2 ^ 30) (hy : y < 2 ^ 30) :
    (BitVec.ofNat 32 x - BitVec.ofNat 32 y).toInt = (x : ℤ) - y := by
  rw [BitVec.toInt_sub, toInt_small (by omega), toInt_small (by omega), Int.bmod_def]; omega

/-- The window's lower edge, as a word comparison. -/
theorem window_word {x y : ℕ} (hx : x < 2 ^ 30) (hy : y < 2 ^ 30) :
    IntOp.cmpi CmpIPredicate.sle (IntOp.subi (BitVec.ofNat 32 x) (BitVec.ofNat 32 y)) 512#32
      = if x ≤ y + 512 then 1#1 else 0#1 := by
  show BitVec.ofBool ((BitVec.ofNat 32 x - BitVec.ofNat 32 y).sle 512#32) = _
  rw [BitVec.sle, toInt_sub hx hy, show (512#32 : BitVec 32).toInt = 512 by decide]
  by_cases h : x ≤ y + 512
  · rw [if_pos h, decide_eq_true (by omega)]; rfl
  · rw [if_neg h, decide_eq_false (by omega)]; rfl

/-- The causal edge, as a word comparison. -/
theorem causal_word {x y : ℕ} (hx : x < 2 ^ 30) (hy : y < 2 ^ 30) :
    IntOp.cmpi CmpIPredicate.sge (BitVec.ofNat 32 x) (BitVec.ofNat 32 y) = if y ≤ x then 1#1 else 0#1 := by
  show BitVec.ofBool ((BitVec.ofNat 32 y).sle (BitVec.ofNat 32 x)) = _
  rw [BitVec.sle, toInt_small (by omega), toInt_small (by omega)]
  by_cases h : y ≤ x
  · rw [if_pos h, decide_eq_true (by omega)]; rfl
  · rw [if_neg h, decide_eq_false (by omega)]; rfl

/-- A truth value widened and converted to a number. -/
theorem number_of (p : Prop) [Decidable p] :
    FloatOps.sitofp (F := Ideal) FTy.f32 (BitVec.setWidth 32 (if p then 1#1 else 0#1)) = (((if p then 1 else 0 : ℝ)) : EReal) := by
  show ((_ : ℤ) : ℝ).toEReal = _
  by_cases h : p
  · simp only [if_pos h]; norm_num
  · simp only [if_neg h]; norm_num

/-- A smaller number word taken from a larger. -/
theorem sub_word {x y : ℕ} (h : y ≤ x) : Scalar.subi (BitVec.ofNat 32 x) (BitVec.ofNat 32 y) = BitVec.ofNat 32 (x - y) := by
  show BitVec.ofNat 32 x - BitVec.ofNat 32 y = _
  obtain ⟨z, rfl⟩ := Nat.exists_eq_add_of_le h
  rw [Nat.add_sub_cancel_left, BitVec.ofNat_add]
  rw [BitVec.add_comm, BitVec.add_sub_cancel]

end Cert.Attn

end
-- ==== Proof.Read.lean ====
/- The attention body's vector expressions read at an index, over the extended reals: scores, running maxima, weights and
   the sums they enter. -/
module

public import proofs.«01_k».proof.Proof.Gen.KernelIdeal.Skeleton
public import proofs.«01_k».proof.Proof.Math
public import proofs.«01_k».proof.Proof.Words

@[expose] public section

set_option maxRecDepth 16384

noncomputable section

namespace Cert.KernelIdeal.Hand

open Idealize.ShloMosaic Cert.KernelIdeal.Gen Cert.Attn

variable (q : FVec Ideal S256x64 .f32) (mx : FVec Ideal S256x1 .f32) (kT vT : Vec Ideal S1x512x64 .f32)
variable (sel : FVec Ideal S256x32 .f32)

/-- A score of the tile: the scaled query row against the key row. -/
theorem score_at (r : Fin 256) (j : Fin 512) :
    k0_pay3 q kT (ix2 r j) = ∑ d : Fin 64, q (ix2 r d) * kT (ix3 0 j d) := by
  pointwise [k0_pay3]

/-- The running maximum after the tile. -/
theorem max_at (r : Fin 256) : k0_pay4 q mx kT (ix2 r 0)
    = max (mx (ix2 r 0)) (Finset.univ.fold max (⊥ : EReal) fun j : Fin 512 => k0_pay3 q kT (ix2 r j)) := by
  rw [← ofBits_ninf]
  pointwise [k0_pay4]

theorem alpha_at (r : Fin 256) : k0_pay5 q mx kT (ix2 r 0) = Ideal.exp (mx (ix2 r 0) - k0_pay4 q mx kT (ix2 r 0)) := by
  pointwise [k0_pay5]

theorem weight_at (r : Fin 256) (j : Fin 512) :
    k0_pay6 q mx kT (ix2 r j) = Ideal.exp (k0_pay3 q kT (ix2 r j) - k0_pay4 q mx kT (ix2 r 0)) := by
  pointwise [k0_pay6]

/-- A weight times the selection of its column's block. -/
theorem selw_at (p : FVec Ideal S256x512 .f32) (t : Fin 4) (r : Fin 256) (j : Fin 512) :
    k0_pay30 sel (BitVec.ofNat 32 t.val) p k0_pay7 k0_pay8 1#32 (ix2 r j)
      = p (ix2 r j) * sel (ix2 r ⟨8 * t.val + j.val / 64, by omega⟩) := by
  pointwise [k0_pay30, k0_pay7, k0_pay8]
  rw [floor64 j, pick_block (fun x => sel (ix2 r x)) t j]

theorem lnew_at (p : FVec Ideal S256x512 .f32) (w : BitVec 32) (l al : FVec Ideal S256x1 .f32) (A : IVec S32x512 32) (B : IVec S32x512 1) (r : Fin 256) :
    k0_pay31 sel l w al p A B 1#32 (ix2 r 0) = l (ix2 r 0) * al (ix2 r 0) + ∑ j : Fin 512, k0_pay30 sel w p A B 1#32 (ix2 r j) := by
  pointwise [k0_pay31]

theorem anew_at (p : FVec Ideal S256x512 .f32) (w : BitVec 32) (a : FVec Ideal S256x64 .f32) (al : FVec Ideal S256x1 .f32) (A : IVec S32x512 32) (B : IVec S32x512 1) (r : Fin 256) (d : Fin 64) :
    k0_pay32 sel a w (k0_pay2 vT) al p A B 1#32 (ix2 r d) = a (ix2 r d) * al (ix2 r 0) + ∑ j : Fin 512, k0_pay30 sel w p A B 1#32 (ix2 r j) * vT (ix3 0 j d) := by
  pointwise [k0_pay32, k0_pay2]

/-- A weight times the window's lower edge. -/
theorem win_at (p : FVec Ideal S256x512 .f32) (i : grid0.Coords) {n : ℕ} (hn : 2 ≤ n) (hn4 : n ≤ 4) (r : Fin 256) (j : Fin 512) :
    k0_pay40 (k0_pay26 i) (k0_pay18 (BitVec.ofNat 32 n)) p (ix2 r j)
      = p (ix2 r j) * (((if 256 * (i 1).val + r.val ≤ 512 * (n - 2) + j.val + 512 then 1 else 0 : ℝ)) : EReal) := by
  have hi : (i 1).val < 8 := (i 1).isLt
  pointwise [k0_pay40, k0_pay26, k0_pay18]
  rw [sub_word hn, pos_word, pos_word, window_word (by omega) (by omega), number_of]

/-- The sums of the tile before the diagonal one, in the window branch. -/
theorem wsum_at (p : FVec Ideal S256x512 .f32) (B : IVec S256x1 32) (X : IVec S256x512 32) (m0 l0 m1 : FVec Ideal S256x1 .f32) (r : Fin 256) :
    k0_pay41 B m0 l0 X m1 p (ix2 r 0) = l0 (ix2 r 0) * Ideal.exp (m0 (ix2 r 0) - m1 (ix2 r 0)) + ∑ j : Fin 512, k0_pay40 B X p (ix2 r j) := by
  pointwise [k0_pay41, k0_pay39]

theorem wacc_at (p : FVec Ideal S256x512 .f32) (B : IVec S256x1 32) (X : IVec S256x512 32) (m0 m1 : FVec Ideal S256x1 .f32)
    (a0 : FVec Ideal S256x64 .f32) (r : Fin 256) (d : Fin 64) :
    k0_pay42 B m0 a0 (k0_pay2 vT) X m1 p (ix2 r d)
      = a0 (ix2 r d) * Ideal.exp (m0 (ix2 r 0) - m1 (ix2 r 0)) + ∑ j : Fin 512, k0_pay40 B X p (ix2 r j) * vT (ix3 0 j d) := by
  pointwise [k0_pay42, k0_pay39, k0_pay2]

/-- The diagonal tile's causal mask. -/
theorem causal_at (i : grid0.Coords) {n : ℕ} (hn : 1 ≤ n) (hn4 : n ≤ 4) (r : Fin 256) (j : Fin 512) :
    k0_pay45 (k0_pay26 i) (BitVec.ofNat 32 n) (ix2 r j)
      = if 512 * (n - 1) + j.val ≤ 256 * (i 1).val + r.val then 1#1 else 0#1 := by
  have hi : (i 1).val < 8 := (i 1).isLt
  pointwise [k0_pay45, k0_pay26]
  rw [sub_word hn, pos_word, pos_word, causal_word (by omega) (by omega)]

/-- The running maximum after the diagonal tile. -/
theorem diagmax_at (B : IVec S256x1 32) (w : BitVec 32) (r : Fin 256) : k0_pay46 q B w mx kT (ix2 r 0)
    = max (mx (ix2 r 0)) (Finset.univ.fold max (⊥ : EReal) fun j : Fin 512 =>
        if k0_pay45 B w (ix2 r j) = 1#1 then k0_pay3 q kT (ix2 r j) else Ideal.ofBits .f32 0xFF7FFFFF#32) := by
  rw [← ofBits_ninf]
  pointwise [k0_pay46, k0_pay44, k0_pay3]
  rfl

theorem diagalpha_at (B : IVec S256x1 32) (w : BitVec 32) (r : Fin 256) :
    k0_pay47 q B w mx kT (ix2 r 0) = Ideal.exp (mx (ix2 r 0) - k0_pay46 q B w mx kT (ix2 r 0)) := by
  pointwise [k0_pay47]

/-- A weight of the diagonal tile. -/
theorem diagw_at (B : IVec S256x1 32) (w : BitVec 32) (r : Fin 256) (j : Fin 512) : k0_pay48 q B w mx kT (ix2 r j)
    = if k0_pay45 B w (ix2 r j) = 1#1 then Ideal.exp (k0_pay3 q kT (ix2 r j) - k0_pay46 q B w mx kT (ix2 r 0)) else 0 := by
  pointwise [k0_pay48, k0_pay44, k0_pay3]
  rfl

abbrev colI : IVec S32x512 32 := iota .tc S32x512 32 [1] iota_S32x512_d1_w32

/-- A weight of the diagonal tile times the selection of its column's block. -/
theorem dselw_at (p : FVec Ideal S256x512 .f32) (t : Fin 4) (r : Fin 256) (j : Fin 512) :
    k0_pay51 sel (BitVec.ofNat 32 t.val) p colI 64#32 k0_pay49 k0_pay50 0#32 (ix2 r j)
      = p (ix2 r j) * sel (ix2 r ⟨8 * t.val + j.val / 64, by omega⟩) := by
  pointwise [k0_pay51, k0_pay49, k0_pay50, colI]
  rw [floor64 j, pick_block (fun x => sel (ix2 r x)) t j]

theorem dacc_at (p : FVec Ideal S256x512 .f32) (w : BitVec 32) (a : FVec Ideal S256x64 .f32) (al : FVec Ideal S256x1 .f32) (r : Fin 256) (d : Fin 64) :
    k0_pay52 sel a w (k0_pay43 vT) al p colI 64#32 k0_pay49 k0_pay50 0#32 (ix2 r d)
      = a (ix2 r d) * al (ix2 r 0) + ∑ j : Fin 512, k0_pay51 sel w p colI 64#32 k0_pay49 k0_pay50 0#32 (ix2 r j) * vT (ix3 0 j d) := by
  pointwise [k0_pay52, k0_pay43]

theorem dsum_at (p : FVec Ideal S256x512 .f32) (w : BitVec 32) (l al : FVec Ideal S256x1 .f32) (r : Fin 256) (d : Fin 64) :
    k0_pay56 sel l w al p colI 64#32 k0_pay49 k0_pay50 0#32 (ix2 r d)
      = max (l (ix2 r 0) * al (ix2 r 0) + ∑ j : Fin 512, k0_pay51 sel w p colI 64#32 k0_pay49 k0_pay50 0#32 (ix2 r j)) (Ideal.ofBits .f32 0x0DA24260#32) := by
  pointwise [k0_pay56]

theorem dwsum_at (p : FVec Ideal S256x512 .f32) (m0 l0 m1 : FVec Ideal S256x1 .f32) (r : Fin 256) :
    k0_pay54 m0 l0 m1 p (ix2 r 0) = l0 (ix2 r 0) * Ideal.exp (m0 (ix2 r 0) - m1 (ix2 r 0)) + ∑ j : Fin 512, p (ix2 r j) := by
  pointwise [k0_pay54, k0_pay53]

theorem dwacc_at (p : FVec Ideal S256x512 .f32) (m0 m1 : FVec Ideal S256x1 .f32) (a0 : FVec Ideal S256x64 .f32) (r : Fin 256) (d : Fin 64) :
    k0_pay55 m0 a0 (k0_pay43 vT) m1 p (ix2 r d)
      = a0 (ix2 r d) * Ideal.exp (m0 (ix2 r 0) - m1 (ix2 r 0)) + ∑ j : Fin 512, p (ix2 r j) * vT (ix3 0 j d) := by
  pointwise [k0_pay55, k0_pay53, k0_pay43]

/-- The gated sum of the three branches. -/
theorem gated_at (A D E : FVec Ideal S256x64 .f32) (L : FVec Ideal S256x1 .f32) (g : Vec Ideal S1x256x3 .f32) (oc : Vec Ideal S1x256x64 .f32) (r : Fin 256) (d : Fin 64) :
    k0_pay1 A L E D g oc (ix3 0 r d)
      = g (ix3 0 r 0) * oc (ix3 0 r d) + g (ix3 0 r 1) * Ideal.div (A (ix2 r d)) (D (ix2 r d))
        + g (ix3 0 r 2) * Ideal.div (E (ix2 r d)) (max (L (ix2 r 0)) (Ideal.ofBits .f32 0x0DA24260#32)) := by
  pointwise [k0_pay1]

/-- The scaled queries, -/
theorem query_at (x : Vec Ideal S1x256x64 .f32) (r : Fin 256) (d : Fin 64) :
    k0_pay24 x (ix2 r d) = x (ix3 0 r d) * Ideal.ofBits .f32 0x3E000000#32 := by
  pointwise [k0_pay24]

/-- the selections, -/
theorem sel_at (x : Vec Ideal S1x256x32 .f32) (r : Fin 256) (b : Fin 32) : k0_pay25 x (ix2 r b) = x (ix3 0 r b) := by
  pointwise [k0_pay25]

/-- and the state before any tile. -/
theorem init_max_at (r : Fin 256) : k0_pay27 (F := Ideal) (ix2 r 0) = Ideal.ofBits .f32 0xFF7FFFFF#32 := by
  pointwise [k0_pay27]
theorem init_sum_at (r : Fin 256) : k0_pay28 (F := Ideal) (ix2 r 0) = 0 := by
  pointwise [k0_pay28]
theorem init_acc_at (r : Fin 256) (d : Fin 64) : k0_pay29 (F := Ideal) (ix2 r d) = 0 := by
  pointwise [k0_pay29]

end Cert.KernelIdeal.Hand

end
-- ==== Proof.Spec.lean ====
/- What the attention call computes, as a function of its four argument arrays, and what is asked of them. -/
module

public import proofs.«01_k».proof.Proof.Math
public import Idealize.ShloMosaic.Lib.Pointwise

@[expose] public section

noncomputable section

namespace Cert.Attn

open Idealize.ShloMosaic

/-- Queries, keys and values, head after head; -/
abbrev Qkv : Type := Vec Ideal (⟨3, ![36, 2048, 64]⟩ : Shape) .f32
/-- the selected blocks of each query; -/
abbrev Sel : Type := Vec Ideal (⟨3, ![12, 2048, 32]⟩ : Shape) .f32
/-- one vector for each head and position; -/
abbrev Out : Type := Vec Ideal (⟨3, ![12, 2048, 64]⟩ : Shape) .f32
/-- the three gates of each head and position. -/
abbrev Gate : Type := Vec Ideal (⟨3, ![12, 2048, 3]⟩ : Shape) .f32

/-- The query heads, -/
def qh (h : Fin 12) : Fin 36 := ⟨h.val, by omega⟩
/-- the key heads -/
def kh (h : Fin 12) : Fin 36 := ⟨12 + h.val, by omega⟩
/-- and the value heads, within the one array. -/
def vh (h : Fin 12) : Fin 36 := ⟨24 + h.val, by omega⟩

/-- The scaled score of query `p` against key `k`. -/
def dots (A : Qkv) (h : Fin 12) (p k : Fin 2048) : EReal :=
  (∑ d : Fin 64, A (ix3 (qh h) p d) * A (ix3 (kh h) k d)) * Ideal.ofBits .f32 0x3E000000#32

/-- The same as a real number, -/
def score (A : Qkv) (h : Fin 12) (p : Fin 2048) (k : ℕ) : ℝ := if hk : k < 2048 then (dots A h p ⟨k, hk⟩).toReal else 0

/-- a block's selection as a real number, -/
def pick (S : Sel) (h : Fin 12) (p : Fin 2048) (b : ℕ) : ℝ := if hb : b < 32 then (S (ix3 h p ⟨b, hb⟩)).toReal else 0

/-- and a head's values, by position. -/
def valsOf (A : Qkv) (h : Fin 12) (d : Fin 64) (k : ℕ) : EReal := if hk : k < 2048 then A (ix3 (vh h) ⟨k, hk⟩ d) else 0

/-- The window of a query at position `p`: itself and the 512 positions before it. -/
def win (p k : ℕ) : ℝ := if k ≤ p ∧ p ≤ k + 512 then 1 else 0

/-- What is asked of the arguments: every score at most 32 in size, every selection 0 or 1, and a selected block ending at or
    before the query's own position. -/
structure Good (A : Qkv) (S : Sel) : Prop where
  bound : ∀ h p k, ∃ x : ℝ, dots A h p k = (x : EReal) ∧ |x| ≤ 32
  sel : ∀ h p (b : Fin 32), S (ix3 h p b) = 0 ∨ S (ix3 h p b) = 1 ∧ 64 * b.val + 64 ≤ p.val

/-- The gated sum of the compression result, the average over the selected blocks, and the average over the window. -/
def gated (A : Qkv) (S : Sel) (O : Out) (G : Gate) (h : Fin 12) (p : Fin 2048) (d : Fin 64) : EReal :=
  G (ix3 h p 0) * O (ix3 h p d)
    + G (ix3 h p 1) * attn (score A h p) (fun k => pick S h p (k / 64)) (valsOf A h d) 2048
    + G (ix3 h p 2) * attn (score A h p) (win p.val) (valsOf A h d) 2048

variable {A : Qkv} {S : Sel}

theorem Good.dots_eq (g : Good A S) (h : Fin 12) (p : Fin 2048) (k : ℕ) (hk : k < 2048) :
    dots A h p ⟨k, hk⟩ = (score A h p k : EReal) := by
  obtain ⟨x, hx, -⟩ := g.bound h p ⟨k, hk⟩
  rw [score, dif_pos hk, hx, EReal.toReal_coe]

theorem Good.score_le (g : Good A S) (h : Fin 12) (p : Fin 2048) (k : ℕ) (hk : k < 2048) : |score A h p k| ≤ 32 := by
  obtain ⟨x, hx, hx32⟩ := g.bound h p ⟨k, hk⟩
  rwa [score, dif_pos hk, hx, EReal.toReal_coe]

theorem Good.pick_eq (g : Good A S) (h : Fin 12) (p : Fin 2048) (b : ℕ) (hb : b < 32) :
    S (ix3 h p ⟨b, hb⟩) = (pick S h p b : EReal) := by
  rw [pick, dif_pos hb]
  rcases g.sel h p ⟨b, hb⟩ with e | ⟨e, -⟩ <;> rw [e] <;> rfl

theorem Good.pick_bit (g : Good A S) (h : Fin 12) (p : Fin 2048) (b : ℕ) : pick S h p b = 0 ∨ pick S h p b = 1 := by
  unfold pick
  by_cases hb : b < 32
  · rw [dif_pos hb]
    rcases g.sel h p ⟨b, hb⟩ with e | ⟨e, -⟩
    · left; rw [e]; rfl
    · right; rw [e]; rfl
  · left; rw [dif_neg hb]

theorem Good.pick_past (g : Good A S) (h : Fin 12) (p : Fin 2048) (b : ℕ) (hb : b < 32) (h1 : pick S h p b = 1) :
    64 * b + 64 ≤ p.val := by
  rcases g.sel h p ⟨b, hb⟩ with e | ⟨-, e⟩
  · rw [pick, dif_pos hb, e, EReal.toReal_zero] at h1; exact absurd h1 (by norm_num)
  · exact e

end Cert.Attn

end
-- ==== Proof.Row.lean ====
/- One query row of the attention call: the body's tiles keep the running state's meaning, and its output is the gated sum of
   the compression result and two weighted averages, over the selected blocks and over the window. -/
module

public import proofs.«01_k».proof.Proof.Body
public import proofs.«01_k».proof.Proof.Read
public import proofs.«01_k».proof.Proof.Spec

@[expose] public section

set_option maxRecDepth 16384

noncomputable section

namespace Cert.KernelIdeal.Hand

open Idealize.ShloMosaic Cert.KernelIdeal.Gen Cert.Attn

/-! ## The grid point's words -/

/-- A grid point with second coordinate `a`. -/
def pt (a : Fin 8) : grid0.Coords := fun | 0 => (0 : Fin 12) | 1 => a

theorem ntW_eq (i : grid0.Coords) : ntW i = BitVec.ofNat 32 ((i 1).val / 2 + 1) := by
  have h : ∀ a : Fin 8, ntW (pt a) = BitVec.ofNat 32 (a.val / 2 + 1) := by decide +kernel
  exact h (i 1)

theorem trips1_eq (i : grid0.Coords) : (k0_t1_loop i).trips = (i 1).val / 2 + 1 - 2 := by
  have h : ∀ a : Fin 8, (k0_t1_loop (pt a)).trips = a.val / 2 + 1 - 2 := by decide +kernel
  exact h (i 1)

theorem trips2_eq (i : grid0.Coords) : (k0_t2_loop i).trips = 0 := by
  have h : ∀ a : Fin 8, (k0_t2_loop (pt a)).trips = 0 := by decide +kernel
  exact h (i 1)

theorem cond_iff (i : grid0.Coords) : k0_cond1 i = 1#1 ↔ 2 ≤ (i 1).val / 2 + 1 := by
  have h : ∀ a : Fin 8, k0_cond1 (pt a) = 1#1 ↔ 2 ≤ a.val / 2 + 1 := by decide +kernel
  exact h (i 1)

theorem off1_eq (i : grid0.Coords) (k : Fin (k0_t1_loop i).trips) : k0_off1 i k = ![0, 512 * k.val, 0] := by
  have h : ∀ k : Fin 4, (Scalar.indexCast (Scalar.muli (Scf.iv 0#32 1#32 k.val) 512#32)).toNat = 512 * k.val := by decide +kernel
  have hk : k.val < 4 := by have h1 := lt_of_lt_of_eq k.isLt (trips1_eq i); have : (i 1).val < 8 := (i 1).isLt; omega
  have := h ⟨k.val, hk⟩
  show ![0, (Scalar.indexCast (Scalar.muli (Scf.iv 0#32 1#32 k.val) 512#32)).toNat, 0] = _
  rw [this]

theorem iv_eq (k : Fin 4) : Scf.iv 0#32 1#32 k.val = BitVec.ofNat 32 k.val := by
  revert k; decide +kernel

theorem off3_eq (i : grid0.Coords) (h2 : 2 ≤ (i 1).val / 2 + 1) : k0_off3 i = ![0, 512 * ((i 1).val / 2 + 1 - 2), 0] := by
  have h : ∀ a : Fin 8, 2 ≤ a.val / 2 + 1 → k0_off3 (pt a) 1 = 512 * (a.val / 2 + 1 - 2) := by decide +kernel
  have := h (i 1) h2
  funext b; fin_cases b
  · rfl
  · exact this
  · rfl

theorem off4_eq (i : grid0.Coords) : k0_off4 i = ![0, 512 * ((i 1).val / 2), 0] := by
  have h : ∀ a : Fin 8, k0_off4 (pt a) 1 = 512 * (a.val / 2) := by decide +kernel
  have := h (i 1)
  funext b; fin_cases b
  · rfl
  · exact this
  · rfl

/-- A tile of 512 rows, loaded from row `c` of a head's keys or values. -/
theorem tile_at (K : Vec Ideal S1x2048x64 .f32) {off : Fin 3 → ℕ} (h) {c : ℕ} (hoff : off = ![0, c, 0]) (hc : c + 512 ≤ 2048)
    (j : Fin 512) (d : Fin 64) :
    View.ld K (Rect.unit (s := S1x2048x64) off S1x512x64.size h) (ix3 0 j d) = K (ix3 0 ⟨c + j.val, by omega⟩ d) := by
  subst hoff
  refine congrArg K (funext fun b => Fin.ext ?_)
  fin_cases b
  · rfl
  · show c + 1 * j.val = _; rw [Nat.one_mul]; rfl
  · show 0 + 1 * d.val = _; rw [Nat.one_mul, Nat.zero_add]; rfl

/-! ## The row -/

/-- The values of a head, by column. -/
def vals (x2 : Vec Ideal S1x2048x64 .f32) (d : Fin 64) (k : ℕ) : EReal := if h : k < 2048 then x2 (ix3 0 ⟨k, h⟩ d) else 0

/-- What is known of query row `r` of grid point `i`: its scores against the head's keys are the real numbers `s`, at most 32 in
    size, and its blocks' selections are `σ`, each 0 or 1, the selected ones ending at or before the row's own position. -/
structure RowOf (i : grid0.Coords) (x0 : Vec Ideal S1x256x64 .f32) (x1 : Vec Ideal S1x2048x64 .f32) (x3 : Vec Ideal S1x256x32 .f32)
    (r : Fin 256) (s σ : ℕ → ℝ) : Prop where
  score : ∀ k (hk : k < 2048), ∑ d : Fin 64, x0 (ix3 0 r d) * Ideal.ofBits .f32 0x3E000000#32 * x1 (ix3 0 ⟨k, hk⟩ d) = (s k : EReal)
  size : ∀ k < 2048, |s k| ≤ 32
  sel : ∀ b (hb : b < 32), x3 (ix3 0 r ⟨b, hb⟩) = (σ b : EReal)
  bit : ∀ b, σ b = 0 ∨ σ b = 1
  past : ∀ b < 32, σ b = 1 → 64 * b + 64 ≤ 256 * (i 1).val + r.val

/-- The row's running state, in a state of the whole block. -/
def SInv (s w : ℕ → ℝ) (v : Fin 64 → ℕ → EReal) (C : ℕ) (r : Fin 256) (acc : St Ideal) : Prop :=
  Inv s w v C (acc.1 (ix2 r 0)) (acc.2.1 (ix2 r 0)) (fun d => acc.2.2 (ix2 r d))

variable {i : grid0.Coords} {x0 : Vec Ideal S1x256x64 .f32} {x1 x2 : Vec Ideal S1x2048x64 .f32} {x3 : Vec Ideal S1x256x32 .f32}
variable {r : Fin 256} {s σ : ℕ → ℝ}

/-- The scores against a loaded tile of keys. -/
theorem RowOf.tile_score (h : RowOf i x0 x1 x3 r s σ) {off : Fin 3 → ℕ} (hb) {c : ℕ} (hoff : off = ![0, c, 0]) (hc : c + 512 ≤ 2048) (j : Fin 512) :
    k0_pay3 (k0_pay24 x0) (View.ld x1 (Rect.unit (s := S1x2048x64) off S1x512x64.size hb)) (ix2 r j) = (s (c + j.val) : EReal) := by
  rw [score_at, ← h.score (c + j.val) (by omega)]
  exact Finset.sum_congr rfl fun d _ => by rw [query_at, tile_at x1 hb hoff hc]

/-- The values of a loaded tile. -/
theorem tile_val (x2 : Vec Ideal S1x2048x64 .f32) {off : Fin 3 → ℕ} (hb) {c : ℕ} (hoff : off = ![0, c, 0]) (hc : c + 512 ≤ 2048) (j : Fin 512) (d : Fin 64) :
    View.ld x2 (Rect.unit (s := S1x2048x64) off S1x512x64.size hb) (ix3 0 j d) = vals x2 d (c + j.val) := by
  rw [tile_at x2 hb hoff hc, vals, dif_pos]

/-- The selection of a tile's column. -/
theorem RowOf.tile_sel (h : RowOf i x0 x1 x3 r s σ) (t : Fin 4) (j : Fin 512) :
    k0_pay25 x3 (ix2 r ⟨8 * t.val + j.val / 64, by omega⟩) = (σ ((512 * t.val + j.val) / 64) : EReal) := by
  rw [sel_at, h.sel _ (by omega)]
  congr 2; omega

/-- A tile's running maximum is a real number, at most 32. -/
theorem RowOf.tile_max (h : RowOf i x0 x1 x3 r s σ) {off : Fin 3 → ℕ} (hb) {c : ℕ} (hoff : off = ![0, c, 0]) (hc : c + 512 ≤ 2048)
    {mx : FVec Ideal S256x1 .f32} (hm : ∃ M : ℝ, mx (ix2 r 0) = (M : EReal) ∧ M ≤ 32) :
    ∃ M' : ℝ, k0_pay4 (k0_pay24 x0) mx (View.ld x1 (Rect.unit (s := S1x2048x64) off S1x512x64.size hb)) (ix2 r 0) = (M' : EReal) ∧ M' ≤ 32 := by
  obtain ⟨M, hM, hM32⟩ := hm
  rw [max_at, hM]
  refine max_fold_real (by norm_num) hM32 fun j => ⟨_, h.tile_score hb hoff hc j, ?_⟩
  exact (abs_le.1 (h.size _ (by omega))).2

/-- One unmasked tile keeps the meaning of the selected branch's state. -/
theorem RowOf.tile (h : RowOf i x0 x1 x3 r s σ) (t : Fin 4) {off : Fin 3 → ℕ} (hb hb') (hoff : off = ![0, 512 * t.val, 0]) {acc : St Ideal}
    (ha : SInv s (fun k => σ (k / 64)) (vals x2) (512 * t.val) r acc) :
    SInv s (fun k => σ (k / 64)) (vals x2) (512 * t.val + 512) r
      (tstep (k0_pay24 x0) (k0_pay25 x3) (BitVec.ofNat 32 t.val) (View.ld x1 (Rect.unit (s := S1x2048x64) off S1x512x64.size hb))
        (View.ld x2 (Rect.unit (s := S1x2048x64) off S1x512x64.size hb')) acc) := by
  have hc : 512 * t.val + 512 ≤ 2048 := by omega
  obtain ⟨M, hM, hmM, -⟩ := id ha
  refine Inv.step ha (h.tile_max hb hoff hc ⟨M, hmM, hM⟩)
    (e := fun j => k0_pay30 (k0_pay25 x3) (BitVec.ofNat 32 t.val) (k0_pay6 (k0_pay24 x0) acc.1 (View.ld x1 (Rect.unit (s := S1x2048x64) off S1x512x64.size hb)))
      k0_pay7 k0_pay8 1#32 (ix2 r j)) (fun M' hM' j => ?_) ?_ (fun d => ?_)
  · change k0_pay4 _ _ _ (ix2 r 0) = _ at hM'
    rw [selw_at, h.tile_sel t j, weight_at, h.tile_score hb hoff hc, hM', exp_sub, ← EReal.coe_mul]; rfl
  · show k0_pay31 _ _ _ _ _ _ _ _ _ = _
    rw [lnew_at, alpha_at]
  · show k0_pay32 _ _ _ (k0_pay2 _) _ _ _ _ _ _ = _
    rw [anew_at, alpha_at]
    simp only [tile_val x2 hb' hoff hc]

/-- The empty state, where no column before `C` is taken. -/
theorem start_inv (w : ℕ → ℝ) (v : Fin 64 → ℕ → EReal) {C : ℕ} (hz : ∀ k < C, w k = 0) : SInv s w v C r st0 := by
  obtain ⟨N, hN, hN32⟩ := ofBits_low
  have := Inv.start (s := s) (v := v) hN32 hz
  unfold SInv st0
  simp only [init_max_at, init_sum_at, init_acc_at, hN]
  exact this

/-- The state after the tile loop. -/
theorem RowOf.loops_inv (h : RowOf i x0 x1 x3 r s σ) :
    SInv s (fun k => σ (k / 64)) (vals x2) (512 * ((i 1).val / 2 + 1 - 2)) r (loops i (k0_pay24 x0) (k0_pay25 x3) x1 x2) := by
  have hi : (i 1).val < 8 := (i 1).isLt
  have hn : ∀ n ≤ (k0_t1_loop i).trips, SInv s (fun k => σ (k / 64)) (vals x2) (512 * n) r
      (loopSt (step1 i (k0_pay24 x0) (k0_pay25 x3) x1 x2) st0 n) := by
    intro n
    induction n with
    | zero => exact fun _ => start_inv _ _ fun k hk => absurd hk (by omega)
    | succ n ih =>
      intro hle
      have hlt : n < (k0_t1_loop i).trips := hle
      have hn4 : n < 4 := by rw [trips1_eq] at hlt; omega
      rw [loopSt, dif_pos hlt]
      unfold step1
      rw [show Scf.iv 0#32 1#32 (⟨n, hlt⟩ : Fin (k0_t1_loop i).trips).val = BitVec.ofNat 32 n from iv_eq ⟨n, hn4⟩]
      exact h.tile ⟨n, hn4⟩ _ _ (off1_eq i ⟨n, hlt⟩) (ih hlt.le)
  unfold loops
  have h2 : ∀ a n, n = 0 → loopSt (step2 i (k0_pay24 x0) (k0_pay25 x3) x1 x2) a n = a := by rintro a n rfl; rfl
  have h1 := hn _ le_rfl
  rw [h2 _ _ (trips2_eq i)]
  rwa [show 512 * ((i 1).val / 2 + 1 - 2) = 512 * (k0_t1_loop i).trips by rw [trips1_eq]]

/-- The window's weight at a column of the tile before the diagonal one. -/
theorem win_before {i : grid0.Coords} (r : Fin 256) (h2 : 2 ≤ (i 1).val / 2 + 1) (j : Fin 512) :
    win (256 * (i 1).val + r.val) (512 * ((i 1).val / 2 + 1 - 2) + j.val)
      = if 256 * (i 1).val + r.val ≤ 512 * ((i 1).val / 2 + 1 - 2) + j.val + 512 then 1 else 0 := by
  unfold win
  refine if_congr ⟨fun h => h.2, fun h => ⟨by omega, h⟩⟩ rfl rfl

/-- The tile before the diagonal one, in the window branch. -/
theorem RowOf.window_tile (h : RowOf i x0 x1 x3 r s σ) (h2 : 2 ≤ (i 1).val / 2 + 1) {off : Fin 3 → ℕ} (hb hb')
    (hoff : off = ![0, 512 * ((i 1).val / 2 + 1 - 2), 0]) {mx : FVec Ideal S256x1 .f32} (hm : ∃ M : ℝ, mx (ix2 r 0) = (M : EReal) ∧ M ≤ 32) :
    SInv s (win (256 * (i 1).val + r.val)) (vals x2) (512 * ((i 1).val / 2 + 1 - 2) + 512) r
      (wstep i (k0_pay24 x0) (View.ld x1 (Rect.unit (s := S1x2048x64) off S1x512x64.size hb))
        (View.ld x2 (Rect.unit (s := S1x2048x64) off S1x512x64.size hb')) mx) := by
  have hi : (i 1).val < 8 := (i 1).isLt
  have hc : 512 * ((i 1).val / 2 + 1 - 2) + 512 ≤ 2048 := by omega
  have h0 : SInv s (win (256 * (i 1).val + r.val)) (vals x2) (512 * ((i 1).val / 2 + 1 - 2)) r st0 :=
    start_inv _ _ fun k hk => by unfold win; rw [if_neg]; omega
  unfold wstep
  rw [ntW_eq]
  refine Inv.step h0 (h.tile_max hb hoff hc hm)
    (e := fun j => k0_pay40 (k0_pay26 i) (k0_pay18 (BitVec.ofNat 32 ((i 1).val / 2 + 1)))
      (k0_pay6 (k0_pay24 x0) mx (View.ld x1 (Rect.unit (s := S1x2048x64) off S1x512x64.size hb))) (ix2 r j)) (fun M' hM' j => ?_) ?_ (fun d => ?_)
  · change k0_pay4 _ _ _ (ix2 r 0) = _ at hM'
    rw [win_at _ i h2 (by omega), weight_at, h.tile_score hb hoff hc, hM', exp_sub, ← EReal.coe_mul, ← win_before r h2]; rfl
  · show k0_pay41 _ _ _ _ _ _ _ = _
    rw [wsum_at]; rfl
  · show k0_pay42 _ _ _ (k0_pay2 _) _ _ _ _ = _
    rw [wacc_at]
    simp only [tile_val x2 hb' hoff hc]; rfl

/-- Both branches' states before the diagonal tile. -/
theorem RowOf.mid_inv (h : RowOf i x0 x1 x3 r s σ) :
    SInv s (fun k => σ (k / 64)) (vals x2) (512 * ((i 1).val / 2)) r (mid i (k0_pay24 x0) (k0_pay25 x3) x1 x2).1
      ∧ SInv s (win (256 * (i 1).val + r.val)) (vals x2) (512 * ((i 1).val / 2)) r (mid i (k0_pay24 x0) (k0_pay25 x3) x1 x2).2 := by
  have hi : (i 1).val < 8 := (i 1).isLt
  have hl := h.loops_inv (x2 := x2)
  unfold Hand.mid
  by_cases hcd : k0_cond1 i = 1#1
  · have h2 := (cond_iff i).1 hcd
    have e : 512 * ((i 1).val / 2) = 512 * ((i 1).val / 2 + 1 - 2) + 512 := by omega
    rw [dif_pos hcd, e]
    constructor
    · have := h.tile (x2 := x2) ⟨(i 1).val / 2 + 1 - 2, by omega⟩ (k0_off3_inb i hcd) (k0_off3_inb i hcd) (off3_eq i h2) hl
      rw [ntW_eq, sub_word h2]
      exact this
    · obtain ⟨M, hM, hmM, -⟩ := hl
      exact h.window_tile h2 _ _ (off3_eq i h2) ⟨M, hmM, hM⟩
  · have h2 : (i 1).val / 2 = 0 := by have := mt (cond_iff i).2 hcd; omega
    rw [dif_neg hcd]
    rw [h2] at hl ⊢
    exact ⟨hl, start_inv _ _ fun k hk => absurd hk (by omega)⟩

/-- The diagonal tile's mask, at a column. -/
theorem diag_mask (i : grid0.Coords) (r : Fin 256) (j : Fin 512) :
    (k0_pay45 (k0_pay26 i) (BitVec.ofNat 32 ((i 1).val / 2 + 1)) (ix2 r j) = 1#1)
      ↔ 512 * ((i 1).val / 2) + j.val ≤ 256 * (i 1).val + r.val := by
  have hi : (i 1).val < 8 := (i 1).isLt
  rw [causal_at i (by omega) (by omega), Nat.add_sub_cancel]
  by_cases h : 512 * ((i 1).val / 2) + j.val ≤ 256 * (i 1).val + r.val
  · rw [if_pos h]; exact ⟨fun _ => h, fun _ => rfl⟩
  · rw [if_neg h]; exact ⟨fun e => absurd e (by decide), fun e => absurd e h⟩

/-- The row of the output block. -/
theorem RowOf.out (h : RowOf i x0 x1 x3 r s σ) (x4 : Vec Ideal S1x256x64 .f32) (x5 : Vec Ideal S1x256x3 .f32) (d : Fin 64) :
    outF i x0 x1 x2 x3 x4 x5 (ix3 0 r d)
      = x5 (ix3 0 r 0) * x4 (ix3 0 r d)
        + x5 (ix3 0 r 1) * attn s (fun k => σ (k / 64)) (vals x2 d) 2048
        + x5 (ix3 0 r 2) * attn s (win (256 * (i 1).val + r.val)) (vals x2 d) 2048 := by
  have hi : (i 1).val < 8 := (i 1).isLt
  have hz : (![0, 0, 0] : Fin 3 → ℕ) = fun _ => 0 := hz3
  have hc : 512 * ((i 1).val / 2) + 512 ≤ 2048 := by omega
  have hoff := off4_eq i
  unfold outF
  rw [View.ld_unit_zero hz, View.ld_unit_zero hz, View.ld_unit_zero hz, View.ld_unit_zero hz]
  obtain ⟨hs, hw⟩ := h.mid_inv (x2 := x2)
  generalize Hand.mid i (k0_pay24 x0) (k0_pay25 x3) x1 x2 = st at hs hw ⊢
  unfold fin
  rw [ntW_eq, sub_word (Nat.le_add_left 1 _), Nat.add_sub_cancel, gated_at, dsum_at]
  obtain ⟨M, hM, hmM, -⟩ := id hs
  obtain ⟨Mw, hMw, hmMw, -⟩ := id hw
  set kT := View.ld x1 (Rect.unit (s := S1x2048x64) (k0_off4 i) S1x512x64.size (k0_off4_inb i)) with hkT
  set vT := View.ld x2 (Rect.unit (s := S1x2048x64) (k0_off4 i) S1x512x64.size (k0_off4_inb i)) with hvT
  set W := BitVec.ofNat 32 ((i 1).val / 2 + 1) with hW
  have hsc : ∀ j : Fin 512, k0_pay3 (k0_pay24 x0) kT (ix2 r j) = (s (512 * ((i 1).val / 2) + j.val) : EReal) := fun j =>
    h.tile_score (k0_off4_inb i) hoff hc j
  have hmax : ∃ M' : ℝ, k0_pay46 (k0_pay24 x0) (k0_pay26 i) W st.1.1 kT (ix2 r 0) = (M' : EReal) ∧ M' ≤ 32 := by
    rw [diagmax_at, hmM]
    refine max_fold_real (by norm_num) hM fun j => ?_
    by_cases hj : k0_pay45 (k0_pay26 i) W (ix2 r j) = 1#1
    · exact ⟨_, by rw [if_pos hj, hsc], (abs_le.1 (h.size _ (by omega))).2⟩
    · obtain ⟨N, hN, hN32⟩ := ofBits_low
      exact ⟨N, by rw [if_neg hj, hN], hN32⟩
  have hwt : ∀ M' : ℝ, k0_pay46 (k0_pay24 x0) (k0_pay26 i) W st.1.1 kT (ix2 r 0) = (M' : EReal) → ∀ j : Fin 512,
      k0_pay48 (k0_pay24 x0) (k0_pay26 i) W st.1.1 kT (ix2 r j)
        = ((wt s (win (256 * (i 1).val + r.val)) M' (512 * ((i 1).val / 2) + j.val) : ℝ) : EReal) := fun M' hM' j => by
    rw [diagw_at, hsc, hM', exp_sub]
    unfold wt win
    by_cases hj : 512 * ((i 1).val / 2) + j.val ≤ 256 * (i 1).val + r.val
    · rw [if_pos ((diag_mask i r j).2 hj), if_pos ⟨hj, by omega⟩, mul_one]
    · rw [if_neg (mt (diag_mask i r j).1 hj), if_neg (fun h => hj h.1), mul_zero, EReal.coe_zero]
  have hfs : SInv s (fun k => σ (k / 64)) (vals x2) (512 * ((i 1).val / 2) + 512) r
      (k0_pay46 (k0_pay24 x0) (k0_pay26 i) W st.1.1 kT,
       fun q => st.1.2.1 q * k0_pay47 (k0_pay24 x0) (k0_pay26 i) W st.1.1 kT q
        + ∑ j : Fin 512, k0_pay51 (k0_pay25 x3) (BitVec.ofNat 32 ((i 1).val / 2)) (k0_pay48 (k0_pay24 x0) (k0_pay26 i) W st.1.1 kT) colI 64#32 k0_pay49 k0_pay50 0#32 (ix2 r j),
       k0_pay52 (k0_pay25 x3) st.1.2.2 (BitVec.ofNat 32 ((i 1).val / 2)) (k0_pay43 vT) (k0_pay47 (k0_pay24 x0) (k0_pay26 i) W st.1.1 kT)
        (k0_pay48 (k0_pay24 x0) (k0_pay26 i) W st.1.1 kT) colI 64#32 k0_pay49 k0_pay50 0#32) := by
    refine Inv.step hs hmax
      (e := fun j => k0_pay51 (k0_pay25 x3) (BitVec.ofNat 32 ((i 1).val / 2)) (k0_pay48 (k0_pay24 x0) (k0_pay26 i) W st.1.1 kT) colI 64#32 k0_pay49 k0_pay50 0#32 (ix2 r j))
      (fun M' hM' j => ?_) ?_ (fun d => ?_)
    · rw [dselw_at _ _ (⟨(i 1).val / 2, by omega⟩ : Fin 4), h.tile_sel ⟨(i 1).val / 2, by omega⟩ j, hwt M' hM', ← EReal.coe_mul]
      congr 1
      unfold wt win
      by_cases hj : 512 * ((i 1).val / 2) + j.val ≤ 256 * (i 1).val + r.val
      · rw [if_pos ⟨hj, by omega⟩, mul_one]
      · have : σ ((512 * ((i 1).val / 2) + j.val) / 64) = 0 := by
          refine (h.bit _).resolve_right fun h1 => ?_
          have := h.past _ (by omega) h1
          omega
        show _ * σ ((512 * ((i 1).val / 2) + j.val) / 64) = _ * σ ((512 * ((i 1).val / 2) + j.val) / 64)
        rw [this, mul_zero, mul_zero]
    · show st.1.2.1 _ * k0_pay47 _ _ _ _ _ _ + _ = _
      rw [diagalpha_at]
    · show k0_pay52 _ _ _ (k0_pay43 _) _ _ _ _ _ _ _ _ = _
      rw [dacc_at, diagalpha_at, hvT]
      simp only [tile_val x2 (k0_off4_inb i) hoff hc]
  have hfw : SInv s (win (256 * (i 1).val + r.val)) (vals x2) (512 * ((i 1).val / 2) + 512) r
      (k0_pay46 (k0_pay24 x0) (k0_pay26 i) W st.1.1 kT,
       k0_pay54 st.2.1 st.2.2.1 (k0_pay46 (k0_pay24 x0) (k0_pay26 i) W st.1.1 kT) (k0_pay48 (k0_pay24 x0) (k0_pay26 i) W st.1.1 kT),
       k0_pay55 st.2.1 st.2.2.2 (k0_pay43 vT) (k0_pay46 (k0_pay24 x0) (k0_pay26 i) W st.1.1 kT) (k0_pay48 (k0_pay24 x0) (k0_pay26 i) W st.1.1 kT)) := by
    refine Inv.step hw hmax (e := fun j => k0_pay48 (k0_pay24 x0) (k0_pay26 i) W st.1.1 kT (ix2 r j)) hwt ?_ (fun d => ?_)
    · show k0_pay54 _ _ _ _ _ = _
      rw [dwsum_at]
    · show k0_pay55 _ _ (k0_pay43 _) _ _ _ = _
      rw [dwacc_at, hvT]
      simp only [tile_val x2 (k0_off4_inb i) hoff hc]
  have hlo : ∀ k < 2048, -32 ≤ s k := fun k hk => (abs_le.1 (h.size k hk)).1
  have e1 := hfs.finish (N := 2048) hc (fun k hk hk' => (h.bit _).resolve_right fun h1 => by
    have := h.past _ (by omega) h1; omega) (fun k => h.bit _) hlo d
  have e2 := hfw.finish (N := 2048) hc (fun k hk hk' => by unfold win; rw [if_neg]; omega)
    (fun k => by unfold win; split_ifs <;> simp) hlo d
  rw [← e1, ← e2]

end Cert.KernelIdeal.Hand

end
-- ==== Proof.Value.lean ====
/- The attention call's result array, as a function of its argument arrays: each grid point's output block is its part of it. -/
module

public import proofs.«01_k».proof.Proof.Run
public import proofs.«01_k».proof.Proof.Row
public import Idealize.ShloMosaic.Lib.Pipeline.Value

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal.Gen Cert.Attn

variable (m : (ℓ : Loc nD τ sig) → Buf (Elt Ideal) ℓ) (ρ : Dev nD → PrngReg)

theorem lt96 (t : Fin cfg0.N) : t.val < 96 := lt_of_lt_of_eq t.isLt N_0

/-- The head of grid point `t`, -/
def headOf (t : Fin cfg0.N) : Fin 12 := ⟨t.val / 8, by have := lt96 t; omega⟩
/-- and the position of its row `r`. -/
def posOf (t : Fin cfg0.N) (r : Fin 256) : Fin 2048 := ⟨256 * (t.val % 8) + r.val, by omega⟩

theorem coord1 (t : Fin cfg0.N) : (grid0.coords t 1).val = t.val % 8 := by
  have h : ∀ t : Fin cfg0.N, (grid0.coords t 1).val = t.val % 8 := by decide +kernel
  exact h t

/-! ## The windows' blocks -/

theorem index_q (t : Fin cfg0.N) : win0_0.index t 0 = t.val / 8 ∧ win0_0.index t 1 = t.val % 8 ∧ win0_0.index t 2 = 0 := by
  revert t; decide +kernel
theorem index_k (t : Fin cfg0.N) : win0_1.index t 0 = 12 + t.val / 8 ∧ win0_1.index t 1 = 0 ∧ win0_1.index t 2 = 0 := by
  revert t; decide +kernel
theorem index_v (t : Fin cfg0.N) : win0_2.index t 0 = 24 + t.val / 8 ∧ win0_2.index t 1 = 0 ∧ win0_2.index t 2 = 0 := by
  revert t; decide +kernel
theorem index_sel (t : Fin cfg0.N) : win0_3.index t 0 = t.val / 8 ∧ win0_3.index t 1 = t.val % 8 ∧ win0_3.index t 2 = 0 := by
  revert t; decide +kernel
theorem index_ocmp (t : Fin cfg0.N) : win0_4.index t 0 = t.val / 8 ∧ win0_4.index t 1 = t.val % 8 ∧ win0_4.index t 2 = 0 := by
  revert t; decide +kernel
theorem index_gate (t : Fin cfg0.N) : win0_5.index t 0 = t.val / 8 ∧ win0_5.index t 1 = t.val % 8 ∧ win0_5.index t 2 = 0 := by
  revert t; decide +kernel
theorem index_out (t : Fin cfg0.N) : win0_6.index t 0 = t.val / 8 ∧ win0_6.index t 1 = t.val % 8 ∧ win0_6.index t 2 = 0 := by
  revert t; decide +kernel

theorem blk_q (c : Dev nD) (t : Fin cfg0.N) (r : Fin 256) (d : Fin 64) :
    iblk m c 0 t (ix3 0 r d) = m ((c : Thread nD τ).loc main_arg0) (ix3 (qh (headOf t)) (posOf t r) d) := by
  refine (congrFun (V_main_arg0 m c) _).trans (congrArg (m ((c : Thread nD τ).loc main_arg0)) (funext fun a => Fin.ext ?_))
  obtain ⟨e0, e1, e2⟩ := index_q t
  fin_cases a
  · show win0_0.index t 0 * 1 + 1 * 0 = t.val / 8; omega
  · show win0_0.index t 1 * 256 + 1 * r.val = 256 * (t.val % 8) + r.val; omega
  · show win0_0.index t 2 * 64 + 1 * d.val = d.val; omega

theorem blk_k (c : Dev nD) (t : Fin cfg0.N) (k : Fin 2048) (d : Fin 64) :
    iblk m c 1 t (ix3 0 k d) = m ((c : Thread nD τ).loc main_arg0) (ix3 (kh (headOf t)) k d) := by
  refine (congrFun (V_main_arg0 m c) _).trans (congrArg (m ((c : Thread nD τ).loc main_arg0)) (funext fun a => Fin.ext ?_))
  obtain ⟨e0, e1, e2⟩ := index_k t
  fin_cases a
  · show win0_1.index t 0 * 1 + 1 * 0 = 12 + t.val / 8; omega
  · show win0_1.index t 1 * 2048 + 1 * k.val = k.val; omega
  · show win0_1.index t 2 * 64 + 1 * d.val = d.val; omega

theorem blk_v (c : Dev nD) (t : Fin cfg0.N) (k : Fin 2048) (d : Fin 64) :
    iblk m c 2 t (ix3 0 k d) = m ((c : Thread nD τ).loc main_arg0) (ix3 (vh (headOf t)) k d) := by
  refine (congrFun (V_main_arg0 m c) _).trans (congrArg (m ((c : Thread nD τ).loc main_arg0)) (funext fun a => Fin.ext ?_))
  obtain ⟨e0, e1, e2⟩ := index_v t
  fin_cases a
  · show win0_2.index t 0 * 1 + 1 * 0 = 24 + t.val / 8; omega
  · show win0_2.index t 1 * 2048 + 1 * k.val = k.val; omega
  · show win0_2.index t 2 * 64 + 1 * d.val = d.val; omega

theorem blk_sel (c : Dev nD) (t : Fin cfg0.N) (r : Fin 256) (b : Fin 32) :
    iblk m c 3 t (ix3 0 r b) = m ((c : Thread nD τ).loc main_arg1) (ix3 (headOf t) (posOf t r) b) := by
  refine (congrFun (V_main_arg1 m c) _).trans (congrArg (m ((c : Thread nD τ).loc main_arg1)) (funext fun a => Fin.ext ?_))
  obtain ⟨e0, e1, e2⟩ := index_sel t
  fin_cases a
  · show win0_3.index t 0 * 1 + 1 * 0 = t.val / 8; omega
  · show win0_3.index t 1 * 256 + 1 * r.val = 256 * (t.val % 8) + r.val; omega
  · show win0_3.index t 2 * 32 + 1 * b.val = b.val; omega

theorem blk_ocmp (c : Dev nD) (t : Fin cfg0.N) (r : Fin 256) (d : Fin 64) :
    iblk m c 4 t (ix3 0 r d) = m ((c : Thread nD τ).loc main_arg2) (ix3 (headOf t) (posOf t r) d) := by
  refine (congrFun (V_main_arg2 m c) _).trans (congrArg (m ((c : Thread nD τ).loc main_arg2)) (funext fun a => Fin.ext ?_))
  obtain ⟨e0, e1, e2⟩ := index_ocmp t
  fin_cases a
  · show win0_4.index t 0 * 1 + 1 * 0 = t.val / 8; omega
  · show win0_4.index t 1 * 256 + 1 * r.val = 256 * (t.val % 8) + r.val; omega
  · show win0_4.index t 2 * 64 + 1 * d.val = d.val; omega

theorem blk_gate (c : Dev nD) (t : Fin cfg0.N) (r : Fin 256) (b : Fin 3) :
    iblk m c 5 t (ix3 0 r b) = m ((c : Thread nD τ).loc main_arg3) (ix3 (headOf t) (posOf t r) b) := by
  refine (congrFun (V_main_arg3 m c) _).trans (congrArg (m ((c : Thread nD τ).loc main_arg3)) (funext fun a => Fin.ext ?_))
  obtain ⟨e0, e1, e2⟩ := index_gate t
  fin_cases a
  · show win0_5.index t 0 * 1 + 1 * 0 = t.val / 8; omega
  · show win0_5.index t 1 * 256 + 1 * r.val = 256 * (t.val % 8) + r.val; omega
  · show win0_5.index t 2 * 3 + 1 * b.val = b.val; omega

/-! ## The result array -/

/-- The gated attention of core `c`'s arguments, as the result array. -/
def result (c : Dev nD) : Buf (Elt Ideal) ((c : Thread nD τ).loc main_v0) := fun i =>
  gated (m ((c : Thread nD τ).loc main_arg0)) (m ((c : Thread nD τ).loc main_arg1)) (m ((c : Thread nD τ).loc main_arg2))
    (m ((c : Thread nD τ).loc main_arg3)) (i 0) (i 1) (i 2)

variable {m}

/-- What is known of a query row, from what is asked of the arguments. -/
theorem row_of (c : Dev nD) (g : Good (m ((c : Thread nD τ).loc main_arg0)) (m ((c : Thread nD τ).loc main_arg1))) (t : Fin cfg0.N) (r : Fin 256) :
    RowOf (grid0.coords t) (iblk m c 0 t) (iblk m c 1 t) (iblk m c 3 t) r
      (score (m ((c : Thread nD τ).loc main_arg0)) (headOf t) (posOf t r)) (pick (m ((c : Thread nD τ).loc main_arg1)) (headOf t) (posOf t r)) where
  score k hk := by
    rw [← g.dots_eq _ _ k hk, dots, ofBits_scale, sum_mul_real _ _ (by norm_num)]
    exact Finset.sum_congr rfl fun d _ => by rw [blk_q, blk_k, mul_right_comm]
  size k hk := g.score_le _ _ k hk
  sel b hb := by rw [blk_sel, g.pick_eq]
  bit b := g.pick_bit _ _ b
  past b hb h1 := by
    rw [coord1]; exact g.pick_past _ _ b hb h1

theorem vals_eq (c : Dev nD) (t : Fin cfg0.N) (d : Fin 64) :
    vals (iblk m c 2 t) d = valsOf (m ((c : Thread nD τ).loc main_arg0)) (headOf t) d := by
  funext k
  unfold vals valsOf
  by_cases hk : k < 2048
  · rw [dif_pos hk, dif_pos hk, blk_v]
  · rw [dif_neg hk, dif_neg hk]

/-- An entry of grid point `t`'s output block. -/
theorem out_row (c : Dev nD) (g : Good (m ((c : Thread nD τ).loc main_arg0)) (m ((c : Thread nD τ).loc main_arg1))) (t : Fin cfg0.N) (r : Fin 256) (d : Fin 64) :
    outAt m c t (ix3 0 r d)
      = gated (m ((c : Thread nD τ).loc main_arg0)) (m ((c : Thread nD τ).loc main_arg1)) (m ((c : Thread nD τ).loc main_arg2))
          (m ((c : Thread nD τ).loc main_arg3)) (headOf t) (posOf t r) d := by
  unfold outAt
  rw [(row_of c g t r).out, blk_gate, blk_gate, blk_gate, blk_ocmp, vals_eq, coord1]
  rfl

/-- Grid point `t` writes back its block of the result. -/
theorem flushed_eq (c : Dev nD) (g : Good (m ((c : Thread nD τ).loc main_arg0)) (m ((c : Thread nD τ).loc main_arg1))) (t : Fin cfg0.N) :
    (flashDat m 0 c).flushed 6 t = (win0_6.blk t).view.read (Elt Ideal) (result m c) := by
  show (cfg0.win 6).cut (grid0.coords t) ((flashDat m 0 c).after 6 t) = _
  rw [after_out]
  funext y
  obtain ⟨e0, e1, e2⟩ := index_out t
  have h0 : (y 0).val < 1 := (y 0).isLt
  have ey : y = ix3 (0 : Fin 1) (y 1) (y 2) := by
    funext a; fin_cases a
    · exact Fin.ext (by show (y 0).val = 0; omega)
    · rfl
    · rfl
  rw [ey]
  refine (out_row c g t (y 1) (y 2)).trans ?_
  show gated _ _ _ _ _ _ _ = gated _ _ _ _ _ _ _
  congr 1
  · exact Fin.ext (by show t.val / 8 = win0_6.index t 0 * 1 + 1 * 0; omega)
  · exact Fin.ext (by show 256 * (t.val % 8) + (y 1).val = win0_6.index t 1 * 256 + 1 * (y 1).val; omega)
  · exact Fin.ext (by show (y 2).val = win0_6.index t 2 * 64 + 1 * (y 2).val; omega)

/-- An index of the result array is in grid point `t`'s block. -/
theorem mem_blk (t : Fin cfg0.N) (i : S12x2048x64.Idx) :
    i ∈ ((cfg0.win 6).blk t).view.set ↔ (i 0).val = t.val / 8 ∧ (i 1).val / 256 = t.val % 8 := by
  show i ∈ ((View.whole main_v0).slice (win0_6.rect t)).set ↔ _
  rw [View.set_slice_whole, Rect.mem_set_unit]
  obtain ⟨e0, e1, e2⟩ := index_out t
  have h2 : (i 2).val < 64 := (i 2).isLt
  constructor
  · intro h
    have a0 : win0_6.index t 0 * 1 ≤ (i 0).val ∧ (i 0).val < win0_6.index t 0 * 1 + 1 := h 0
    have a1 : win0_6.index t 1 * 256 ≤ (i 1).val ∧ (i 1).val < win0_6.index t 1 * 256 + 256 := h 1
    omega
  · rintro ⟨a0, a1⟩ a
    match a with
    | ⟨0, _⟩ => show win0_6.index t 0 * 1 ≤ (i 0).val ∧ (i 0).val < win0_6.index t 0 * 1 + 1; omega
    | ⟨1, _⟩ => show win0_6.index t 1 * 256 ≤ (i 1).val ∧ (i 1).val < win0_6.index t 1 * 256 + 256; omega
    | ⟨2, _⟩ => show win0_6.index t 2 * 64 ≤ (i 2).val ∧ (i 2).val < win0_6.index t 2 * 64 + 64; omega

/-- The blocks cover the result array. -/
theorem cover (i : S12x2048x64.Idx) : ∃ t : Fin cfg0.N, (cfg0.win 6).flush t = true ∧ i ∈ ((cfg0.win 6).blk t).view.set := by
  have h0 : (i 0).val < 12 := (i 0).isLt
  have h1 : (i 1).val < 2048 := (i 1).isLt
  have hN : cfg0.N = 96 := N_0
  refine ⟨⟨8 * (i 0).val + (i 1).val / 256, by omega⟩, flush0_6 _, ?_⟩
  rw [mem_blk]
  dsimp only
  omega

/-- The result array ends at the gated attention of the arguments. -/
theorem final_out (c : Dev nD) (g : Good (m ((c : Thread nD τ).loc main_arg0)) (m ((c : Thread nD τ).loc main_arg1))) :
    (flashDat m 0 c).arrAt 6 cfg0.N = result m c :=
  (flashDat m 0 c).arrAt_eq_of_cover 6 (result m c) (fun t _ => flushed_eq c g t) cover

/-- Every execution at the ideal instance ends with the result array at the gated attention of the arguments, and the arguments unchanged. -/
theorem run_value (g : ∀ c : Dev nD, Good (m ((c : Thread nD τ).loc main_arg0)) (m ((c : Thread nD τ).loc main_arg1))) :
    θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).1 6).trans (final_out c (g c)),
        ((h c).1 2).trans (((flashDat m 0 c).arrAt_in 2 rfl _).trans ((dat_A m c 2).trans (V_main_arg0 m c))),
        ((h c).1 3).trans (((flashDat m 0 c).arrAt_in 3 rfl _).trans ((dat_A m c 3).trans (V_main_arg1 m c))),
        ((h c).1 4).trans (((flashDat m 0 c).arrAt_in 4 rfl _).trans ((dat_A m c 4).trans (V_main_arg2 m c))),
        ((h c).1 5).trans (((flashDat m 0 c).arrAt_in 5 rfl _).trans ((dat_A m c 5).trans (V_main_arg3 m c)))⟩)
    (run_mem m ρ)

end Cert.KernelIdeal.Hand

end
-- ==== Proof.RefRead.lean ====
/- The reference's result, read at an index. -/
module

public import proofs.«01_k».proof.Proof.Gen.ReferenceIdeal.Run
public import proofs.«01_k».proof.Proof.Spec
public import proofs.«01_k».proof.Proof.Words

@[expose] public section

set_option maxRecDepth 16384

noncomputable section

namespace Cert.ReferenceIdeal.Hand

open Idealize.ShloMosaic Cert.ReferenceIdeal Cert.ReferenceIdeal.Gen Cert.Attn

/-- A masked softmax of scores, applied to values, as the reference writes it, -/
def soft (M : IVec S12x2048x2048 1) (X : FVec Ideal S12x2048x2048 .f32) (v : FVec Ideal S12x2048x64 .f32) : FVec Ideal S12x2048x64 .f32 :=
  Host.dotGeneral dot_S12x2048x2048_S12x2048x64_S12x2048x64_2_1_1_2_0_0 none (Host.divf (select M (Host.exp (subf (select M X (broadcastInDim S12x2048x2048 ![] bcast_S_S12x2048x2048 (constant S_ .f32 0xFF7FFFFF#32))) (broadcastInDim S12x2048x2048 ![0, 1, 2] bcast_S12x2048x1_S12x2048x2048_0_1_2 (broadcastInDim S12x2048x1 ![0, 1] bcast_S12x2048_S12x2048x1_0_1 (Host.reduce FloatOps.maximumf (select M X (broadcastInDim S12x2048x2048 ![] bcast_S_S12x2048x2048 (constant S_ .f32 0xFF7FFFFF#32))) (constant S_ .f32 0xFF800000#32) reducesTo_S12x2048x2048_S12x2048_d2 h_S_))))) (broadcastInDim S12x2048x2048 ![] bcast_S_S12x2048x2048 (id (constant S_ .f32 0x00000000#32)))) (broadcastInDim S12x2048x2048 ![0, 1, 2] bcast_S12x2048x1_S12x2048x2048_0_1_2 (maximumf (broadcastInDim S12x2048x1 ![0, 1] bcast_S12x2048_S12x2048x1_0_1 (Host.reduceAdd (select M (Host.exp (subf (select M X (broadcastInDim S12x2048x2048 ![] bcast_S_S12x2048x2048 (constant S_ .f32 0xFF7FFFFF#32))) (broadcastInDim S12x2048x2048 ![0, 1, 2] bcast_S12x2048x1_S12x2048x2048_0_1_2 (broadcastInDim S12x2048x1 ![0, 1] bcast_S12x2048_S12x2048x1_0_1 (Host.reduce FloatOps.maximumf (select M X (broadcastInDim S12x2048x2048 ![] bcast_S_S12x2048x2048 (constant S_ .f32 0xFF7FFFFF#32))) (constant S_ .f32 0xFF800000#32) reducesTo_S12x2048x2048_S12x2048_d2 h_S_))))) (broadcastInDim S12x2048x2048 ![] bcast_S_S12x2048x2048 (id (constant S_ .f32 0x00000000#32)))) (constant S_ .f32 0x00000000#32) reducesTo_S12x2048x2048_S12x2048_d2 h_S_)) (broadcastInDim S12x2048x1 ![] bcast_S_S12x2048x1 (constant S_ .f32 0x0DA24260#32))))) v

/-- The maximum of a row's masked scores. -/
def rowMax (M : IVec S12x2048x2048 1) (X : FVec Ideal S12x2048x2048 .f32) (h : Fin 12) (p : Fin 2048) : EReal :=
  Finset.univ.fold max (⊥ : EReal) fun k : Fin 2048 => if M (ix3 h p k) = 1#1 then X (ix3 h p k) else Ideal.ofBits .f32 0xFF7FFFFF#32

/-- and read at an index. -/
theorem soft_at (M : IVec S12x2048x2048 1) (X : FVec Ideal S12x2048x2048 .f32) (v : FVec Ideal S12x2048x64 .f32)
    (h : Fin 12) (p : Fin 2048) (d : Fin 64) :
    soft M X v (ix3 h p d) = ∑ k : Fin 2048, Ideal.div
        (if M (ix3 h p k) = 1#1 then Ideal.exp ((if M (ix3 h p k) = 1#1 then X (ix3 h p k) else Ideal.ofBits .f32 0xFF7FFFFF#32) - rowMax M X h p) else 0)
        (max (∑ j : Fin 2048, if M (ix3 h p j) = 1#1 then Ideal.exp ((if M (ix3 h p j) = 1#1 then X (ix3 h p j) else Ideal.ofBits .f32 0xFF7FFFFF#32) - rowMax M X h p) else 0)
          (Ideal.ofBits .f32 0x0DA24260#32)) * v (ix3 h k d) := by
  unfold rowMax
  rw [← ofBits_ninf]
  simp only [soft, id_eq]
  pointwise
  rfl

/-- Where the row's mask is the weight, the scores are the real numbers and the values are given: the weighted average. -/
theorem soft_row (M : IVec S12x2048x2048 1) (X : FVec Ideal S12x2048x2048 .f32) (v : FVec Ideal S12x2048x64 .f32)
    (h : Fin 12) (p : Fin 2048) (d : Fin 64) {s w : ℕ → ℝ} {u : ℕ → EReal} (hw : ∀ k, w k = 0 ∨ w k = 1)
    (hM : ∀ k : Fin 2048, M (ix3 h p k) = 1#1 ↔ w k.val = 1) (hX : ∀ k : Fin 2048, X (ix3 h p k) = (s k.val : EReal))
    (hs : ∀ k < 2048, |s k| ≤ 32) (hv : ∀ k : Fin 2048, v (ix3 h k d) = u k.val) :
    soft M X v (ix3 h p d) = attn s w u 2048 := by
  obtain ⟨B, hB, hB32⟩ : ∃ B : ℝ, rowMax M X h p = (B : EReal) ∧ B ≤ 32 := by
    refine fold_max_real (by norm_num) fun k => ?_
    by_cases hk : M (ix3 h p k) = 1#1
    · exact ⟨_, by rw [if_pos hk, hX], (abs_le.1 (hs _ k.isLt)).2⟩
    · obtain ⟨N, hN, hN32⟩ := ofBits_low
      exact ⟨N, by rw [if_neg hk, hN], hN32⟩
  have hwt : ∀ k : Fin 2048, (if M (ix3 h p k) = 1#1 then
      Ideal.exp ((if M (ix3 h p k) = 1#1 then X (ix3 h p k) else Ideal.ofBits .f32 0xFF7FFFFF#32) - rowMax M X h p) else 0)
        = ((wt s w B k.val : ℝ) : EReal) := fun k => by
    unfold wt
    by_cases hk : M (ix3 h p k) = 1#1
    · rw [if_pos hk, if_pos hk, hX, hB, exp_sub, (hM k).1 hk, mul_one]
    · rw [if_neg hk, (hw k.val).resolve_right (mt (hM k).2 hk), mul_zero, EReal.coe_zero]
  rw [soft_at, ← avg_each hB32 hw (fun k hk => (abs_le.1 (hs k hk)).1) u]
  simp only [hwt, hv]
  rw [← coe_sum, Fin.sum_univ_eq_sum_range (fun k => wt s w B k) 2048, ← Fin.sum_univ_eq_sum_range (fun k => Ideal.div ((wt s w B k : ℝ) : EReal) _ * u k) 2048]
  rfl

/-- The scaled scores, -/
def scores (A : FVec Ideal S36x2048x64 .f32) : FVec Ideal S12x2048x2048 .f32 :=
  mulf (Host.dotGeneral dot_S12x2048x64_S12x2048x64_S12x2048x2048_2_2_1_1_0_0 none (extractStridedSlice S12x2048x64 ![0, 0, 0] A slices_S36x2048x64_S12x2048x64_0_0_0) (extractStridedSlice S12x2048x64 ![12, 0, 0] A slices_S36x2048x64_S12x2048x64_12_0_0)) (broadcastInDim S12x2048x2048 ![] bcast_S_S12x2048x2048 (constant S_ .f32 0x3E000000#32))
/-- the mask of the selected blocks -/
def selMask (S : FVec Ideal S12x2048x32 .f32) : IVec S12x2048x2048 1 :=
  cmpf .ogt (shapeCast _ (broadcastInDim S12x2048x32x64 ![0, 1, 2] bcast_S12x2048x32_S12x2048x32x64_0_1_2 S) shapeCasts_S12x2048x32x64_S12x2048x2048) (broadcastInDim S12x2048x2048 ![] bcast_S_S12x2048x2048 (constant S_ .f32 0x3F000000#32))
/-- and of the window; -/
def winMask : IVec S12x2048x2048 1 :=
  broadcastInDim S12x2048x2048 ![0, 1, 2] bcast_S1x2048x2048_S12x2048x2048_0_1_2 (broadcastInDim S1x2048x2048 ![1, 2] bcast_S2048x2048_S1x2048x2048_1_2 (andi (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))) (cmpi .sle (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))) (broadcastInDim S2048x2048 ![] bcast_S_S2048x2048 (constantI S_ 32 512#32)))))
/-- the values. -/
def values (A : FVec Ideal S36x2048x64 .f32) : FVec Ideal S12x2048x64 .f32 :=
  extractStridedSlice S12x2048x64 ![24, 0, 0] A slices_S36x2048x64_S12x2048x64_24_0_0

theorem scores_at (A : Qkv) (h : Fin 12) (p k : Fin 2048) : scores A (ix3 h p k) = dots A h p k := by
  pointwise [scores]
  rfl

theorem values_at (A : Qkv) (h : Fin 12) (k : Fin 2048) (d : Fin 64) : values A (ix3 h k d) = A (ix3 (vh h) k d) := by
  pointwise [values]
  rfl

theorem selMask_at (S : Sel) (h : Fin 12) (p k : Fin 2048) :
    selMask S (ix3 h p k) = Ideal.cmp .ogt (S (ix3 h p ⟨k.val / 64, by omega⟩)) (Ideal.ofBits .f32 0x3F000000#32) := by
  pointwise [selMask]

theorem winMask_at (h : Fin 12) (p k : Fin 2048) : winMask (ix3 h p k) = 1#1 ↔ win p.val k.val = 1 := by
  pointwise [winMask]
  rw [causal_word (by omega) (by omega), window_word (by omega) (by omega)]
  unfold win
  by_cases h1 : k.val ≤ p.val
  · by_cases h2 : p.val ≤ k.val + 512
    · rw [if_pos h1, if_pos h2, if_pos ⟨h1, h2⟩]; exact ⟨fun _ => rfl, fun _ => by decide⟩
    · rw [if_pos h1, if_neg h2, if_neg (show ¬(k.val ≤ p.val ∧ p.val ≤ k.val + 512) from fun h => h2 h.2)]; exact ⟨fun e => absurd e (by decide), fun e => absurd e (by norm_num)⟩
  · rw [if_neg h1, if_neg (show ¬(k.val ≤ p.val ∧ p.val ≤ k.val + 512) from fun h => h1 h.1)]
    refine ⟨fun e => absurd e ?_, fun e => absurd e (by norm_num)⟩
    split_ifs <;> decide

/-- The reference's result is the gated attention of its arguments. -/
theorem result_at (m : (ℓ : Loc nD τ sig) → Buf (Elt Ideal) ℓ) (c : Dev nD)
    (g : Good (m ((c.tc : Thread nD τ).loc main_arg0)) (m ((c.tc : Thread nD τ).loc main_arg1))) (h : Fin 12) (p : Fin 2048) (d : Fin 64) :
    Value.res_main_v62 m c (ix3 h p d)
      = gated (m ((c.tc : Thread nD τ).loc main_arg0)) (m ((c.tc : Thread nD τ).loc main_arg1)) (m ((c.tc : Thread nD τ).loc main_arg2))
          (m ((c.tc : Thread nD τ).loc main_arg3)) h p d := by
  have e : Value.res_main_v62 m c = addf (addf (mulf (m ((c.tc : Thread nD τ).loc main_arg2)) (broadcastInDim S12x2048x64 ![0, 1, 2] bcast_S12x2048x1_S12x2048x64_0_1_2 (extractStridedSlice S12x2048x1 ![0, 0, 0] (m ((c.tc : Thread nD τ).loc main_arg3)) slices_S12x2048x3_S12x2048x1_0_0_0)))
      (mulf (soft (selMask (m ((c.tc : Thread nD τ).loc main_arg1))) (scores (m ((c.tc : Thread nD τ).loc main_arg0))) (values (m ((c.tc : Thread nD τ).loc main_arg0)))) (broadcastInDim S12x2048x64 ![0, 1, 2] bcast_S12x2048x1_S12x2048x64_0_1_2 (extractStridedSlice S12x2048x1 ![0, 0, 1] (m ((c.tc : Thread nD τ).loc main_arg3)) slices_S12x2048x3_S12x2048x1_0_0_1))))
      (mulf (soft winMask (scores (m ((c.tc : Thread nD τ).loc main_arg0))) (values (m ((c.tc : Thread nD τ).loc main_arg0)))) (broadcastInDim S12x2048x64 ![0, 1, 2] bcast_S12x2048x1_S12x2048x64_0_1_2 (extractStridedSlice S12x2048x1 ![0, 0, 2] (m ((c.tc : Thread nD τ).loc main_arg3)) slices_S12x2048x3_S12x2048x1_0_0_2))) := rfl
  have hv : ∀ k : Fin 2048, values (m ((c.tc : Thread nD τ).loc main_arg0)) (ix3 h k d) = valsOf (m ((c.tc : Thread nD τ).loc main_arg0)) h d k.val := fun k => by
    rw [values_at, valsOf, dif_pos k.isLt]
  have hX : ∀ k : Fin 2048, scores (m ((c.tc : Thread nD τ).loc main_arg0)) (ix3 h p k) = (score (m ((c.tc : Thread nD τ).loc main_arg0)) h p k.val : EReal) := fun k => by
    rw [scores_at, g.dots_eq h p k.val k.isLt]
  have h1 := soft_row (selMask (m ((c.tc : Thread nD τ).loc main_arg1))) _ _ h p d (w := fun k => pick (m ((c.tc : Thread nD τ).loc main_arg1)) h p (k / 64))
    (fun k => g.pick_bit _ _ _) (fun k => by
      rw [selMask_at, g.pick_eq h p _ (by omega), ofBits_half]
      show BitVec.ofBool (decide _) = 1#1 ↔ _
      rcases g.pick_bit h p (k.val / 64) with e | e <;> rw [e]
      · exact ⟨fun h => absurd h (by rw [decide_eq_false (by rw [EReal.coe_lt_coe_iff]; norm_num)]; decide), fun h => absurd h (by norm_num)⟩
      · exact ⟨fun _ => rfl, fun _ => by rw [decide_eq_true (by rw [EReal.coe_lt_coe_iff]; norm_num)]; rfl⟩)
    hX (g.score_le h p) hv
  have h2 := soft_row winMask _ _ h p d (w := win p.val) (fun k => by unfold win; split_ifs <;> simp) (winMask_at h p) hX (g.score_le h p) hv
  rw [e]
  unfold gated
  rw [← h1, ← h2]
  pointwise
  rw [mul_comm, mul_comm (soft (selMask _) _ _ _), mul_comm (soft winMask _ _ _)]

end Cert.ReferenceIdeal.Hand

end
-- ==== Proof.PreRead.lean ====
/- What the precondition asks of the attention call's arguments, read at an index. -/
module

public import proofs.«01_k».proof.Defs
public import proofs.«01_k».proof.Proof.Gen.Pre_bounded
public import proofs.«01_k».proof.Proof.Spec
public import proofs.«01_k».proof.Proof.Words

@[expose] public section

set_option maxRecDepth 16384

noncomputable section

namespace Cert.Pre_bounded.Hand

open Idealize.ShloMosaic Cert.Pre_bounded Cert.Pre_bounded.Gen Cert.Attn

variable (A : FVec Ideal S36x2048x64 .f32) (S : FVec Ideal S12x2048x32 .f32) (O : FVec Ideal S12x2048x64 .f32) (G : FVec Ideal S12x2048x3 .f32)

theorem bound_at (h : Fin 12) (p k : Fin 2048) :
    (fn (F := Ideal) A S O G).1 (ix3 h p k) = BitVec.ofBool (decide (max (dots A h p k) (-dots A h p k) ≤ Ideal.ofBits .f32 0x42000000#32)) := by
  pointwise [fn, fn_part1]
  rfl

theorem sel_at (h : Fin 12) (p : Fin 2048) (b : Fin 32) :
    (fn (F := Ideal) A S O G).2 (ix3 h p b) = IntOp.ori (BitVec.ofBool (decide (S (ix3 h p b) = 0)))
      (IntOp.andi (BitVec.ofBool (decide (S (ix3 h p b) = Ideal.ofBits .f32 0x3F800000#32)))
        (IntOp.cmpi .sle (IntOp.addi (IntOp.muli (BitVec.ofNat 32 b.val) 64#32) 64#32) (BitVec.ofNat 32 p.val))) := by
  pointwise [fn, fn_part1]

/-- An extended real whose size is at most a real number is a real number of that size. -/
theorem real_of_le {x : EReal} {B : ℝ} (h : max x (-x) ≤ (B : EReal)) : ∃ r : ℝ, x = (r : EReal) ∧ |r| ≤ B := by
  have h1 := (le_max_left _ _).trans h
  have h2 := (le_max_right _ _).trans h
  induction x using EReal.rec with
  | bot => exact absurd h2 (by rw [EReal.neg_bot]; exact not_le.2 (EReal.coe_lt_top B))
  | top => exact absurd h1 (not_le.2 (EReal.coe_lt_top B))
  | coe r =>
    rw [← EReal.coe_neg, EReal.coe_le_coe_iff] at h2
    rw [EReal.coe_le_coe_iff] at h1
    exact ⟨r, rfl, abs_le.2 ⟨by linarith, h1⟩⟩

/-- A block's end, compared with a position, as words. -/
theorem past_word (b : Fin 32) (p : Fin 2048)
    (h : IntOp.cmpi .sle (IntOp.addi (IntOp.muli (BitVec.ofNat 32 b.val) 64#32) 64#32) (BitVec.ofNat 32 p.val) = 1#1) :
    64 * b.val + 64 ≤ p.val := by
  have e : IntOp.addi (IntOp.muli (BitVec.ofNat 32 b.val) 64#32) 64#32 = BitVec.ofNat 32 (64 * b.val + 64) := by
    clear h; revert b; decide +kernel
  rw [e] at h
  change BitVec.ofBool ((BitVec.ofNat 32 (64 * b.val + 64)).sle (BitVec.ofNat 32 p.val)) = 1#1 at h
  rw [BitVec.sle, toInt_small (by omega), toInt_small (by omega)] at h
  by_contra hn
  rw [decide_eq_false (by omega)] at h
  exact absurd h (by decide)

/-- The precondition gives what is asked of the arguments. -/
theorem good (h1 : (fn (F := Ideal) A S O G).1 = fun _ => 1#1) (h2 : (fn (F := Ideal) A S O G).2 = fun _ => 1#1) : Good A S where
  bound h p k := by
    have := congrFun h1 (ix3 h p k)
    rw [bound_at, ofBits_bound] at this
    refine real_of_le ?_
    by_contra hn
    rw [decide_eq_false hn] at this
    exact absurd this (by decide)
  sel h p b := by
    have := congrFun h2 (ix3 h p b)
    rw [sel_at, ofBits_one] at this
    by_cases h0 : S (ix3 h p b) = 0
    · exact .inl h0
    · right
      rw [decide_eq_false h0] at this
      by_cases h1 : S (ix3 h p b) = ((1 : ℝ) : EReal)
      · refine ⟨h1, past_word b p ?_⟩
        rw [decide_eq_true h1] at this
        revert this
        generalize IntOp.cmpi .sle _ _ = w
        revert w; decide
      · rw [decide_eq_false h1] at this
        have hw : ∀ w : BitVec 1, IntOp.ori (BitVec.ofBool false) (IntOp.andi (BitVec.ofBool false) w) ≠ 1#1 := by decide
        exact absurd this (hw _)

end Cert.Pre_bounded.Hand

end
-- ==== Proof.Proj.lean ====
/- The projection call: its two result arrays as functions of its argument arrays, and the reference's, read at an index. -/
module

public import proofs.«01_k».proof.Proof.Gen.Kernel2Ideal.Value
public import proofs.«01_k».proof.Proof.Gen.Reference2Ideal.Run
public import Idealize.ShloMosaic.Lib.Pointwise
public import Idealize.ShloMosaic.Lib.Pipeline.ValueKit.Basic
public import Idealize.ShloMosaic.Lib.Pipeline.ValueKit.Tiles

@[expose] public section

set_option maxRecDepth 16384

noncomputable section

namespace Cert.Proj

open Idealize.ShloMosaic

/-- The weights of head `h`'s column `d`, of the queries', the keys' and the values' heads in turn. -/
def weight (A B C : FVec Ideal ⟨2, ![768, 768]⟩ .f32) (h : Fin 36) (d : Fin 64) (e : Fin 768) : EReal :=
  if h1 : h.val < 12 then A (ix2 ⟨64 * h.val + d.val, by omega⟩ e)
  else if h2 : h.val < 24 then B (ix2 ⟨64 * (h.val - 12) + d.val, by omega⟩ e)
  else C (ix2 ⟨64 * (h.val - 24) + d.val, by omega⟩ e)

/-- An entry of the projections. -/
def proj (X : FVec Ideal ⟨3, ![1, 2048, 768]⟩ .f32) (A B C : FVec Ideal ⟨2, ![768, 768]⟩ .f32) (h : Fin 36) (s : Fin 2048) (d : Fin 64) : EReal :=
  ∑ e : Fin 768, X (ix3 0 s e) * weight A B C h d e

/-- A gate. -/
def gate (X : FVec Ideal ⟨3, ![1, 2048, 768]⟩ .f32) (U : FVec Ideal ⟨2, ![384, 768]⟩ .f32) (W : FVec Ideal ⟨2, ![36, 384]⟩ .f32) (s : Fin 2048) (g : Fin 36) : EReal :=
  Ideal.logistic (∑ x : Fin 384, (∑ e : Fin 768, X (ix3 0 s e) * U (ix2 x e)) * Ideal.logistic (∑ e : Fin 768, X (ix3 0 s e) * U (ix2 x e)) * W (ix2 g x))

end Cert.Proj

namespace Cert.Kernel2Ideal.Hand

open Idealize.ShloMosaic Idealize.ShloMosaic.TcCoe Idealize.SL.Sem
open Idealize.ShloMosaic.Pipeline (Dat)
open Cert.Kernel2Ideal Cert.Kernel2Ideal.Gen Cert.Proj

variable (m : (ℓ : Loc nD τ sig) → Buf (Elt Ideal) ℓ) (ρ : Dev nD → PrngReg)

/-- A projected entry, from a block of rows and the weights of all heads. -/
def rowDot (x0 : Vec Ideal S256x768 .f32) (x1 : Vec Ideal S36x64x768 .f32) (y : S36x256x64.Idx) : EReal :=
  ∑ e : Fin 768, x0 (ix2 (y 1) e) * x1 (ix3 (y 0) (y 2) e)

/-- A piece that writes one head's entries holds them wherever it lies. -/
theorem piece_at (x0 : Vec Ideal S256x768 .f32) (x1 : Vec Ideal S36x64x768 .f32) (y : S36x256x64.Idx) (k : Fin 36) {off : Fin 3 → ℕ} {hb}
    {P : Vec Ideal S1x256x64 .f32} (hoff : off = ![k.val, 0, 0])
    (hP : ∀ (r : Fin 256) (d : Fin 64), P (ix3 0 r d) = ∑ e : Fin 768, x0 (ix2 r e) * x1 (ix3 k d e)) :
    View.RectAt (Val := Elt Ideal) (e := .f32) y (Rect.unit (s := S36x256x64) off S1x256x64.size hb) P (rowDot x0 x1 y) := by
  subst hoff
  intro x hx
  subst hx
  have h0 : (x 0).val < 1 := (x 0).isLt
  have ex : x = ix3 (0 : Fin 1) (x 1) (x 2) := by
    funext a; fin_cases a
    · exact Fin.ext (by show (x 0).val = 0; omega)
    · rfl
    · rfl
  refine (congrArg P ex).trans ((hP (x 1) (x 2)).trans (Finset.sum_congr rfl fun e _ => ?_))
  refine congrArg₂ (fun a b => x0 a * x1 b) (funext fun a => Fin.ext ?_) (funext fun a => Fin.ext ?_)
  · fin_cases a
    · show (x 1).val = 0 + 1 * (x 1).val; omega
    · rfl
  · fin_cases a
    · show k.val = k.val + 1 * (x 0).val; omega
    · show (x 2).val = 0 + 1 * (x 2).val; omega
    · rfl

/-- An entry of the body's first output block. -/
theorem out_at (x0 : Vec Ideal S256x768 .f32) (x1 : Vec Ideal S36x64x768 .f32) (x2 : Vec Ideal S384x768 .f32) (x3 : Vec Ideal S36x384 .f32)
    (y : S36x256x64.Idx) : out0_4 x0 x1 x2 x3 y = rowDot x0 x1 y := by
  unfold out0_4
  refine View.canon_eq_of_allAt _ y _ (cover0_4 _ _ _ _ _ _ _ _ _ _ _ _ _ _ _ _ _ _ _ _ _ _ _ _ _ _ _ _ _ _ _ _ _ _ _ _ y) ?_
  refine View.allAt_cons _ _ _ (piece_at x0 x1 y 35 rfl fun r d => by pointwise [k0_pay2, k0_pay43, k0_pay4]) ?_
  refine View.allAt_cons _ _ _ (piece_at x0 x1 y 34 rfl fun r d => by pointwise [k0_pay1, k0_pay43, k0_pay4]) ?_
  refine View.allAt_cons _ _ _ (piece_at x0 x1 y 33 rfl fun r d => by pointwise [k0_pay42, k0_pay43, k0_pay4]) ?_
  refine View.allAt_cons _ _ _ (piece_at x0 x1 y 32 rfl fun r d => by pointwise [k0_pay41, k0_pay43, k0_pay4]) ?_
  refine View.allAt_cons _ _ _ (piece_at x0 x1 y 31 rfl fun r d => by pointwise [k0_pay40, k0_pay43, k0_pay4]) ?_
  refine View.allAt_cons _ _ _ (piece_at x0 x1 y 30 rfl fun r d => by pointwise [k0_pay39, k0_pay43, k0_pay4]) ?_
  refine View.allAt_cons _ _ _ (piece_at x0 x1 y 29 rfl fun r d => by pointwise [k0_pay37, k0_pay38, k0_pay43, k0_pay4]) ?_
  refine View.allAt_cons _ _ _ (piece_at x0 x1 y 28 rfl fun r d => by pointwise [k0_pay36, k0_pay43, k0_pay4]) ?_
  refine View.allAt_cons _ _ _ (piece_at x0 x1 y 27 rfl fun r d => by pointwise [k0_pay35, k0_pay43, k0_pay4]) ?_
  refine View.allAt_cons _ _ _ (piece_at x0 x1 y 26 rfl fun r d => by pointwise [k0_pay34, k0_pay43, k0_pay4]) ?_
  refine View.allAt_cons _ _ _ (piece_at x0 x1 y 25 rfl fun r d => by pointwise [k0_pay32, k0_pay33, k0_pay43, k0_pay4]) ?_
  refine View.allAt_cons _ _ _ (piece_at x0 x1 y 24 rfl fun r d => by pointwise [k0_pay31, k0_pay43, k0_pay4]) ?_
  refine View.allAt_cons _ _ _ (piece_at x0 x1 y 23 rfl fun r d => by pointwise [k0_pay30, k0_pay43, k0_pay4]) ?_
  refine View.allAt_cons _ _ _ (piece_at x0 x1 y 22 rfl fun r d => by pointwise [k0_pay29, k0_pay43, k0_pay4]) ?_
  refine View.allAt_cons _ _ _ (piece_at x0 x1 y 21 rfl fun r d => by pointwise [k0_pay28, k0_pay43, k0_pay4]) ?_
  refine View.allAt_cons _ _ _ (piece_at x0 x1 y 20 rfl fun r d => by pointwise [k0_pay27, k0_pay43, k0_pay4]) ?_
  refine View.allAt_cons _ _ _ (piece_at x0 x1 y 19 rfl fun r d => by pointwise [k0_pay26, k0_pay43, k0_pay4]) ?_
  refine View.allAt_cons _ _ _ (piece_at x0 x1 y 18 rfl fun r d => by pointwise [k0_pay25, k0_pay43, k0_pay4]) ?_
  refine View.allAt_cons _ _ _ (piece_at x0 x1 y 17 rfl fun r d => by pointwise [k0_pay24, k0_pay43, k0_pay4]) ?_
  refine View.allAt_cons _ _ _ (piece_at x0 x1 y 16 rfl fun r d => by pointwise [k0_pay22, k0_pay23, k0_pay43, k0_pay4]) ?_
  refine View.allAt_cons _ _ _ (piece_at x0 x1 y 15 rfl fun r d => by pointwise [k0_pay21, k0_pay43, k0_pay4]) ?_
  refine View.allAt_cons _ _ _ (piece_at x0 x1 y 14 rfl fun r d => by pointwise [k0_pay20, k0_pay43, k0_pay4]) ?_
  refine View.allAt_cons _ _ _ (piece_at x0 x1 y 13 rfl fun r d => by pointwise [k0_pay19, k0_pay43, k0_pay4]) ?_
  refine View.allAt_cons _ _ _ (piece_at x0 x1 y 12 rfl fun r d => by pointwise [k0_pay17, k0_pay18, k0_pay43, k0_pay4]) ?_
  refine View.allAt_cons _ _ _ (piece_at x0 x1 y 11 rfl fun r d => by pointwise [k0_pay16, k0_pay43, k0_pay4]) ?_
  refine View.allAt_cons _ _ _ (piece_at x0 x1 y 10 rfl fun r d => by pointwise [k0_pay15, k0_pay43, k0_pay4]) ?_
  refine View.allAt_cons _ _ _ (piece_at x0 x1 y 9 rfl fun r d => by pointwise [k0_pay14, k0_pay43, k0_pay4]) ?_
  refine View.allAt_cons _ _ _ (piece_at x0 x1 y 8 rfl fun r d => by pointwise [k0_pay13, k0_pay43, k0_pay4]) ?_
  refine View.allAt_cons _ _ _ (piece_at x0 x1 y 7 rfl fun r d => by pointwise [k0_pay12, k0_pay43, k0_pay4]) ?_
  refine View.allAt_cons _ _ _ (piece_at x0 x1 y 6 rfl fun r d => by pointwise [k0_pay11, k0_pay43, k0_pay4]) ?_
  refine View.allAt_cons _ _ _ (piece_at x0 x1 y 5 rfl fun r d => by pointwise [k0_pay10, k0_pay43, k0_pay4]) ?_
  refine View.allAt_cons _ _ _ (piece_at x0 x1 y 4 rfl fun r d => by pointwise [k0_pay43, k0_pay9, k0_pay4]) ?_
  refine View.allAt_cons _ _ _ (piece_at x0 x1 y 3 rfl fun r d => by pointwise [k0_pay8, k0_pay4]) ?_
  refine View.allAt_cons _ _ _ (piece_at x0 x1 y 2 rfl fun r d => by pointwise [k0_pay7, k0_pay4]) ?_
  refine View.allAt_cons _ _ _ (piece_at x0 x1 y 1 rfl fun r d => by pointwise [k0_pay6, k0_pay4]) ?_
  refine View.allAt_cons _ _ _ (piece_at x0 x1 y 0 rfl fun r d => by pointwise [k0_pay5, k0_pay4]) ?_
  exact View.allAt_nil _ _

/-- An entry of the body's second output block. -/
theorem gate_at (x0 : Vec Ideal S256x768 .f32) (x1 : Vec Ideal S36x64x768 .f32) (x2 : Vec Ideal S384x768 .f32) (x3 : Vec Ideal S36x384 .f32)
    (r : Fin 256) (g : Fin 36) : out0_5 x0 x1 x2 x3 (ix2 r g)
      = Ideal.logistic (∑ x : Fin 384, (∑ e : Fin 768, x0 (ix2 r e) * x2 (ix2 x e)) * Ideal.logistic (∑ e : Fin 768, x0 (ix2 r e) * x2 (ix2 x e)) * x3 (ix2 g x)) := by
  unfold out0_5
  rw [View.canon_cons_unit_lit _ _ _ (by decide)]
  pointwise [k0_pay3, k0_pay43, k0_pay4]

theorem V_x (c : Dev nD) : V m c main_v0 = shapeCast S2048x768 (m ((c : Thread nD τ).loc main_arg0)) shapeCasts_S1x2048x768_S2048x768 := by
  unfold V
  after_results <;> rfl

theorem V_w (c : Dev nD) : V m c main_v2 = shapeCast S36x64x768 (concatenate S2304x768 0 [⟨S768x768, (m ((c : Thread nD τ).loc main_arg1) : FVec Ideal S768x768 .f32)⟩, ⟨S768x768, (m ((c : Thread nD τ).loc main_arg2) : FVec Ideal S768x768 .f32)⟩, ⟨S768x768, (m ((c : Thread nD τ).loc main_arg3) : FVec Ideal S768x768 .f32)⟩] concatenates_S768x768_S768x768_S768x768_S2304x768_d0) shapeCasts_S2304x768_S36x64x768 := by
  unfold V
  after_results <;> rfl

theorem w_at (A B C : FVec Ideal S768x768 .f32) (h : Fin 36) (d : Fin 64) (e : Fin 768) :
    shapeCast S36x64x768 (concatenate S2304x768 0 [⟨S768x768, A⟩, ⟨S768x768, B⟩, ⟨S768x768, C⟩] concatenates_S768x768_S768x768_S768x768_S2304x768_d0) shapeCasts_S2304x768_S36x64x768 (ix3 h d e)
      = weight A B C h d e := by
  pointwise
  unfold weight
  by_cases h1 : h.val < 12
  · have h1' : h.val * 64 + d.val < 768 := by omega
    rw [dif_pos h1, dif_pos h1']
    exact congrArg (fun j => A (ix2 j e)) (Fin.ext (by show h.val * 64 + d.val = 64 * h.val + d.val; omega))
  · have h1' : ¬ h.val * 64 + d.val < 768 := by omega
    rw [dif_neg h1, dif_neg h1']
    by_cases h2 : h.val < 24
    · have h2' : h.val * 64 + d.val - 768 < 768 := by omega
      rw [dif_pos h2, dif_pos h2']
      exact congrArg (fun j => B (ix2 j e)) (Fin.ext (by show h.val * 64 + d.val - 768 = 64 * (h.val - 12) + d.val; omega))
    · have h2' : ¬ h.val * 64 + d.val - 768 < 768 := by omega
      rw [dif_neg h2, dif_neg h2']
      exact congrArg (fun j => C (ix2 j e)) (Fin.ext (by show h.val * 64 + d.val - 768 - 768 = 64 * (h.val - 24) + d.val; omega))

theorem gate_of (x0 : Vec Ideal S256x768 .f32) (x2 : Vec Ideal S384x768 .f32) (x3 : Vec Ideal S36x384 .f32)
    (X : FVec Ideal S1x2048x768 .f32) (U : FVec Ideal S384x768 .f32) (W : FVec Ideal S36x384 .f32) (r : Fin 256) (g : Fin 36) {s : Fin 2048}
    (h0 : ∀ e : Fin 768, x0 (ix2 r e) = X (ix3 0 s e)) (h2 : ∀ (x : Fin 384) (e : Fin 768), x2 (ix2 x e) = U (ix2 x e))
    (h3 : ∀ x : Fin 384, x3 (ix2 g x) = W (ix2 g x)) :
    Ideal.logistic (∑ x : Fin 384, (∑ e : Fin 768, x0 (ix2 r e) * x2 (ix2 x e)) * Ideal.logistic (∑ e : Fin 768, x0 (ix2 r e) * x2 (ix2 x e)) * x3 (ix2 g x))
      = gate X U W s g := by
  unfold gate
  simp only [h0, h2, h3]

theorem lt8 (t : Fin cfg0.N) : t.val < 8 := lt_of_lt_of_eq t.isLt N_0

/-- The position of row `r` of grid point `t`. -/
def posOf (t : Fin cfg0.N) (r : Fin 256) : Fin 2048 := ⟨256 * t.val + r.val, by have := lt8 t; omega⟩

theorem index_x (t : Fin cfg0.N) : win0_0.index t 0 = t.val ∧ win0_0.index t 1 = 0 := by
  revert t; decide +kernel
theorem index_w (t : Fin cfg0.N) : win0_1.index t 0 = 0 ∧ win0_1.index t 1 = 0 ∧ win0_1.index t 2 = 0 := by
  revert t; decide +kernel
theorem index_u (t : Fin cfg0.N) : win0_2.index t 0 = 0 ∧ win0_2.index t 1 = 0 := by
  revert t; decide +kernel
theorem index_g (t : Fin cfg0.N) : win0_3.index t 0 = 0 ∧ win0_3.index t 1 = 0 := by
  revert t; decide +kernel
theorem index_out (t : Fin cfg0.N) : win0_4.index t 0 = 0 ∧ win0_4.index t 1 = t.val ∧ win0_4.index t 2 = 0 := by
  revert t; decide +kernel
theorem index_gate (t : Fin cfg0.N) : win0_5.index t 0 = t.val ∧ win0_5.index t 1 = 0 := by
  revert t; decide +kernel

theorem x_at (X : FVec Ideal S1x2048x768 .f32) (s : Fin 2048) (e : Fin 768) :
    shapeCast S2048x768 X shapeCasts_S1x2048x768_S2048x768 (ix2 s e) = X (ix3 0 s e) := by
  pointwise

theorem blk_x (c : Dev nD) (t : Fin cfg0.N) (r : Fin 256) (e : Fin 768) :
    iblk m c 0 t (ix2 r e) = m ((c : Thread nD τ).loc main_arg0) (ix3 0 (posOf t r) e) := by
  refine (congrFun (V_x m c) _).trans (Eq.trans (congrArg _ (funext fun a => Fin.ext ?_)) (x_at (m ((c : Thread nD τ).loc main_arg0)) (posOf t r) e))
  obtain ⟨e0, e1⟩ := index_x t
  fin_cases a
  · show win0_0.index t 0 * 256 + 1 * r.val = 256 * t.val + r.val; omega
  · show win0_0.index t 1 * 768 + 1 * e.val = e.val; omega

theorem blk_w (c : Dev nD) (t : Fin cfg0.N) (h : Fin 36) (d : Fin 64) (e : Fin 768) :
    iblk m c 1 t (ix3 h d e)
      = weight (m ((c : Thread nD τ).loc main_arg1)) (m ((c : Thread nD τ).loc main_arg2)) (m ((c : Thread nD τ).loc main_arg3)) h d e := by
  refine (congrFun (V_w m c) _).trans (Eq.trans (congrArg _ (funext fun a => Fin.ext ?_)) (w_at _ _ _ h d e))
  obtain ⟨e0, e1, e2⟩ := index_w t
  fin_cases a
  · show win0_1.index t 0 * 36 + 1 * h.val = h.val; omega
  · show win0_1.index t 1 * 64 + 1 * d.val = d.val; omega
  · show win0_1.index t 2 * 768 + 1 * e.val = e.val; omega

theorem blk_u (c : Dev nD) (t : Fin cfg0.N) (x : Fin 384) (e : Fin 768) :
    iblk m c 2 t (ix2 x e) = m ((c : Thread nD τ).loc main_arg4) (ix2 x e) := by
  refine (congrFun (V_main_arg4 m c) _).trans (congrArg (m ((c : Thread nD τ).loc main_arg4)) (funext fun a => Fin.ext ?_))
  obtain ⟨e0, e1⟩ := index_u t
  fin_cases a
  · show win0_2.index t 0 * 384 + 1 * x.val = x.val; omega
  · show win0_2.index t 1 * 768 + 1 * e.val = e.val; omega

theorem blk_g (c : Dev nD) (t : Fin cfg0.N) (g : Fin 36) (x : Fin 384) :
    iblk m c 3 t (ix2 g x) = m ((c : Thread nD τ).loc main_arg5) (ix2 g x) := by
  refine (congrFun (V_main_arg5 m c) _).trans (congrArg (m ((c : Thread nD τ).loc main_arg5)) (funext fun a => Fin.ext ?_))
  obtain ⟨e0, e1⟩ := index_g t
  fin_cases a
  · show win0_3.index t 0 * 36 + 1 * g.val = g.val; omega
  · show win0_3.index t 1 * 384 + 1 * x.val = x.val; omega

/-- The projections of core `c`'s arguments, as the first result array, -/
def result (c : Dev nD) : Buf (Elt Ideal) ((c : Thread nD τ).loc main_v3_0) := fun i =>
  proj (m ((c : Thread nD τ).loc main_arg0)) (m ((c : Thread nD τ).loc main_arg1)) (m ((c : Thread nD τ).loc main_arg2)) (m ((c : Thread nD τ).loc main_arg3)) (i 0) (i 1) (i 2)

/-- and the gates, as the second. -/
def gates (c : Dev nD) : Buf (Elt Ideal) ((c : Thread nD τ).loc main_v3_1) := fun i =>
  gate (m ((c : Thread nD τ).loc main_arg0)) (m ((c : Thread nD τ).loc main_arg4)) (m ((c : Thread nD τ).loc main_arg5)) (i 0) (i 1)

/-- An entry of grid point `t`'s first output block, -/
theorem out_row (c : Dev nD) (t : Fin cfg0.N) (h : Fin 36) (r : Fin 256) (d : Fin 64) :
    out0_4 (iblk m c 0 t) (iblk m c 1 t) (iblk m c 2 t) (iblk m c 3 t) (ix3 h r d)
      = proj (m ((c : Thread nD τ).loc main_arg0)) (m ((c : Thread nD τ).loc main_arg1)) (m ((c : Thread nD τ).loc main_arg2)) (m ((c : Thread nD τ).loc main_arg3)) h (posOf t r) d := by
  refine (out_at _ _ _ _ _).trans ?_
  exact Finset.sum_congr rfl fun e _ => congrArg₂ (fun a b : EReal => a * b) (blk_x m c t r e) (blk_w m c t h d e)

/-- and one of its second. -/
theorem gate_row (c : Dev nD) (t : Fin cfg0.N) (r : Fin 256) (g : Fin 36) :
    out0_5 (iblk m c 0 t) (iblk m c 1 t) (iblk m c 2 t) (iblk m c 3 t) (ix2 r g)
      = gate (m ((c : Thread nD τ).loc main_arg0)) (m ((c : Thread nD τ).loc main_arg4)) (m ((c : Thread nD τ).loc main_arg5)) (posOf t r) g :=
  (gate_at _ _ _ _ r g).trans (gate_of _ _ _ _ _ _ r g (blk_x m c t r) (blk_u m c t) (blk_g m c t g))

/-- Grid point `t` writes back its block of the projections, -/
theorem flushed_eq (c : Dev nD) (t : Fin cfg0.N) : (dats m 0 c).flushed 4 t = (win0_4.blk t).view.read (Elt Ideal) (result m c) := by
  rw [Value.flushed4]
  funext y
  obtain ⟨e0, e1, e2⟩ := index_out t
  have ey : y = ix3 (y 0) (y 1) (y 2) := by
    funext a; fin_cases a <;> rfl
  rw [ey]
  refine (out_row m c t (y 0) (y 1) (y 2)).trans ?_
  show proj _ _ _ _ _ _ _ = proj _ _ _ _ _ _ _
  congr 1
  · exact Fin.ext (by show (y 0).val = win0_4.index t 0 * 36 + 1 * (y 0).val; omega)
  · exact Fin.ext (by show 256 * t.val + (y 1).val = win0_4.index t 1 * 256 + 1 * (y 1).val; omega)
  · exact Fin.ext (by show (y 2).val = win0_4.index t 2 * 64 + 1 * (y 2).val; omega)

/-- and its block of the gates. -/
theorem gates_flushed (c : Dev nD) (t : Fin cfg0.N) : (dats m 0 c).flushed 5 t = (win0_5.blk t).view.read (Elt Ideal) (gates m c) := by
  rw [Value.flushed5]
  funext y
  obtain ⟨e0, e1⟩ := index_gate t
  have ey : y = ix2 (y 0) (y 1) := by
    funext a; fin_cases a <;> rfl
  rw [ey]
  refine (gate_row m c t (y 0) (y 1)).trans ?_
  show gate _ _ _ _ _ = gate _ _ _ _ _
  congr 1
  · exact Fin.ext (by show 256 * t.val + (y 0).val = win0_5.index t 0 * 256 + 1 * (y 0).val; omega)
  · exact Fin.ext (by show (y 1).val = win0_5.index t 1 * 36 + 1 * (y 1).val; omega)

/-- An index of the first result array is in grid point `t`'s block, -/
theorem mem_blk (t : Fin cfg0.N) (i : S36x2048x64.Idx) : i ∈ ((cfg0.win 4).blk t).view.set ↔ (i 1).val / 256 = t.val := by
  show i ∈ ((View.whole main_v3_0).slice (win0_4.rect t)).set ↔ _
  rw [View.set_slice_whole, Rect.mem_set_unit]
  obtain ⟨e0, e1, e2⟩ := index_out t
  have h0 : (i 0).val < 36 := (i 0).isLt
  have h2 : (i 2).val < 64 := (i 2).isLt
  constructor
  · intro h
    have a1 : win0_4.index t 1 * 256 ≤ (i 1).val ∧ (i 1).val < win0_4.index t 1 * 256 + 256 := h 1
    omega
  · intro a1 a
    match a with
    | ⟨0, _⟩ => show win0_4.index t 0 * 36 ≤ (i 0).val ∧ (i 0).val < win0_4.index t 0 * 36 + 36; omega
    | ⟨1, _⟩ => show win0_4.index t 1 * 256 ≤ (i 1).val ∧ (i 1).val < win0_4.index t 1 * 256 + 256; omega
    | ⟨2, _⟩ => show win0_4.index t 2 * 64 ≤ (i 2).val ∧ (i 2).val < win0_4.index t 2 * 64 + 64; omega

/-- and one of the second. -/
theorem mem_gates (t : Fin cfg0.N) (i : S2048x36.Idx) : i ∈ ((cfg0.win 5).blk t).view.set ↔ (i 0).val / 256 = t.val := by
  show i ∈ ((View.whole main_v3_1).slice (win0_5.rect t)).set ↔ _
  rw [View.set_slice_whole, Rect.mem_set_unit]
  obtain ⟨e0, e1⟩ := index_gate t
  have h1 : (i 1).val < 36 := (i 1).isLt
  constructor
  · intro h
    have a0 : win0_5.index t 0 * 256 ≤ (i 0).val ∧ (i 0).val < win0_5.index t 0 * 256 + 256 := h 0
    omega
  · intro a0 a
    match a with
    | ⟨0, _⟩ => show win0_5.index t 0 * 256 ≤ (i 0).val ∧ (i 0).val < win0_5.index t 0 * 256 + 256; omega
    | ⟨1, _⟩ => show win0_5.index t 1 * 36 ≤ (i 1).val ∧ (i 1).val < win0_5.index t 1 * 36 + 36; omega

/-- The first result array ends at the projections of the arguments, -/
theorem final_out (c : Dev nD) : (dats m 0 c).arrAt 4 cfg0.N = result m c :=
  (dats m 0 c).arrAt_eq_of_cover 4 (result m c) (fun t _ => flushed_eq m c t) fun i => by
    have h1 : (i 1).val < 2048 := (i 1).isLt
    have hN : cfg0.N = 8 := N_0
    exact ⟨⟨(i 1).val / 256, by omega⟩, flush0_4 _, (mem_blk _ i).2 rfl⟩

/-- and the second at the gates. -/
theorem final_gates (c : Dev nD) : (dats m 0 c).arrAt 5 cfg0.N = gates m c :=
  (dats m 0 c).arrAt_eq_of_cover 5 (gates m c) (fun t _ => gates_flushed m c t) fun i => by
    have h0 : (i 0).val < 2048 := (i 0).isLt
    have hN : cfg0.N = 8 := N_0
    exact ⟨⟨(i 0).val / 256, by omega⟩, flush0_5 _, (mem_gates _ i).2 rfl⟩

end Cert.Kernel2Ideal.Hand

namespace Cert.Reference2Ideal.Hand
open Idealize.ShloMosaic Idealize.ShloMosaic.TcCoe Idealize.SL.Sem
open Cert.Reference2Ideal Cert.Reference2Ideal.Gen Cert.Proj

/-- The heads of one product, as the reference writes them, -/
def heads (X : FVec Ideal S1x2048x768 .f32) (W : FVec Ideal S768x768 .f32) : FVec Ideal S12x2048x64 .f32 :=
  shapeCast S12x2048x64 (transpose S1x12x2048x64 [0, 2, 1, 3] (shapeCast S1x2048x12x64 (Host.dotGeneral dot_S1x2048x768_S768x768_S1x2048x768_2_0_01_1_n_n none X (transpose S768x768 [1, 0] W transposes_S768x768_S768x768_1_0)) shapeCasts_S1x2048x768_S1x2048x12x64) transposes_S1x2048x12x64_S1x12x2048x64_0_2_1_3) shapeCasts_S1x12x2048x64_S12x2048x64

/-- and read at an index. -/
theorem heads_at (X : FVec Ideal S1x2048x768 .f32) (W : FVec Ideal S768x768 .f32) (h : Fin 12) (s : Fin 2048) (d : Fin 64) :
    heads X W (ix3 h s d) = ∑ e : Fin 768, X (ix3 0 s e) * W (ix2 ⟨64 * h.val + d.val, by omega⟩ e) := by
  simp only [heads]
  pointwise
  exact Finset.sum_congr rfl fun e _ => congrArg (fun j => X (ix3 0 s e) * W (ix2 j e)) (Fin.ext (by show h.val * 64 + d.val = 64 * h.val + d.val; omega))

/-- Three families of heads, one after the other. -/
theorem cat_at (A B C : FVec Ideal S12x2048x64 .f32) (h : Fin 36) (s : Fin 2048) (d : Fin 64) :
    concatenate S36x2048x64 0 [⟨S12x2048x64, A⟩, ⟨S12x2048x64, B⟩, ⟨S12x2048x64, C⟩] concatenates_S12x2048x64_S12x2048x64_S12x2048x64_S36x2048x64_d0 (ix3 h s d)
      = if h1 : h.val < 12 then A (ix3 ⟨h.val, h1⟩ s d) else if h2 : h.val - 12 < 12 then B (ix3 ⟨h.val - 12, h2⟩ s d)
        else C (ix3 ⟨h.val - 12 - 12, by omega⟩ s d) := by
  pointwise

/-- The reference's projections, read at an index, -/
theorem ref_at (X : FVec Ideal S1x2048x768 .f32) (A B C : FVec Ideal S768x768 .f32) (h : Fin 36) (s : Fin 2048) (d : Fin 64) :
    concatenate S36x2048x64 0 [⟨S12x2048x64, heads X A⟩, ⟨S12x2048x64, heads X B⟩, ⟨S12x2048x64, heads X C⟩] concatenates_S12x2048x64_S12x2048x64_S12x2048x64_S36x2048x64_d0 (ix3 h s d)
      = proj X A B C h s d := by
  rw [cat_at]
  unfold proj weight
  by_cases h1 : h.val < 12
  · rw [dif_pos h1, heads_at]
    exact Finset.sum_congr rfl fun e _ => by rw [dif_pos h1]
  · rw [dif_neg h1]
    by_cases h2 : h.val < 24
    · rw [dif_pos (show h.val - 12 < 12 by omega), heads_at]
      exact Finset.sum_congr rfl fun e _ => by rw [dif_neg h1, dif_pos h2]
    · rw [dif_neg (show ¬ h.val - 12 < 12 by omega), heads_at]
      exact Finset.sum_congr rfl fun e _ => by
        rw [dif_neg h1, dif_neg h2]
        exact congrArg (fun j => X (ix3 0 s e) * C (ix2 j e)) (Fin.ext (by show 64 * (h.val - 12 - 12) + d.val = 64 * (h.val - 24) + d.val; omega))

/-- and its gates. -/
theorem refgate_at (X : FVec Ideal S1x2048x768 .f32) (W1 : FVec Ideal S384x768 .f32) (W2 : FVec Ideal S36x384 .f32) (s : Fin 2048) (g : Fin 36) :
   (shapeCast S2048x36 (Host.divf (broadcastInDim S1x2048x36 ![] bcast_S_S1x2048x36 (constant S_ .f32 0x3F800000#32)) (addf (broadcastInDim S1x2048x36 ![] bcast_S_S1x2048x36 (constant S_ .f32 0x3F800000#32)) (Host.exp (Host.negf (Host.dotGeneral dot_S1x2048x384_S384x36_S1x2048x36_2_0_01_1_n_n none (mulf (Host.dotGeneral dot_S1x2048x768_S768x384_S1x2048x384_2_0_01_1_n_n none X (transpose S768x384 [1, 0] W1 transposes_S384x768_S768x384_1_0)) (Host.divf (broadcastInDim S1x2048x384 ![] bcast_S_S1x2048x384 (constant S_ .f32 0x3F800000#32)) (addf (broadcastInDim S1x2048x384 ![] bcast_S_S1x2048x384 (constant S_ .f32 0x3F800000#32)) (Host.exp (Host.negf (Host.dotGeneral dot_S1x2048x768_S768x384_S1x2048x384_2_0_01_1_n_n none X (transpose S768x384 [1, 0] W1 transposes_S384x768_S768x384_1_0))))))) (transpose S384x36 [1, 0] W2 transposes_S36x384_S384x36_1_0)))))) shapeCasts_S1x2048x36_S2048x36 : FVec Ideal S2048x36 .f32) (ix2 s g) = gate X W1 W2 s g := by
  pointwise
  rfl

end Cert.Reference2Ideal.Hand

end
-- ==== Proof.Oproj.lean ====
/- The output projection call: its result array as a function of its argument arrays, and the reference's, read at an index. -/
module

public import proofs.«01_k».proof.Proof.Gen.Kernel3Ideal.Value
public import proofs.«01_k».proof.Proof.Gen.Reference3Ideal.Run
public import Idealize.ShloMosaic.Lib.Pointwise
public import Idealize.ShloMosaic.Lib.Pipeline.ValueKit.Basic
public import Idealize.ShloMosaic.Lib.Pipeline.ValueKit.Tiles

@[expose] public section

set_option maxRecDepth 16384

noncomputable section

namespace Cert.Oproj

open Idealize.ShloMosaic

/-- The product of a position's rows, all heads side by side, with a row of the output weights. -/
def oproj (r : FVec Ideal ⟨3, ![12, 2048, 64]⟩ .f32) (w : FVec Ideal ⟨2, ![768, 768]⟩ .f32) (s : Fin 2048) (n : Fin 768) : EReal :=
  ∑ h : Fin 12, ∑ d : Fin 64, r (ix3 h s d) * w (ix2 n ⟨64 * h.val + d.val, by omega⟩)

/-- A sum over the columns of all heads, head by head. -/
theorem sum_heads (f : Fin 768 → EReal) : ∑ e : Fin 768, f e = ∑ h : Fin 12, ∑ d : Fin 64, f ⟨64 * h.val + d.val, by omega⟩ := by
  rw [← Finset.sum_product', Finset.univ_product_univ]
  refine (Fintype.sum_equiv (finProdFinEquiv (m := 12) (n := 64)) _ f fun p => ?_).symm
  exact congrArg f (Fin.ext (by simp [finProdFinEquiv]; omega))

end Cert.Oproj

namespace Cert.Kernel3Ideal.Hand

open Idealize.ShloMosaic Idealize.ShloMosaic.TcCoe Idealize.SL.Sem
open Idealize.ShloMosaic.Pipeline (Dat)
open Cert.Kernel3Ideal Cert.Kernel3Ideal.Gen Cert.Oproj

variable (m : (ℓ : Loc nD τ sig) → Buf (Elt Ideal) ℓ) (ρ : Dev nD → PrngReg)

/-- An entry of the body's output block. -/
theorem out_at (x0 : Vec Ideal S12x256x64 .f32) (x1 : Vec Ideal S12x64x768 .f32) (r : Fin 256) (n : Fin 768) :
    out0_2 x0 x1 (ix2 r n) = ∑ h : Fin 12, ∑ d : Fin 64, x0 (ix3 h r d) * x1 (ix3 h d n) := by
  unfold out0_2
  rw [View.canon_cons_unit_lit _ _ _ (by decide)]
  pointwise [k0_pay1, k0_pay2, k0_pay3, k0_pay4]
  rw [Fin.sum_univ_castSucc (n := 11), Fin.sum_univ_castSucc (n := 10), Fin.sum_univ_castSucc (n := 9), Fin.sum_univ_castSucc (n := 8), Fin.sum_univ_castSucc (n := 7), Fin.sum_univ_castSucc (n := 6), Fin.sum_univ_castSucc (n := 5), Fin.sum_univ_castSucc (n := 4), Fin.sum_univ_castSucc (n := 3), Fin.sum_univ_castSucc (n := 2), Fin.sum_univ_castSucc (n := 1), Fin.sum_univ_castSucc (n := 0), Fin.sum_univ_zero, zero_add]
  rfl

theorem V_w (c : Dev nD) : V m c main_v1 = transpose S12x64x768 [1, 2, 0] (shapeCast S768x12x64 (m ((c : Thread nD τ).loc main_arg1)) shapeCasts_S768x768_S768x12x64) transposes_S768x12x64_S12x64x768_1_2_0 := by
  unfold V
  after_results <;> rfl

theorem w_at (X : FVec Ideal S768x768 .f32) (h : Fin 12) (d : Fin 64) (n : Fin 768) :
    transpose S12x64x768 [1, 2, 0] (shapeCast S768x12x64 X shapeCasts_S768x768_S768x12x64) transposes_S768x12x64_S12x64x768_1_2_0 (ix3 h d n)
      = X (ix2 n ⟨64 * h.val + d.val, by omega⟩) := by
  pointwise
  exact congrArg (fun e => X (ix2 n e)) (Fin.ext (by show h.val * 64 + d.val = 64 * h.val + d.val; omega))

theorem lt8 (t : Fin cfg0.N) : t.val < 8 := lt_of_lt_of_eq t.isLt N_0

/-- The position of row `r` of grid point `t`. -/
def posOf (t : Fin cfg0.N) (r : Fin 256) : Fin 2048 := ⟨256 * t.val + r.val, by have := lt8 t; omega⟩

theorem index_r (t : Fin cfg0.N) : win0_0.index t 0 = 0 ∧ win0_0.index t 1 = t.val ∧ win0_0.index t 2 = 0 := by
  revert t; decide +kernel
theorem index_w (t : Fin cfg0.N) : win0_1.index t 0 = 0 ∧ win0_1.index t 1 = 0 ∧ win0_1.index t 2 = 0 := by
  revert t; decide +kernel
theorem index_out (t : Fin cfg0.N) : win0_2.index t 0 = t.val ∧ win0_2.index t 1 = 0 := by
  revert t; decide +kernel

theorem blk_r (c : Dev nD) (t : Fin cfg0.N) (h : Fin 12) (r : Fin 256) (d : Fin 64) :
    iblk m c 0 t (ix3 h r d) = m ((c : Thread nD τ).loc main_arg0) (ix3 h (posOf t r) d) := by
  refine (congrFun (V_main_arg0 m c) _).trans (congrArg (m ((c : Thread nD τ).loc main_arg0)) (funext fun a => Fin.ext ?_))
  obtain ⟨e0, e1, e2⟩ := index_r t
  fin_cases a
  · show win0_0.index t 0 * 12 + 1 * h.val = h.val; omega
  · show win0_0.index t 1 * 256 + 1 * r.val = 256 * t.val + r.val; omega
  · show win0_0.index t 2 * 64 + 1 * d.val = d.val; omega

theorem blk_w (c : Dev nD) (t : Fin cfg0.N) (h : Fin 12) (d : Fin 64) (n : Fin 768) :
    iblk m c 1 t (ix3 h d n) = m ((c : Thread nD τ).loc main_arg1) (ix2 n ⟨64 * h.val + d.val, by omega⟩) := by
  refine (congrFun (V_w m c) _).trans (Eq.trans (congrArg _ (funext fun a => Fin.ext ?_)) (w_at (m ((c : Thread nD τ).loc main_arg1)) h d n))
  obtain ⟨e0, e1, e2⟩ := index_w t
  fin_cases a
  · show win0_1.index t 0 * 12 + 1 * h.val = h.val; omega
  · show win0_1.index t 1 * 64 + 1 * d.val = d.val; omega
  · show win0_1.index t 2 * 768 + 1 * n.val = n.val; omega

/-- The output projection of core `c`'s arguments, as the result array. -/
def result (c : Dev nD) : Buf (Elt Ideal) ((c : Thread nD τ).loc main_v2) := fun i =>
  oproj (m ((c : Thread nD τ).loc main_arg0)) (m ((c : Thread nD τ).loc main_arg1)) (i 0) (i 1)

/-- An entry of grid point `t`'s output block. -/
theorem out_row (c : Dev nD) (t : Fin cfg0.N) (r : Fin 256) (n : Fin 768) :
    out0_2 (iblk m c 0 t) (iblk m c 1 t) (ix2 r n)
      = oproj (m ((c : Thread nD τ).loc main_arg0)) (m ((c : Thread nD τ).loc main_arg1)) (posOf t r) n := by
  refine (out_at _ _ r n).trans ?_
  exact Finset.sum_congr rfl fun h _ => Finset.sum_congr rfl fun d _ => by rw [blk_r, blk_w]

/-- Grid point `t` writes back its block of the result. -/
theorem flushed_eq (c : Dev nD) (t : Fin cfg0.N) : (dats m 0 c).flushed 2 t = (win0_2.blk t).view.read (Elt Ideal) (result m c) := by
  rw [Value.flushed2]
  funext y
  obtain ⟨e0, e1⟩ := index_out t
  have ey : y = ix2 (y 0) (y 1) := by
    funext a; fin_cases a <;> rfl
  rw [ey]
  refine (out_row m c t (y 0) (y 1)).trans ?_
  show oproj _ _ _ _ = oproj _ _ _ _
  congr 1
  · exact Fin.ext (by show 256 * t.val + (y 0).val = win0_2.index t 0 * 256 + 1 * (y 0).val; omega)
  · exact Fin.ext (by show (y 1).val = win0_2.index t 1 * 768 + 1 * (y 1).val; omega)

/-- An index of the result array is in grid point `t`'s block. -/
theorem mem_blk (t : Fin cfg0.N) (i : S2048x768.Idx) : i ∈ ((cfg0.win 2).blk t).view.set ↔ (i 0).val / 256 = t.val := by
  show i ∈ ((View.whole main_v2).slice (win0_2.rect t)).set ↔ _
  rw [View.set_slice_whole, Rect.mem_set_unit]
  obtain ⟨e0, e1⟩ := index_out t
  have h1 : (i 1).val < 768 := (i 1).isLt
  constructor
  · intro h
    have a0 : win0_2.index t 0 * 256 ≤ (i 0).val ∧ (i 0).val < win0_2.index t 0 * 256 + 256 := h 0
    omega
  · intro a0 a
    match a with
    | ⟨0, _⟩ => show win0_2.index t 0 * 256 ≤ (i 0).val ∧ (i 0).val < win0_2.index t 0 * 256 + 256; omega
    | ⟨1, _⟩ => show win0_2.index t 1 * 768 ≤ (i 1).val ∧ (i 1).val < win0_2.index t 1 * 768 + 768; omega

/-- The blocks cover the result array. -/
theorem cover (i : S2048x768.Idx) : ∃ t : Fin cfg0.N, (cfg0.win 2).flush t = true ∧ i ∈ ((cfg0.win 2).blk t).view.set := by
  have h0 : (i 0).val < 2048 := (i 0).isLt
  have hN : cfg0.N = 8 := N_0
  exact ⟨⟨(i 0).val / 256, by omega⟩, flush0_2 _, (mem_blk _ i).2 rfl⟩

/-- The result array ends at the output projection of the arguments. -/
theorem final_out (c : Dev nD) : (dats m 0 c).arrAt 2 cfg0.N = result m c :=
  (dats m 0 c).arrAt_eq_of_cover 2 (result m c) (fun t _ => flushed_eq m c t) cover

end Cert.Kernel3Ideal.Hand

namespace Cert.Reference3Ideal.Hand
open Idealize.ShloMosaic Idealize.ShloMosaic.TcCoe Idealize.SL.Sem
open Cert.Reference3Ideal Cert.Reference3Ideal.Gen Cert.Oproj

theorem ref_at (X : FVec Ideal S12x2048x64 .f32) (W : FVec Ideal S768x768 .f32) (s : Fin 2048) (n : Fin 768) :
    (shapeCast S2048x768 (Host.dotGeneral dot_S1x2048x768_S768x768_S1x2048x768_2_0_01_1_n_n none (shapeCast S1x2048x768 (transpose S1x2048x12x64 [0, 2, 1, 3] (broadcastInDim S1x12x2048x64 ![1, 2, 3] bcast_S12x2048x64_S1x12x2048x64_1_2_3 X) transposes_S1x12x2048x64_S1x2048x12x64_0_2_1_3) shapeCasts_S1x2048x12x64_S1x2048x768) (transpose S768x768 [1, 0] W transposes_S768x768_S768x768_1_0)) shapeCasts_S1x2048x768_S2048x768 : FVec Ideal S2048x768 .f32) (ix2 s n) = oproj X W s n := by
  pointwise
  rw [sum_heads]
  refine Finset.sum_congr rfl fun h _ => Finset.sum_congr rfl fun d _ => ?_
  exact congrArg₂ (fun a b => X (ix3 a s b) * W (ix2 n ⟨64 * h.val + d.val, by omega⟩)) (Fin.ext (by show (64 * h.val + d.val) / 64 = h.val; omega)) (Fin.ext (by show (64 * h.val + d.val) % 64 = d.val; omega))

end Cert.Reference3Ideal.Hand

end
-- ==== Proof.Compress.lean ====
/- The block compression call: its result array as a function of its argument arrays, and the reference's, read at an index. -/
module

public import proofs.«01_k».proof.Proof.Gen.Kernel4Ideal.Value
public import proofs.«01_k».proof.Proof.Gen.Reference4Ideal.Run
public import Idealize.ShloMosaic.Lib.Pointwise
public import Idealize.ShloMosaic.Lib.Pipeline.ValueKit.Basic
public import Idealize.ShloMosaic.Lib.Pipeline.ValueKit.Tiles

@[expose] public section

set_option maxRecDepth 16384

noncomputable section

namespace Cert.Compress

open Idealize.ShloMosaic

/-- A number times its logistic. -/
def silu (x : EReal) : EReal := x * Ideal.logistic x

/-- One layer before its `silu`: two neighbouring rows side by side times the weights. -/
def pre (M : ℕ) (A B : Fin 64 → Fin 64 → EReal) (X : Fin (2 * M) → Fin 64 → EReal) (j : Fin M) (d : Fin 64) : EReal :=
  (∑ e : Fin 64, X ⟨2 * j.val, by omega⟩ e * A d e) + ∑ e : Fin 64, X ⟨2 * j.val + 1, by omega⟩ e * B d e

/-- One layer. -/
def layer (M : ℕ) (A B : Fin 64 → Fin 64 → EReal) (X : Fin (2 * M) → Fin 64 → EReal) (j : Fin M) (d : Fin 64) : EReal :=
  silu (pre M A B X j d)

/-- The rows of the windows, one window after the other: the first is zero, the others overlap by half. -/
def win (t : Fin 2048 → Fin 64 → EReal) (p : Fin 32 → Fin 64 → EReal) (r : Fin 4096) (e : Fin 64) : EReal :=
  if r.val / 32 < 1 then 0
  else t ⟨(16 * (r.val / 32 - 1) + r.val % 32) % 2048, Nat.mod_lt _ (by omega)⟩ e + p ⟨r.val % 32, Nat.mod_lt _ (by omega)⟩ e

/-- The five layers and the last product. -/
def phi (t : Fin 2048 → Fin 64 → EReal) (p : Fin 32 → Fin 64 → EReal) (D : Fin 5 → Fin 64 → Fin 128 → EReal)
    (S : Fin 64 → Fin 64 → EReal) (n : Fin 128) (d : Fin 64) : EReal :=
  ∑ e : Fin 64, layer 128 (fun d e => D 4 d (Fin.castAdd 64 e)) (fun d e => D 4 d (Fin.natAdd 64 e))
    (layer 256 (fun d e => D 3 d (Fin.castAdd 64 e)) (fun d e => D 3 d (Fin.natAdd 64 e))
    (layer 512 (fun d e => D 2 d (Fin.castAdd 64 e)) (fun d e => D 2 d (Fin.natAdd 64 e))
    (layer 1024 (fun d e => D 1 d (Fin.castAdd 64 e)) (fun d e => D 1 d (Fin.natAdd 64 e))
    (layer 2048 (fun d e => D 0 d (Fin.castAdd 64 e)) (fun d e => D 0 d (Fin.natAdd 64 e)) (win t p))))) n e * S d e

/-- A layer depends on the entries of its rows only. -/
theorem pre_congr (M : ℕ) {A A' B B' : Fin 64 → Fin 64 → EReal} {X X' : Fin (2 * M) → Fin 64 → EReal} (hA : ∀ d e, A d e = A' d e)
    (hB : ∀ d e, B d e = B' d e) (hX : ∀ r e, X r e = X' r e) (j : Fin M) (d : Fin 64) : pre M A B X j d = pre M A' B' X' j d := by
  have a : A = A' := funext fun d => funext fun e => hA d e
  have b : B = B' := funext fun d => funext fun e => hB d e
  have x : X = X' := funext fun d => funext fun e => hX d e
  rw [a, b, x]

/-- The compression at the entries of its arguments. -/
theorem phi_congr {t t' : Fin 2048 → Fin 64 → EReal} {p p' : Fin 32 → Fin 64 → EReal} {D D' : Fin 5 → Fin 64 → Fin 128 → EReal}
    {S S' : Fin 64 → Fin 64 → EReal} (ht : ∀ s e, t s e = t' s e) (hp : ∀ j e, p j e = p' j e) (hD : ∀ i d e, D i d e = D' i d e)
    (hS : ∀ d e, S d e = S' d e) (n : Fin 128) (d : Fin 64) : phi t p D S n d = phi t' p' D' S' n d := by
  have a : t = t' := funext fun s => funext fun e => ht s e
  have b : p = p' := funext fun s => funext fun e => hp s e
  have c : D = D' := funext fun s => funext fun e => funext fun f => hD s e f
  have f : S = S' := funext fun s => funext fun e => hS s e
  rw [a, b, c, f]

/-- The rows of the keys (`k = 0`) or of the values (`k = 1`) of a head, compressed. -/
def compress (X : FVec Ideal ⟨3, ![36, 2048, 64]⟩ .f32) (P : FVec Ideal ⟨2, ![32, 64]⟩ .f32) (D : FVec Ideal ⟨3, ![5, 64, 128]⟩ .f32)
    (S : FVec Ideal ⟨2, ![64, 64]⟩ .f32) (P' : FVec Ideal ⟨2, ![32, 64]⟩ .f32) (D' : FVec Ideal ⟨3, ![5, 64, 128]⟩ .f32)
    (S' : FVec Ideal ⟨2, ![64, 64]⟩ .f32) (k : Fin 2) (h : Fin 12) (n : Fin 128) (d : Fin 64) : EReal :=
  phi (fun s e => X (ix3 ⟨12 * (k.val + 1) + h.val, by omega⟩ s e)) (fun j e => if k.val < 1 then P (ix2 j e) else P' (ix2 j e))
    (fun i d e => if k.val < 1 then D (ix3 i d e) else D' (ix3 i d e)) (fun d e => if k.val < 1 then S (ix2 d e) else S' (ix2 d e)) n d

/-- A layer at the entries of its rows. -/
theorem layer_congr (M : ℕ) {A A' B B' : Fin 64 → Fin 64 → EReal} {X X' : Fin (2 * M) → Fin 64 → EReal} (hA : ∀ d e, A d e = A' d e)
    (hB : ∀ d e, B d e = B' d e) (hX : ∀ r e, X r e = X' r e) (j : Fin M) (d : Fin 64) : layer M A B X j d = layer M A' B' X' j d :=
  congrArg silu (pre_congr M hA hB hX j d)

end Cert.Compress

namespace Cert.Kernel4Ideal.Hand

open Idealize.ShloMosaic Idealize.ShloMosaic.TcCoe Idealize.SL.Sem
open Idealize.ShloMosaic.Pipeline (Dat)
open Cert.Kernel4Ideal Cert.Kernel4Ideal.Gen Cert.Compress

variable (m : (ℓ : Loc nD τ sig) → Buf (Elt Ideal) ℓ) (ρ : Dev nD → PrngReg)

/-- A half of one layer's weights. -/
def half (A : Vec Ideal S1x1x64x64 .f32) (d e : Fin 64) : EReal := A (ix4 0 0 d e)

/-- The windows' rows in the body, before the first layer. -/
def rows (v0 : Vec Ideal S1x2048x64 .f32) (v6 : Vec Ideal S1x32x64 .f32) : FVec Ideal S4096x64 .f32 :=
  shapeCast S4096x64 (concatenate S128x32x64 0 [⟨S1x32x64, (broadcast S1x32x64 (Scalar.ofBits .f32 0x00000000#32 : Ideal .f32) : FVec Ideal S1x32x64 .f32)⟩,
    ⟨S127x32x64, addf (concatenate S127x32x64 1
      [⟨S127x16x64, (extractStridedSlice S127x16x64 ![0, 0, 0] (shapeCast S128x16x64 (shapeCast S2048x64 v0 shapeCasts_S1x2048x64_S2048x64) shapeCasts_S2048x64_S128x16x64) slices_S128x16x64_o0_0_0_S127x16x64 : FVec Ideal S127x16x64 .f32)⟩,
       ⟨S127x16x64, (extractStridedSlice S127x16x64 ![1, 0, 0] (shapeCast S128x16x64 (shapeCast S2048x64 v0 shapeCasts_S1x2048x64_S2048x64) shapeCasts_S2048x64_S128x16x64) slices_S128x16x64_o1_0_0_S127x16x64 : FVec Ideal S127x16x64 .f32)⟩]
      concatenates_S127x16x64_S127x16x64_S127x32x64_d1)
      (broadcastTo S127x32x64 (shapeCast S1x32x64 (shapeCast S32x64 v6 shapeCasts_S1x32x64_S32x64) shapeCasts_S32x64_S1x32x64) broadcasts_S1x32x64_S127x32x64)⟩]
    concatenates_S1x32x64_S127x32x64_S128x32x64_d0) shapeCasts_S128x32x64_S4096x64

theorem rows_at (v0 : Vec Ideal S1x2048x64 .f32) (v6 : Vec Ideal S1x32x64 .f32) (r : Fin 4096) (e : Fin 64) :
    rows v0 v6 (ix2 r e) = win (fun s e => v0 (ix3 0 s e)) (fun j e => v6 (ix3 0 j e)) r e := by
  have hr : r.val < 4096 := r.isLt
  pointwise [rows]
  unfold win
  split_ifs with h1 h2
  · rfl
  all_goals
    refine congrArg₂ (fun a b : EReal => a + b) (congrArg (fun a => v0 (ix3 0 a e)) (Fin.ext ?_)) rfl
    dsimp only
    omega

/-- Layer 1 over the body's rows. -/
def lay1 (X : FVec Ideal S4096x64 .f32) (A B : FVec Ideal S1x1x64x64 .f32) : FVec Ideal S2048x64 .f32 :=
  have v : FVec Ideal S2048x2x64 .f32 := shapeCast S2048x2x64 X shapeCasts_S4096x64_S2048x2x64
  have w : FVec Ideal S2048x64 .f32 := addf
    (matmul dot_S2048x64_S64x64_S2048x64_1_1_0_0_n_n none (shapeCast S2048x64 (extractStridedSlice S2048x1x64 ![0, 0, 0] v slices_S2048x2x64_o0_0_0_S2048x1x64) shapeCasts_S2048x1x64_S2048x64 : FVec Ideal S2048x64 .f32)
      (shapeCast S64x64 A shapeCasts_S1x1x64x64_S64x64 : FVec Ideal S64x64 .f32) (constant S2048x64 .f32 0x00000000#32))
    (matmul dot_S2048x64_S64x64_S2048x64_1_1_0_0_n_n none (shapeCast S2048x64 (extractStridedSlice S2048x1x64 ![0, 1, 0] v slices_S2048x2x64_o0_1_0_S2048x1x64) shapeCasts_S2048x1x64_S2048x64 : FVec Ideal S2048x64 .f32)
      (shapeCast S64x64 B shapeCasts_S1x1x64x64_S64x64 : FVec Ideal S64x64 .f32) (constant S2048x64 .f32 0x00000000#32))
  mulf w (logistic w)

theorem lay1_at (X : FVec Ideal S4096x64 .f32) (A B : FVec Ideal S1x1x64x64 .f32) (r : Fin 2048) (d : Fin 64) :
    lay1 X A B (ix2 r d) = layer 2048 (half A) (half B) (fun r e => X (ix2 r e)) r d := by
  pointwise [lay1]
  unfold layer silu
  refine congrArg (fun z : EReal => z * Ideal.logistic z) ?_
  unfold pre half
  refine congrArg₂ (fun a b : EReal => a + b) (Finset.sum_congr rfl fun e _ => ?_) (Finset.sum_congr rfl fun e _ => ?_)
  · exact congrArg (fun a => X (ix2 a e) * A (ix4 0 0 d e)) (Fin.ext (by show r.val * 2 = 2 * r.val; omega))
  · exact congrArg (fun a => X (ix2 a e) * B (ix4 0 0 d e)) (Fin.ext (by show r.val * 2 + 1 = 2 * r.val + 1; omega))

/-- Layer 2 over the body's rows. -/
def lay2 (X : FVec Ideal S2048x64 .f32) (A B : FVec Ideal S1x1x64x64 .f32) : FVec Ideal S1024x64 .f32 :=
  have v : FVec Ideal S1024x2x64 .f32 := shapeCast S1024x2x64 X shapeCasts_S2048x64_S1024x2x64
  have w : FVec Ideal S1024x64 .f32 := addf
    (matmul dot_S1024x64_S64x64_S1024x64_1_1_0_0_n_n none (shapeCast S1024x64 (extractStridedSlice S1024x1x64 ![0, 0, 0] v slices_S1024x2x64_o0_0_0_S1024x1x64) shapeCasts_S1024x1x64_S1024x64 : FVec Ideal S1024x64 .f32)
      (shapeCast S64x64 A shapeCasts_S1x1x64x64_S64x64 : FVec Ideal S64x64 .f32) (constant S1024x64 .f32 0x00000000#32))
    (matmul dot_S1024x64_S64x64_S1024x64_1_1_0_0_n_n none (shapeCast S1024x64 (extractStridedSlice S1024x1x64 ![0, 1, 0] v slices_S1024x2x64_o0_1_0_S1024x1x64) shapeCasts_S1024x1x64_S1024x64 : FVec Ideal S1024x64 .f32)
      (shapeCast S64x64 B shapeCasts_S1x1x64x64_S64x64 : FVec Ideal S64x64 .f32) (constant S1024x64 .f32 0x00000000#32))
  mulf w (logistic w)

theorem lay2_at (X : FVec Ideal S2048x64 .f32) (A B : FVec Ideal S1x1x64x64 .f32) (r : Fin 1024) (d : Fin 64) :
    lay2 X A B (ix2 r d) = layer 1024 (half A) (half B) (fun r e => X (ix2 r e)) r d := by
  pointwise [lay2]
  unfold layer silu
  refine congrArg (fun z : EReal => z * Ideal.logistic z) ?_
  unfold pre half
  refine congrArg₂ (fun a b : EReal => a + b) (Finset.sum_congr rfl fun e _ => ?_) (Finset.sum_congr rfl fun e _ => ?_)
  · exact congrArg (fun a => X (ix2 a e) * A (ix4 0 0 d e)) (Fin.ext (by show r.val * 2 = 2 * r.val; omega))
  · exact congrArg (fun a => X (ix2 a e) * B (ix4 0 0 d e)) (Fin.ext (by show r.val * 2 + 1 = 2 * r.val + 1; omega))

/-- Layer 3 over the body's rows. -/
def lay3 (X : FVec Ideal S1024x64 .f32) (A B : FVec Ideal S1x1x64x64 .f32) : FVec Ideal S512x64 .f32 :=
  have v : FVec Ideal S512x2x64 .f32 := shapeCast S512x2x64 X shapeCasts_S1024x64_S512x2x64
  have w : FVec Ideal S512x64 .f32 := addf
    (matmul dot_S512x64_S64x64_S512x64_1_1_0_0_n_n none (shapeCast S512x64 (extractStridedSlice S512x1x64 ![0, 0, 0] v slices_S512x2x64_o0_0_0_S512x1x64) shapeCasts_S512x1x64_S512x64 : FVec Ideal S512x64 .f32)
      (shapeCast S64x64 A shapeCasts_S1x1x64x64_S64x64 : FVec Ideal S64x64 .f32) (constant S512x64 .f32 0x00000000#32))
    (matmul dot_S512x64_S64x64_S512x64_1_1_0_0_n_n none (shapeCast S512x64 (extractStridedSlice S512x1x64 ![0, 1, 0] v slices_S512x2x64_o0_1_0_S512x1x64) shapeCasts_S512x1x64_S512x64 : FVec Ideal S512x64 .f32)
      (shapeCast S64x64 B shapeCasts_S1x1x64x64_S64x64 : FVec Ideal S64x64 .f32) (constant S512x64 .f32 0x00000000#32))
  mulf w (logistic w)

theorem lay3_at (X : FVec Ideal S1024x64 .f32) (A B : FVec Ideal S1x1x64x64 .f32) (r : Fin 512) (d : Fin 64) :
    lay3 X A B (ix2 r d) = layer 512 (half A) (half B) (fun r e => X (ix2 r e)) r d := by
  pointwise [lay3]
  unfold layer silu
  refine congrArg (fun z : EReal => z * Ideal.logistic z) ?_
  unfold pre half
  refine congrArg₂ (fun a b : EReal => a + b) (Finset.sum_congr rfl fun e _ => ?_) (Finset.sum_congr rfl fun e _ => ?_)
  · exact congrArg (fun a => X (ix2 a e) * A (ix4 0 0 d e)) (Fin.ext (by show r.val * 2 = 2 * r.val; omega))
  · exact congrArg (fun a => X (ix2 a e) * B (ix4 0 0 d e)) (Fin.ext (by show r.val * 2 + 1 = 2 * r.val + 1; omega))

/-- Layer 4 over the body's rows. -/
def lay4 (X : FVec Ideal S512x64 .f32) (A B : FVec Ideal S1x1x64x64 .f32) : FVec Ideal S256x64 .f32 :=
  have v : FVec Ideal S256x2x64 .f32 := shapeCast S256x2x64 X shapeCasts_S512x64_S256x2x64
  have w : FVec Ideal S256x64 .f32 := addf
    (matmul dot_S256x64_S64x64_S256x64_1_1_0_0_n_n none (shapeCast S256x64 (extractStridedSlice S256x1x64 ![0, 0, 0] v slices_S256x2x64_o0_0_0_S256x1x64) shapeCasts_S256x1x64_S256x64 : FVec Ideal S256x64 .f32)
      (shapeCast S64x64 A shapeCasts_S1x1x64x64_S64x64 : FVec Ideal S64x64 .f32) (constant S256x64 .f32 0x00000000#32))
    (matmul dot_S256x64_S64x64_S256x64_1_1_0_0_n_n none (shapeCast S256x64 (extractStridedSlice S256x1x64 ![0, 1, 0] v slices_S256x2x64_o0_1_0_S256x1x64) shapeCasts_S256x1x64_S256x64 : FVec Ideal S256x64 .f32)
      (shapeCast S64x64 B shapeCasts_S1x1x64x64_S64x64 : FVec Ideal S64x64 .f32) (constant S256x64 .f32 0x00000000#32))
  mulf w (logistic w)

theorem lay4_at (X : FVec Ideal S512x64 .f32) (A B : FVec Ideal S1x1x64x64 .f32) (r : Fin 256) (d : Fin 64) :
    lay4 X A B (ix2 r d) = layer 256 (half A) (half B) (fun r e => X (ix2 r e)) r d := by
  pointwise [lay4]
  unfold layer silu
  refine congrArg (fun z : EReal => z * Ideal.logistic z) ?_
  unfold pre half
  refine congrArg₂ (fun a b : EReal => a + b) (Finset.sum_congr rfl fun e _ => ?_) (Finset.sum_congr rfl fun e _ => ?_)
  · exact congrArg (fun a => X (ix2 a e) * A (ix4 0 0 d e)) (Fin.ext (by show r.val * 2 = 2 * r.val; omega))
  · exact congrArg (fun a => X (ix2 a e) * B (ix4 0 0 d e)) (Fin.ext (by show r.val * 2 + 1 = 2 * r.val + 1; omega))

/-- Layer 5 over the body's rows. -/
def lay5 (X : FVec Ideal S256x64 .f32) (A B : FVec Ideal S1x1x64x64 .f32) : FVec Ideal S128x64 .f32 :=
  have v : FVec Ideal S128x2x64 .f32 := shapeCast S128x2x64 X shapeCasts_S256x64_S128x2x64
  have w : FVec Ideal S128x64 .f32 := addf
    (matmul dot_S128x64_S64x64_S128x64_1_1_0_0_n_n none (shapeCast S128x64 (extractStridedSlice S128x1x64 ![0, 0, 0] v slices_S128x2x64_o0_0_0_S128x1x64) shapeCasts_S128x1x64_S128x64 : FVec Ideal S128x64 .f32)
      (shapeCast S64x64 A shapeCasts_S1x1x64x64_S64x64 : FVec Ideal S64x64 .f32) (constant S128x64 .f32 0x00000000#32))
    (matmul dot_S128x64_S64x64_S128x64_1_1_0_0_n_n none (shapeCast S128x64 (extractStridedSlice S128x1x64 ![0, 1, 0] v slices_S128x2x64_o0_1_0_S128x1x64) shapeCasts_S128x1x64_S128x64 : FVec Ideal S128x64 .f32)
      (shapeCast S64x64 B shapeCasts_S1x1x64x64_S64x64 : FVec Ideal S64x64 .f32) (constant S128x64 .f32 0x00000000#32))
  mulf w (logistic w)

theorem lay5_at (X : FVec Ideal S256x64 .f32) (A B : FVec Ideal S1x1x64x64 .f32) (r : Fin 128) (d : Fin 64) :
    lay5 X A B (ix2 r d) = layer 128 (half A) (half B) (fun r e => X (ix2 r e)) r d := by
  pointwise [lay5]
  unfold layer silu
  refine congrArg (fun z : EReal => z * Ideal.logistic z) ?_
  unfold pre half
  refine congrArg₂ (fun a b : EReal => a + b) (Finset.sum_congr rfl fun e _ => ?_) (Finset.sum_congr rfl fun e _ => ?_)
  · exact congrArg (fun a => X (ix2 a e) * A (ix4 0 0 d e)) (Fin.ext (by show r.val * 2 = 2 * r.val; omega))
  · exact congrArg (fun a => X (ix2 a e) * B (ix4 0 0 d e)) (Fin.ext (by show r.val * 2 + 1 = 2 * r.val + 1; omega))

/-- The body's intermediate values are the layers. -/
theorem pay2_eq (v0 : Vec Ideal S1x2048x64 .f32) (v6 : Vec Ideal S1x32x64 .f32) (A B : Vec Ideal S1x1x64x64 .f32) :
    k0_pay2 v0 v6 A B = shapeCast S1024x2x64 (lay1 (rows v0 v6) A B) shapeCasts_S2048x64_S1024x2x64 := rfl

theorem pay5_eq (v0 : Vec Ideal S1x2048x64 .f32) (v6 : Vec Ideal S1x32x64 .f32) (A B C D E F G H : Vec Ideal S1x1x64x64 .f32) :
    k0_pay5 (k0_pay3 v0 v6 A B) (k0_pay4 v0 v6 A B C) D E F G H
      = shapeCast S128x2x64 (lay4 (lay3 (lay2 (lay1 (rows v0 v6) A B) C D) E F) G H) shapeCasts_S256x64_S128x2x64 := rfl

theorem pay1_eq (X : FVec Ideal S256x64 .f32) (A B : Vec Ideal S1x1x64x64 .f32) (S : Vec Ideal S1x64x64 .f32) :
    k0_pay1 (shapeCast S128x2x64 X shapeCasts_S256x64_S128x2x64) A B S
      = shapeCast S1x1x128x64 (matmul dot_S128x64_S64x64_S128x64_1_1_0_0_n_n none (lay5 X A B)
        (shapeCast S64x64 S shapeCasts_S1x64x64_S64x64 : FVec Ideal S64x64 .f32) (constant S128x64 .f32 0x00000000#32)) shapeCasts_S128x64_S1x1x128x64 := rfl

/-- The body reads its first two blocks whole, and each half of a layer's weights. -/
theorem whole0 (x : Vec Ideal S1x2048x64 .f32) : View.ld x r0_0 = x := by
  funext i
  obtain ⟨a, s, d, rfl⟩ : ∃ (a : Fin 1) (s : Fin 2048) (d : Fin 64), i = ix3 a s d := ⟨i 0, i 1, i 2, funext fun a => by fin_cases a <;> rfl⟩
  obtain rfl : a = 0 := Fin.ext (Nat.lt_one_iff.mp a.isLt)
  pointwise

theorem whole1 (x : Vec Ideal S1x32x64 .f32) : View.ld x r0_1 = x := by
  funext i
  obtain ⟨a, s, d, rfl⟩ : ∃ (a : Fin 1) (s : Fin 32) (d : Fin 64), i = ix3 a s d := ⟨i 0, i 1, i 2, funext fun a => by fin_cases a <;> rfl⟩
  obtain rfl : a = 0 := Fin.ext (Nat.lt_one_iff.mp a.isLt)
  pointwise

theorem half2 (x : Vec Ideal S1x5x64x128 .f32) (d e : Fin 64) : half (View.ld x r0_2) d e = x (ix4 0 0 d (Fin.castAdd 64 e)) := by
  pointwise [half]
  rfl
theorem half3 (x : Vec Ideal S1x5x64x128 .f32) (d e : Fin 64) : half (View.ld x r0_3) d e = x (ix4 0 0 d (Fin.natAdd 64 e)) := by
  pointwise [half]
  rfl
theorem half4 (x : Vec Ideal S1x5x64x128 .f32) (d e : Fin 64) : half (View.ld x r0_4) d e = x (ix4 0 1 d (Fin.castAdd 64 e)) := by
  pointwise [half]
  rfl
theorem half5 (x : Vec Ideal S1x5x64x128 .f32) (d e : Fin 64) : half (View.ld x r0_5) d e = x (ix4 0 1 d (Fin.natAdd 64 e)) := by
  pointwise [half]
  rfl
theorem half6 (x : Vec Ideal S1x5x64x128 .f32) (d e : Fin 64) : half (View.ld x r0_6) d e = x (ix4 0 2 d (Fin.castAdd 64 e)) := by
  pointwise [half]
  rfl
theorem half7 (x : Vec Ideal S1x5x64x128 .f32) (d e : Fin 64) : half (View.ld x r0_7) d e = x (ix4 0 2 d (Fin.natAdd 64 e)) := by
  pointwise [half]
  rfl
theorem half8 (x : Vec Ideal S1x5x64x128 .f32) (d e : Fin 64) : half (View.ld x r0_8) d e = x (ix4 0 3 d (Fin.castAdd 64 e)) := by
  pointwise [half]
  rfl
theorem half9 (x : Vec Ideal S1x5x64x128 .f32) (d e : Fin 64) : half (View.ld x r0_9) d e = x (ix4 0 3 d (Fin.natAdd 64 e)) := by
  pointwise [half]
  rfl
theorem half10 (x : Vec Ideal S1x5x64x128 .f32) (d e : Fin 64) : half (View.ld x r0_10) d e = x (ix4 0 4 d (Fin.castAdd 64 e)) := by
  pointwise [half]
  rfl
theorem half11 (x : Vec Ideal S1x5x64x128 .f32) (d e : Fin 64) : half (View.ld x r0_11) d e = x (ix4 0 4 d (Fin.natAdd 64 e)) := by
  pointwise [half]
  rfl

/-- An entry of the body's output block. -/
theorem out_at (x0 : Vec Ideal S1x2048x64 .f32) (x1 : Vec Ideal S1x32x64 .f32) (x2 : Vec Ideal S1x5x64x128 .f32) (x3 : Vec Ideal S1x64x64 .f32)
    (n : Fin 128) (d : Fin 64) :
    out0_4 x0 x1 x2 x3 (ix4 0 0 n d)
      = phi (fun s e => x0 (ix3 0 s e)) (fun j e => x1 (ix3 0 j e)) (fun i d e => x2 (ix4 0 i d e)) (fun d e => x3 (ix3 0 d e)) n d := by
  unfold out0_4
  refine (congrFun (View.canon_cons_unit_lit _ _ _ (by decide)) _).trans ?_
  rw [pay5_eq, pay1_eq]
  pointwise
  unfold phi
  refine Finset.sum_congr rfl fun e _ => ?_
  refine congrArg (fun z : EReal => z * x3 (ix3 0 d e)) ?_
  refine (lay5_at _ _ _ _ _).trans (layer_congr 128 (half10 x2) (half11 x2) (fun r e => ?_) _ _)
  refine (lay4_at _ _ _ _ _).trans (layer_congr 256 (half8 x2) (half9 x2) (fun r e => ?_) _ _)
  refine (lay3_at _ _ _ _ _).trans (layer_congr 512 (half6 x2) (half7 x2) (fun r e => ?_) _ _)
  refine (lay2_at _ _ _ _ _).trans (layer_congr 1024 (half4 x2) (half5 x2) (fun r e => ?_) _ _)
  refine (lay1_at _ _ _ _ _).trans (layer_congr 2048 (half2 x2) (half3 x2) (fun r e => ?_) _ _)
  refine (rows_at _ _ _ _).trans ?_
  rw [whole0, whole1]

/-- The stacked weights, as the host code makes them. -/
theorem V_p (c : Dev nD) : V m c main_v2 = concatenate S2x32x64 0 [⟨S1x32x64, (broadcastInDim S1x32x64 ![1, 2] bcast_S32x64_S1x32x64_1_2 (m ((c : Thread nD τ).loc main_arg1)) : FVec Ideal S1x32x64 .f32)⟩,
    ⟨S1x32x64, (broadcastInDim S1x32x64 ![1, 2] bcast_S32x64_S1x32x64_1_2 (m ((c : Thread nD τ).loc main_arg4)) : FVec Ideal S1x32x64 .f32)⟩] concatenates_S1x32x64_S1x32x64_S2x32x64_d0 := by
  unfold V
  after_results <;> rfl

theorem V_d (c : Dev nD) : V m c main_v5 = concatenate S2x5x64x128 0 [⟨S1x5x64x128, (broadcastInDim S1x5x64x128 ![1, 2, 3] bcast_S5x64x128_S1x5x64x128_1_2_3 (m ((c : Thread nD τ).loc main_arg2)) : FVec Ideal S1x5x64x128 .f32)⟩,
    ⟨S1x5x64x128, (broadcastInDim S1x5x64x128 ![1, 2, 3] bcast_S5x64x128_S1x5x64x128_1_2_3 (m ((c : Thread nD τ).loc main_arg5)) : FVec Ideal S1x5x64x128 .f32)⟩] concatenates_S1x5x64x128_S1x5x64x128_S2x5x64x128_d0 := by
  unfold V
  after_results <;> rfl

theorem V_s (c : Dev nD) : V m c main_v8 = concatenate S2x64x64 0 [⟨S1x64x64, (broadcastInDim S1x64x64 ![1, 2] bcast_S64x64_S1x64x64_1_2 (m ((c : Thread nD τ).loc main_arg3)) : FVec Ideal S1x64x64 .f32)⟩,
    ⟨S1x64x64, (broadcastInDim S1x64x64 ![1, 2] bcast_S64x64_S1x64x64_1_2 (m ((c : Thread nD τ).loc main_arg6)) : FVec Ideal S1x64x64 .f32)⟩] concatenates_S1x64x64_S1x64x64_S2x64x64_d0 := by
  unfold V
  after_results <;> rfl

theorem p_at (A B : FVec Ideal S32x64 .f32) (k : Fin 2) (j : Fin 32) (e : Fin 64) :
    concatenate S2x32x64 0 [⟨S1x32x64, (broadcastInDim S1x32x64 ![1, 2] bcast_S32x64_S1x32x64_1_2 A : FVec Ideal S1x32x64 .f32)⟩,
      ⟨S1x32x64, (broadcastInDim S1x32x64 ![1, 2] bcast_S32x64_S1x32x64_1_2 B : FVec Ideal S1x32x64 .f32)⟩] concatenates_S1x32x64_S1x32x64_S2x32x64_d0 (ix3 k j e)
      = if k.val < 1 then A (ix2 j e) else B (ix2 j e) := by
  pointwise
  rfl

theorem d_at (A B : FVec Ideal S5x64x128 .f32) (k : Fin 2) (i : Fin 5) (d : Fin 64) (e : Fin 128) :
    concatenate S2x5x64x128 0 [⟨S1x5x64x128, (broadcastInDim S1x5x64x128 ![1, 2, 3] bcast_S5x64x128_S1x5x64x128_1_2_3 A : FVec Ideal S1x5x64x128 .f32)⟩,
      ⟨S1x5x64x128, (broadcastInDim S1x5x64x128 ![1, 2, 3] bcast_S5x64x128_S1x5x64x128_1_2_3 B : FVec Ideal S1x5x64x128 .f32)⟩] concatenates_S1x5x64x128_S1x5x64x128_S2x5x64x128_d0 (ix4 k i d e)
      = if k.val < 1 then A (ix3 i d e) else B (ix3 i d e) := by
  pointwise
  rfl

theorem s_at (A B : FVec Ideal S64x64 .f32) (k : Fin 2) (j : Fin 64) (e : Fin 64) :
    concatenate S2x64x64 0 [⟨S1x64x64, (broadcastInDim S1x64x64 ![1, 2] bcast_S64x64_S1x64x64_1_2 A : FVec Ideal S1x64x64 .f32)⟩,
      ⟨S1x64x64, (broadcastInDim S1x64x64 ![1, 2] bcast_S64x64_S1x64x64_1_2 B : FVec Ideal S1x64x64 .f32)⟩] concatenates_S1x64x64_S1x64x64_S2x64x64_d0 (ix3 k j e)
      = if k.val < 1 then A (ix2 j e) else B (ix2 j e) := by
  pointwise
  rfl

theorem lt24 (t : Fin cfg0.N) : t.val < 24 := lt_of_lt_of_eq t.isLt N_0

/-- Whether grid point `t` takes the keys or the values, and its head. -/
def kindOf (t : Fin cfg0.N) : Fin 2 := ⟨t.val / 12, by have := lt24 t; omega⟩
def headOf (t : Fin cfg0.N) : Fin 12 := ⟨t.val % 12, Nat.mod_lt _ (by omega)⟩

theorem index_x (t : Fin cfg0.N) : win0_0.index t 0 = 12 + t.val ∧ win0_0.index t 1 = 0 ∧ win0_0.index t 2 = 0 := by
  revert t; decide +kernel
theorem index_p (t : Fin cfg0.N) : win0_1.index t 0 = t.val / 12 ∧ win0_1.index t 1 = 0 ∧ win0_1.index t 2 = 0 := by
  revert t; decide +kernel
theorem index_d (t : Fin cfg0.N) : win0_2.index t 0 = t.val / 12 ∧ win0_2.index t 1 = 0 ∧ win0_2.index t 2 = 0 ∧ win0_2.index t 3 = 0 := by
  revert t; decide +kernel
theorem index_s (t : Fin cfg0.N) : win0_3.index t 0 = t.val / 12 ∧ win0_3.index t 1 = 0 ∧ win0_3.index t 2 = 0 := by
  revert t; decide +kernel
theorem index_out (t : Fin cfg0.N) : win0_4.index t 0 = t.val / 12 ∧ win0_4.index t 1 = t.val % 12 ∧ win0_4.index t 2 = 0 ∧ win0_4.index t 3 = 0 := by
  revert t; decide +kernel

theorem blk_x (c : Dev nD) (t : Fin cfg0.N) (s : Fin 2048) (e : Fin 64) :
    iblk m c 0 t (ix3 0 s e) = m ((c : Thread nD τ).loc main_arg0) (ix3 ⟨12 * ((kindOf t).val + 1) + (headOf t).val, by omega⟩ s e) := by
  refine (congrFun (V_main_arg0 m c) _).trans (congrArg (m ((c : Thread nD τ).loc main_arg0)) (funext fun a => Fin.ext ?_))
  obtain ⟨e0, e1, e2⟩ := index_x t
  fin_cases a
  · show win0_0.index t 0 * 1 + 1 * 0 = 12 * (t.val / 12 + 1) + t.val % 12; omega
  · show win0_0.index t 1 * 2048 + 1 * s.val = s.val; omega
  · show win0_0.index t 2 * 64 + 1 * e.val = e.val; omega

theorem blk_p (c : Dev nD) (t : Fin cfg0.N) (j : Fin 32) (e : Fin 64) :
    iblk m c 1 t (ix3 0 j e) = if (kindOf t).val < 1 then m ((c : Thread nD τ).loc main_arg1) (ix2 j e) else m ((c : Thread nD τ).loc main_arg4) (ix2 j e) := by
  refine (congrFun (V_p m c) _).trans (Eq.trans (congrArg _ (funext fun a => Fin.ext ?_)) (p_at (m ((c : Thread nD τ).loc main_arg1)) (m ((c : Thread nD τ).loc main_arg4)) (kindOf t) j e))
  obtain ⟨e0, e1, e2⟩ := index_p t
  fin_cases a
  · show win0_1.index t 0 * 1 + 1 * 0 = t.val / 12; omega
  · show win0_1.index t 1 * 32 + 1 * j.val = j.val; omega
  · show win0_1.index t 2 * 64 + 1 * e.val = e.val; omega

theorem blk_d (c : Dev nD) (t : Fin cfg0.N) (i : Fin 5) (d : Fin 64) (e : Fin 128) :
    iblk m c 2 t (ix4 0 i d e) = if (kindOf t).val < 1 then m ((c : Thread nD τ).loc main_arg2) (ix3 i d e) else m ((c : Thread nD τ).loc main_arg5) (ix3 i d e) := by
  refine (congrFun (V_d m c) _).trans (Eq.trans (congrArg _ (funext fun a => Fin.ext ?_)) (d_at (m ((c : Thread nD τ).loc main_arg2)) (m ((c : Thread nD τ).loc main_arg5)) (kindOf t) i d e))
  obtain ⟨e0, e1, e2, e3⟩ := index_d t
  fin_cases a
  · show win0_2.index t 0 * 1 + 1 * 0 = t.val / 12; omega
  · show win0_2.index t 1 * 5 + 1 * i.val = i.val; omega
  · show win0_2.index t 2 * 64 + 1 * d.val = d.val; omega
  · show win0_2.index t 3 * 128 + 1 * e.val = e.val; omega

theorem blk_s (c : Dev nD) (t : Fin cfg0.N) (j : Fin 64) (e : Fin 64) :
    iblk m c 3 t (ix3 0 j e) = if (kindOf t).val < 1 then m ((c : Thread nD τ).loc main_arg3) (ix2 j e) else m ((c : Thread nD τ).loc main_arg6) (ix2 j e) := by
  refine (congrFun (V_s m c) _).trans (Eq.trans (congrArg _ (funext fun a => Fin.ext ?_)) (s_at (m ((c : Thread nD τ).loc main_arg3)) (m ((c : Thread nD τ).loc main_arg6)) (kindOf t) j e))
  obtain ⟨e0, e1, e2⟩ := index_s t
  fin_cases a
  · show win0_3.index t 0 * 1 + 1 * 0 = t.val / 12; omega
  · show win0_3.index t 1 * 64 + 1 * j.val = j.val; omega
  · show win0_3.index t 2 * 64 + 1 * e.val = e.val; omega

/-- The compressed rows of core `c`'s arguments, as the result array. -/
def result (c : Dev nD) : Buf (Elt Ideal) ((c : Thread nD τ).loc main_v9) := fun i =>
  compress (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (i 0) (i 1) (i 2) (i 3)

/-- An entry of grid point `t`'s output block. -/
theorem out_row (c : Dev nD) (t : Fin cfg0.N) (n : Fin 128) (d : Fin 64) :
    out0_4 (iblk m c 0 t) (iblk m c 1 t) (iblk m c 2 t) (iblk m c 3 t) (ix4 0 0 n d)
      = compress (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (kindOf t) (headOf t) n d := by
  refine (out_at _ _ _ _ _ _).trans ?_
  unfold compress
  refine phi_congr (fun s e => blk_x m c t s e) (fun j e => blk_p m c t j e) (fun i d e => blk_d m c t i d e) (fun d e => blk_s m c t d e) n d

/-- Grid point `t` writes back its block of the result. -/
theorem flushed_eq (c : Dev nD) (t : Fin cfg0.N) : (dats m 0 c).flushed 4 t = (win0_4.blk t).view.read (Elt Ideal) (result m c) := by
  rw [Value.flushed4]
  funext y
  obtain ⟨e0, e1, e2, e3⟩ := index_out t
  have y0 : (y 0).val < 1 := (y 0).isLt
  have y1 : (y 1).val < 1 := (y 1).isLt
  have ey : y = ix4 (0 : Fin 1) (0 : Fin 1) (y 2) (y 3) := by
    funext a
    fin_cases a
    · exact Fin.ext (by show (y 0).val = 0; omega)
    · exact Fin.ext (by show (y 1).val = 0; omega)
    · rfl
    · rfl
  rw [ey]
  refine (out_row m c t (y 2) (y 3)).trans ?_
  show compress _ _ _ _ _ _ _ _ _ _ _ = compress _ _ _ _ _ _ _ _ _ _ _
  congr 1
  · exact Fin.ext (by show t.val / 12 = win0_4.index t 0 * 1 + 1 * 0; omega)
  · exact Fin.ext (by show t.val % 12 = win0_4.index t 1 * 1 + 1 * 0; omega)
  · exact Fin.ext (by show (y 2).val = win0_4.index t 2 * 128 + 1 * (y 2).val; omega)
  · exact Fin.ext (by show (y 3).val = win0_4.index t 3 * 64 + 1 * (y 3).val; omega)

/-- An index of the result array is in grid point `t`'s block. -/
theorem mem_blk (t : Fin cfg0.N) (i : S2x12x128x64.Idx) : i ∈ ((cfg0.win 4).blk t).view.set ↔ 12 * (i 0).val + (i 1).val = t.val := by
  show i ∈ ((View.whole main_v9).slice (win0_4.rect t)).set ↔ _
  rw [View.set_slice_whole, Rect.mem_set_unit]
  obtain ⟨e0, e1, e2, e3⟩ := index_out t
  have h1 : (i 1).val < 12 := (i 1).isLt
  have h2 : (i 2).val < 128 := (i 2).isLt
  have h3 : (i 3).val < 64 := (i 3).isLt
  constructor
  · intro h
    have a0 : win0_4.index t 0 * 1 ≤ (i 0).val ∧ (i 0).val < win0_4.index t 0 * 1 + 1 := h 0
    have a1 : win0_4.index t 1 * 1 ≤ (i 1).val ∧ (i 1).val < win0_4.index t 1 * 1 + 1 := h 1
    omega
  · intro a0 a
    match a with
    | ⟨0, _⟩ => show win0_4.index t 0 * 1 ≤ (i 0).val ∧ (i 0).val < win0_4.index t 0 * 1 + 1; omega
    | ⟨1, _⟩ => show win0_4.index t 1 * 1 ≤ (i 1).val ∧ (i 1).val < win0_4.index t 1 * 1 + 1; omega
    | ⟨2, _⟩ => show win0_4.index t 2 * 128 ≤ (i 2).val ∧ (i 2).val < win0_4.index t 2 * 128 + 128; omega
    | ⟨3, _⟩ => show win0_4.index t 3 * 64 ≤ (i 3).val ∧ (i 3).val < win0_4.index t 3 * 64 + 64; omega

/-- The result array ends at the compressed rows of the arguments. -/
theorem final_out (c : Dev nD) : (dats m 0 c).arrAt 4 cfg0.N = result m c :=
  (dats m 0 c).arrAt_eq_of_cover 4 (result m c) (fun t _ => flushed_eq m c t) fun i => by
    have h0 : (i 0).val < 2 := (i 0).isLt
    have h1 : (i 1).val < 12 := (i 1).isLt
    have hN : cfg0.N = 24 := N_0
    exact ⟨⟨12 * (i 0).val + (i 1).val, by omega⟩, flush0_4 _, (mem_blk _ i).2 rfl⟩

end Cert.Kernel4Ideal.Hand

namespace Cert.Reference4Ideal.Hand

open Idealize.ShloMosaic Idealize.ShloMosaic.TcCoe Idealize.SL.Sem Idealize.ShloMosaic.StableHlo
open Cert.Reference4Ideal Cert.Reference4Ideal.Gen Cert.Reference4Ideal.Value Cert.Compress

/-- The positions that the windows read, as words: none is below zero. -/
theorem pos_word : ∀ (n : Fin 127) (j : Fin 32), IntOp.addi (IntOp.muli (BitVec.ofNat 32 n.val) 16#32) (BitVec.ofNat 32 j.val) = BitVec.ofNat 32 (16 * n.val + j.val) := by
  decide +kernel

theorem pos_sel : ∀ (n : Fin 127) (j : Fin 32), IntOp.cmpi CmpIPredicate.slt (BitVec.ofNat 32 (16 * n.val + j.val)) 0#32 = 0#1 := by
  decide +kernel

theorem pos12_at (V0 : Valuation τ sig (Elt Ideal)) (n : Fin 127) (j : Fin 32) :
    (broadcastInDim S127x32x1 ![0, 1] bcast_S127x32_S127x32x1_0_1 (select (cmpi .slt (res_main_v12 V0) (broadcastInDim S127x32 ![] bcast_S_S127x32 (constantI S_ 32 0#32))) (addi (res_main_v12 V0) (broadcastInDim S127x32 ![] bcast_S_S127x32 (constantI S_ 32 2048#32))) (res_main_v12 V0))) (ix3 n j 0)
      = BitVec.ofNat 32 (16 * n.val + j.val) := by
  pointwise [res_main_v12]
  rw [pos_word n j, pos_sel n j]
  rfl

theorem pos67_at (V0 : Valuation τ sig (Elt Ideal)) (n : Fin 127) (j : Fin 32) :
    (broadcastInDim S127x32x1 ![0, 1] bcast_S127x32_S127x32x1_0_1 (select (cmpi .slt (res_main_v67 V0) (broadcastInDim S127x32 ![] bcast_S_S127x32 (constantI S_ 32 0#32))) (addi (res_main_v67 V0) (broadcastInDim S127x32 ![] bcast_S_S127x32 (constantI S_ 32 2048#32))) (res_main_v67 V0))) (ix3 n j 0)
      = BitVec.ofNat 32 (16 * n.val + j.val) := by
  pointwise [res_main_v67]
  rw [pos_word n j, pos_sel n j]
  rfl

/-- The gathered rows. -/
theorem gather_at (x : FVec Ideal S1x12x2048x64 .f32) (idx : IVec S127x32x1 32) (h : Fin 12) (n : Fin 127) (j : Fin 32) (d : Fin 64)
    (hi : idx (ix3 n j 0) = BitVec.ofNat 32 (16 * n.val + j.val)) :
    Host.gather gather_S1x12x2048x64_S127x32x1_S1x12x127x32x64_014_2_n_n_2_2_112164 x idx (ix5 0 h n j d)
      = x (ix4 0 h ⟨16 * n.val + j.val, by omega⟩ d) := by
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil]
  have key : (idx (ix3 n j 0)).toInt.toNat = 16 * n.val + j.val := by
    rw [hi, BitVec.toInt_eq_toNat_of_lt (by rw [BitVec.toNat_ofNat]; omega), BitVec.toNat_ofNat]
    omega
  have hs : ∀ b : Fin 4, b ≠ 2 → GatherDims.start gather_S1x12x2048x64_S127x32x1_S1x12x127x32x64_014_2_n_n_2_2_112164 (ix5 0 h n j d) idx b = 0 := by
    intro b hb
    unfold GatherDims.start
    exact dif_neg (show b ∉ [(2 : Fin 4)] by simpa using hb)
  fin_cases a
  · rw [hs _ (by decide)]; rfl
  · rw [hs _ (by decide)]; show 0 + 0 + h.val = h.val; omega
  · rw [GatherDims.offCoord_eq_zero _ _ _ (fun h => ((GatherDims.mem_sKept _ _).mp h).1 (List.mem_singleton.mpr rfl))]
    unfold GatherDims.start
    have hsi : ∀ q, (gather_S1x12x2048x64_S127x32x1_S1x12x127x32x64_014_2_n_n_2_2_112164).siIdx (ix5 0 h n j d) q = ix3 n j 0 := by
      intro q
      funext b; refine Fin.ext ?_
      match b with
      | ⟨0, _⟩ => rfl
      | ⟨1, _⟩ => rfl
      | ⟨2, _⟩ => exact Nat.lt_one_iff.mp q.isLt
    refine (congrArg (fun z : ℕ => z + 0 + 0) ((dif_pos (show (2 : Fin 4) ∈ [(2 : Fin 4)] from List.mem_singleton.mpr rfl)).trans
      (congrArg (fun q => min (idx q).toInt.toNat (2048 - 1)) (hsi _)))).trans ?_
    show min (idx (ix3 n j 0)).toInt.toNat (2048 - 1) + 0 + 0 = 16 * n.val + j.val
    rw [key]
    omega
  · rw [hs _ (by decide)]; show 0 + 0 + d.val = d.val; omega

/-- Two indices with the same coordinates. -/
theorem ix5_congr {a b c d e : ℕ} (i : Fin a) (h : Fin b) {n n' : Fin c} {j j' : Fin d} {k k' : Fin e} (hn : n.val = n'.val) (hj : j.val = j'.val)
    (hk : k.val = k'.val) : ix5 i h n j k = ix5 i h n' j' k' := by
  rw [Fin.ext hn, Fin.ext hj, Fin.ext hk]

/-- The first layer over the rows of the windows. -/
theorem pre1_at (Y : FVec Ideal S1x12x127x32x64 .f32) (W : FVec Ideal S5x64x128 .f32) (h : Fin 12) (n : Fin 128) (j : Fin 16) (d : Fin 64) :
    Host.dotGeneral dot_S1x12x128x16x128_S128x64_S1x12x128x16x64_4_0_0123_1_n_n none (shapeCast S1x12x128x16x128 (concatenate S1x12x128x32x64 2 [⟨S1x12x1x32x64, (broadcastInDim S1x12x1x32x64 ![] bcast_S_S1x12x1x32x64 (constant S_ .f32 0x00000000#32) : FVec Ideal S1x12x1x32x64 .f32)⟩, ⟨S1x12x127x32x64, Y⟩] concatenates_S1x12x1x32x64_S1x12x127x32x64_S1x12x128x32x64_d2) shapeCasts_S1x12x128x32x64_S1x12x128x16x128) (transpose S128x64 [1, 0] (shapeCast S64x128 (extractStridedSlice S1x64x128 ![0, 0, 0] W slices_S5x64x128_S1x64x128_0_0_0) shapeCasts_S1x64x128_S64x128) transposes_S64x128_S128x64_1_0) (ix5 0 h n j d)
      = pre 2048 (fun d e => W (ix3 0 d (Fin.castAdd 64 e))) (fun d e => W (ix3 0 d (Fin.natAdd 64 e)))
        (fun r e => if r.val / 32 < 1 then 0 else Y (ix5 0 h ⟨r.val / 32 - 1, by omega⟩ ⟨r.val % 32, Nat.mod_lt _ (by omega)⟩ e)) ⟨16 * n.val + j.val, by omega⟩ d := by
  pointwise
  rw [Fin.sum_univ_add (a := 64) (b := 64)]
  unfold pre
  refine congrArg₂ (fun a b : EReal => a + b) (Finset.sum_congr rfl fun e _ => congrArg₂ (fun a b : EReal => a * b) ?_ rfl) (Finset.sum_congr rfl fun e _ => congrArg₂ (fun a b : EReal => a * b) ?_ rfl)
  · have hj : j.val < 16 := j.isLt
    have hn : n.val < 128 := n.isLt
    have he : e.val < 64 := e.isLt
    by_cases h1 : n.val < 1
    · exact (dif_pos h1).trans (if_pos (show (2 * (16 * n.val + j.val)) / 32 < 1 by omega)).symm
    refine (dif_neg h1).trans (Eq.trans ?_ (if_neg (show ¬ (2 * (16 * n.val + j.val)) / 32 < 1 by omega)).symm)
    refine congrArg Y (ix5_congr _ h ?_ ?_ ?_)
    · show n.val - 1 = (2 * (16 * n.val + j.val)) / 32 - 1
      omega
    · show j.val * 2 + e.val / 64 = (2 * (16 * n.val + j.val)) % 32
      omega
    · show e.val % 64 = e.val
      omega
  · have hj : j.val < 16 := j.isLt
    have hn : n.val < 128 := n.isLt
    have he : e.val < 64 := e.isLt
    by_cases h1 : n.val < 1
    · exact (dif_pos h1).trans (if_pos (show (2 * (16 * n.val + j.val) + 1) / 32 < 1 by omega)).symm
    refine (dif_neg h1).trans (Eq.trans ?_ (if_neg (show ¬ (2 * (16 * n.val + j.val) + 1) / 32 < 1 by omega)).symm)
    refine congrArg Y (ix5_congr _ h ?_ ?_ ?_)
    · show n.val - 1 = (2 * (16 * n.val + j.val) + 1) / 32 - 1
      omega
    · show j.val * 2 + (64 + e.val) / 64 = (2 * (16 * n.val + j.val) + 1) % 32
      omega
    · show (64 + e.val) % 64 = e.val
      omega

theorem pre2_at (X : FVec Ideal S1x12x128x16x64 .f32) (W : FVec Ideal S5x64x128 .f32) (h : Fin 12) (n : Fin 128) (j : Fin 8) (d : Fin 64) :
    Host.dotGeneral dot_S1x12x128x8x128_S128x64_S1x12x128x8x64_4_0_0123_1_n_n none (shapeCast S1x12x128x8x128 (mulf X (Host.divf (broadcastInDim S1x12x128x16x64 ![] bcast_S_S1x12x128x16x64 (constant S_ .f32 0x3F800000#32)) (addf (broadcastInDim S1x12x128x16x64 ![] bcast_S_S1x12x128x16x64 (constant S_ .f32 0x3F800000#32)) (Host.exp (Host.negf X))))) shapeCasts_S1x12x128x16x64_S1x12x128x8x128) (transpose S128x64 [1, 0] (shapeCast S64x128 (extractStridedSlice S1x64x128 ![1, 0, 0] W slices_S5x64x128_S1x64x128_1_0_0) shapeCasts_S1x64x128_S64x128) transposes_S64x128_S128x64_1_0) (ix5 0 h n j d)
      = pre 1024 (fun d e => W (ix3 1 d (Fin.castAdd 64 e))) (fun d e => W (ix3 1 d (Fin.natAdd 64 e)))
        (fun r e => silu (X (ix5 0 h ⟨r.val / 16, by omega⟩ ⟨r.val % 16, Nat.mod_lt _ (by omega)⟩ e))) ⟨8 * n.val + j.val, by omega⟩ d := by
  pointwise
  rw [Fin.sum_univ_add (a := 64) (b := 64)]
  unfold pre
  have hj : j.val < 8 := j.isLt
  refine congrArg₂ (fun a b : EReal => a + b) (Finset.sum_congr rfl fun e _ => congrArg₂ (fun a b : EReal => a * b) ?_ rfl) (Finset.sum_congr rfl fun e _ => congrArg₂ (fun a b : EReal => a * b) ?_ rfl)
  · have he : e.val < 64 := e.isLt
    refine congrArg (fun i => silu (X i)) ((ix5_congr _ h ?_ ?_ ?_))
    · show n.val = (2 * (8 * n.val + j.val)) / 16
      omega
    · show j.val * 2 + e.val / 64 = (2 * (8 * n.val + j.val)) % 16
      omega
    · show e.val % 64 = e.val
      omega
  · have he : e.val < 64 := e.isLt
    refine congrArg (fun i => silu (X i)) ((ix5_congr _ h ?_ ?_ ?_))
    · show n.val = (2 * (8 * n.val + j.val) + 1) / 16
      omega
    · show j.val * 2 + (64 + e.val) / 64 = (2 * (8 * n.val + j.val) + 1) % 16
      omega
    · show (64 + e.val) % 64 = e.val
      omega

theorem pre3_at (X : FVec Ideal S1x12x128x8x64 .f32) (W : FVec Ideal S5x64x128 .f32) (h : Fin 12) (n : Fin 128) (j : Fin 4) (d : Fin 64) :
    Host.dotGeneral dot_S1x12x128x4x128_S128x64_S1x12x128x4x64_4_0_0123_1_n_n none (shapeCast S1x12x128x4x128 (mulf X (Host.divf (broadcastInDim S1x12x128x8x64 ![] bcast_S_S1x12x128x8x64 (constant S_ .f32 0x3F800000#32)) (addf (broadcastInDim S1x12x128x8x64 ![] bcast_S_S1x12x128x8x64 (constant S_ .f32 0x3F800000#32)) (Host.exp (Host.negf X))))) shapeCasts_S1x12x128x8x64_S1x12x128x4x128) (transpose S128x64 [1, 0] (shapeCast S64x128 (extractStridedSlice S1x64x128 ![2, 0, 0] W slices_S5x64x128_S1x64x128_2_0_0) shapeCasts_S1x64x128_S64x128) transposes_S64x128_S128x64_1_0) (ix5 0 h n j d)
      = pre 512 (fun d e => W (ix3 2 d (Fin.castAdd 64 e))) (fun d e => W (ix3 2 d (Fin.natAdd 64 e)))
        (fun r e => silu (X (ix5 0 h ⟨r.val / 8, by omega⟩ ⟨r.val % 8, Nat.mod_lt _ (by omega)⟩ e))) ⟨4 * n.val + j.val, by omega⟩ d := by
  pointwise
  rw [Fin.sum_univ_add (a := 64) (b := 64)]
  unfold pre
  have hj : j.val < 4 := j.isLt
  refine congrArg₂ (fun a b : EReal => a + b) (Finset.sum_congr rfl fun e _ => congrArg₂ (fun a b : EReal => a * b) ?_ rfl) (Finset.sum_congr rfl fun e _ => congrArg₂ (fun a b : EReal => a * b) ?_ rfl)
  · have he : e.val < 64 := e.isLt
    refine congrArg (fun i => silu (X i)) ((ix5_congr _ h ?_ ?_ ?_))
    · show n.val = (2 * (4 * n.val + j.val)) / 8
      omega
    · show j.val * 2 + e.val / 64 = (2 * (4 * n.val + j.val)) % 8
      omega
    · show e.val % 64 = e.val
      omega
  · have he : e.val < 64 := e.isLt
    refine congrArg (fun i => silu (X i)) ((ix5_congr _ h ?_ ?_ ?_))
    · show n.val = (2 * (4 * n.val + j.val) + 1) / 8
      omega
    · show j.val * 2 + (64 + e.val) / 64 = (2 * (4 * n.val + j.val) + 1) % 8
      omega
    · show (64 + e.val) % 64 = e.val
      omega

theorem pre4_at (X : FVec Ideal S1x12x128x4x64 .f32) (W : FVec Ideal S5x64x128 .f32) (h : Fin 12) (n : Fin 128) (j : Fin 2) (d : Fin 64) :
    Host.dotGeneral dot_S1x12x128x2x128_S128x64_S1x12x128x2x64_4_0_0123_1_n_n none (shapeCast S1x12x128x2x128 (mulf X (Host.divf (broadcastInDim S1x12x128x4x64 ![] bcast_S_S1x12x128x4x64 (constant S_ .f32 0x3F800000#32)) (addf (broadcastInDim S1x12x128x4x64 ![] bcast_S_S1x12x128x4x64 (constant S_ .f32 0x3F800000#32)) (Host.exp (Host.negf X))))) shapeCasts_S1x12x128x4x64_S1x12x128x2x128) (transpose S128x64 [1, 0] (shapeCast S64x128 (extractStridedSlice S1x64x128 ![3, 0, 0] W slices_S5x64x128_S1x64x128_3_0_0) shapeCasts_S1x64x128_S64x128) transposes_S64x128_S128x64_1_0) (ix5 0 h n j d)
      = pre 256 (fun d e => W (ix3 3 d (Fin.castAdd 64 e))) (fun d e => W (ix3 3 d (Fin.natAdd 64 e)))
        (fun r e => silu (X (ix5 0 h ⟨r.val / 4, by omega⟩ ⟨r.val % 4, Nat.mod_lt _ (by omega)⟩ e))) ⟨2 * n.val + j.val, by omega⟩ d := by
  pointwise
  rw [Fin.sum_univ_add (a := 64) (b := 64)]
  unfold pre
  have hj : j.val < 2 := j.isLt
  refine congrArg₂ (fun a b : EReal => a + b) (Finset.sum_congr rfl fun e _ => congrArg₂ (fun a b : EReal => a * b) ?_ rfl) (Finset.sum_congr rfl fun e _ => congrArg₂ (fun a b : EReal => a * b) ?_ rfl)
  · have he : e.val < 64 := e.isLt
    refine congrArg (fun i => silu (X i)) ((ix5_congr _ h ?_ ?_ ?_))
    · show n.val = (2 * (2 * n.val + j.val)) / 4
      omega
    · show j.val * 2 + e.val / 64 = (2 * (2 * n.val + j.val)) % 4
      omega
    · show e.val % 64 = e.val
      omega
  · have he : e.val < 64 := e.isLt
    refine congrArg (fun i => silu (X i)) ((ix5_congr _ h ?_ ?_ ?_))
    · show n.val = (2 * (2 * n.val + j.val) + 1) / 4
      omega
    · show j.val * 2 + (64 + e.val) / 64 = (2 * (2 * n.val + j.val) + 1) % 4
      omega
    · show (64 + e.val) % 64 = e.val
      omega

theorem pre5_at (X : FVec Ideal S1x12x128x2x64 .f32) (W : FVec Ideal S5x64x128 .f32) (h : Fin 12) (n : Fin 128) (j : Fin 1) (d : Fin 64) :
    Host.dotGeneral dot_S1x12x128x1x128_S128x64_S1x12x128x1x64_4_0_0123_1_n_n none (shapeCast S1x12x128x1x128 (mulf X (Host.divf (broadcastInDim S1x12x128x2x64 ![] bcast_S_S1x12x128x2x64 (constant S_ .f32 0x3F800000#32)) (addf (broadcastInDim S1x12x128x2x64 ![] bcast_S_S1x12x128x2x64 (constant S_ .f32 0x3F800000#32)) (Host.exp (Host.negf X))))) shapeCasts_S1x12x128x2x64_S1x12x128x1x128) (transpose S128x64 [1, 0] (shapeCast S64x128 (extractStridedSlice S1x64x128 ![4, 0, 0] W slices_S5x64x128_S1x64x128_4_0_0) shapeCasts_S1x64x128_S64x128) transposes_S64x128_S128x64_1_0) (ix5 0 h n j d)
      = pre 128 (fun d e => W (ix3 4 d (Fin.castAdd 64 e))) (fun d e => W (ix3 4 d (Fin.natAdd 64 e)))
        (fun r e => silu (X (ix5 0 h ⟨r.val / 2, by omega⟩ ⟨r.val % 2, Nat.mod_lt _ (by omega)⟩ e))) ⟨1 * n.val + j.val, by omega⟩ d := by
  pointwise
  rw [Fin.sum_univ_add (a := 64) (b := 64)]
  unfold pre
  have hj : j.val < 1 := j.isLt
  refine congrArg₂ (fun a b : EReal => a + b) (Finset.sum_congr rfl fun e _ => congrArg₂ (fun a b : EReal => a * b) ?_ rfl) (Finset.sum_congr rfl fun e _ => congrArg₂ (fun a b : EReal => a * b) ?_ rfl)
  · have he : e.val < 64 := e.isLt
    refine congrArg (fun i => silu (X i)) ((ix5_congr _ h ?_ ?_ ?_))
    · show n.val = (2 * n.val) / 2
      omega
    · show e.val / 64 = (2 * n.val) % 2
      omega
    · show e.val % 64 = e.val
      omega
  · have he : e.val < 64 := e.isLt
    refine congrArg (fun i => silu (X i)) ((ix5_congr _ h ?_ ?_ ?_))
    · show n.val = (2 * n.val + 1) / 2
      omega
    · show (64 + e.val) / 64 = (2 * n.val + 1) % 2
      omega
    · show (64 + e.val) % 64 = e.val
      omega

/-- The windows of the keys, and the layers over them. -/
theorem v22_at (V0 : Valuation τ sig (Elt Ideal)) (X : FVec Ideal S36x2048x64 .f32) (P : FVec Ideal S32x64 .f32) (D : FVec Ideal S5x64x128 .f32)
    (hX : (V0 (Proc.devRef .tc main_arg0) : FVec Ideal S36x2048x64 .f32) = X) (hP : (V0 (Proc.devRef .tc main_arg1) : FVec Ideal S32x64 .f32) = P) (hD : (V0 (Proc.devRef .tc main_arg2) : FVec Ideal S5x64x128 .f32) = D) (h : Fin 12) (n : Fin 127) (j : Fin 32) (d : Fin 64) :
    res_main_v22 V0 (ix5 0 h n j d) = X (ix3 ⟨12 + h.val, by omega⟩ ⟨16 * n.val + j.val, by omega⟩ d) + P (ix2 j d) := by
  subst hX hP
  unfold res_main_v22
  refine congrArg₂ (fun a b : EReal => a + b) ((gather_at _ _ h n j d (pos12_at V0 n j)).trans ?_) ?_
  · pointwise
  · pointwise

theorem v30_at (V0 : Valuation τ sig (Elt Ideal)) (X : FVec Ideal S36x2048x64 .f32) (P : FVec Ideal S32x64 .f32) (D : FVec Ideal S5x64x128 .f32)
    (hX : (V0 (Proc.devRef .tc main_arg0) : FVec Ideal S36x2048x64 .f32) = X) (hP : (V0 (Proc.devRef .tc main_arg1) : FVec Ideal S32x64 .f32) = P) (hD : (V0 (Proc.devRef .tc main_arg2) : FVec Ideal S5x64x128 .f32) = D) (h : Fin 12) (n : Fin 128) (j : Fin 16) (d : Fin 64) :
    res_main_v30 V0 (ix5 0 h n j d) = pre 2048 (fun d e => D (ix3 0 d (Fin.castAdd 64 e))) (fun d e => D (ix3 0 d (Fin.natAdd 64 e)))
      (win (fun s e => X (ix3 ⟨12 + h.val, by omega⟩ s e)) (fun j e => P (ix2 j e))) ⟨16 * n.val + j.val, by omega⟩ d := by
  unfold res_main_v30
  refine (pre1_at (res_main_v22 V0) (V0 (Proc.devRef .tc main_arg2)) h n j d).trans (pre_congr 2048 (fun _ _ => congrFun hD _) (fun _ _ => congrFun hD _) (fun r e => ?_) _ _)
  have hr : r.val < 4096 := r.isLt
  unfold win
  by_cases h1 : r.val / 32 < 1
  · exact (if_pos h1).trans (if_pos h1).symm
  refine (if_neg h1).trans (Eq.trans ?_ (if_neg h1).symm)
  refine (v22_at V0 X P D hX hP hD h _ _ e).trans (congrArg₂ (fun a b : EReal => a + b) (congrArg (fun a => X (ix3 ⟨12 + h.val, by omega⟩ a e)) (Fin.ext ?_)) rfl)
  show 16 * (r.val / 32 - 1) + r.val % 32 = (16 * (r.val / 32 - 1) + r.val % 32) % 2048
  omega

theorem v36_at (V0 : Valuation τ sig (Elt Ideal)) (X : FVec Ideal S36x2048x64 .f32) (P : FVec Ideal S32x64 .f32) (D : FVec Ideal S5x64x128 .f32)
    (hX : (V0 (Proc.devRef .tc main_arg0) : FVec Ideal S36x2048x64 .f32) = X) (hP : (V0 (Proc.devRef .tc main_arg1) : FVec Ideal S32x64 .f32) = P) (hD : (V0 (Proc.devRef .tc main_arg2) : FVec Ideal S5x64x128 .f32) = D) (h : Fin 12) (n : Fin 128) (j : Fin 8) (d : Fin 64) :
    res_main_v36 V0 (ix5 0 h n j d) = pre 1024 (fun d e => D (ix3 1 d (Fin.castAdd 64 e))) (fun d e => D (ix3 1 d (Fin.natAdd 64 e)))
      (layer 2048 (fun d e => D (ix3 0 d (Fin.castAdd 64 e))) (fun d e => D (ix3 0 d (Fin.natAdd 64 e)))
      (win (fun s e => X (ix3 ⟨12 + h.val, by omega⟩ s e)) (fun j e => P (ix2 j e)))) ⟨8 * n.val + j.val, by omega⟩ d := by
  unfold res_main_v36
  refine (pre2_at (res_main_v30 V0) (V0 (Proc.devRef .tc main_arg2)) h n j d).trans (pre_congr 1024 (fun _ _ => congrFun hD _) (fun _ _ => congrFun hD _) (fun r e => ?_) _ _)
  have hr : r.val < 2048 := r.isLt
  refine congrArg silu ((v30_at V0 X P D hX hP hD h _ _ e).trans (congrArg (fun a => pre 2048 _ _ _ a e) (Fin.ext ?_)))
  show 16 * (r.val / 16) + r.val % 16 = r.val
  omega

theorem v42_at (V0 : Valuation τ sig (Elt Ideal)) (X : FVec Ideal S36x2048x64 .f32) (P : FVec Ideal S32x64 .f32) (D : FVec Ideal S5x64x128 .f32)
    (hX : (V0 (Proc.devRef .tc main_arg0) : FVec Ideal S36x2048x64 .f32) = X) (hP : (V0 (Proc.devRef .tc main_arg1) : FVec Ideal S32x64 .f32) = P) (hD : (V0 (Proc.devRef .tc main_arg2) : FVec Ideal S5x64x128 .f32) = D) (h : Fin 12) (n : Fin 128) (j : Fin 4) (d : Fin 64) :
    res_main_v42 V0 (ix5 0 h n j d) = pre 512 (fun d e => D (ix3 2 d (Fin.castAdd 64 e))) (fun d e => D (ix3 2 d (Fin.natAdd 64 e)))
      (layer 1024 (fun d e => D (ix3 1 d (Fin.castAdd 64 e))) (fun d e => D (ix3 1 d (Fin.natAdd 64 e)))
      (layer 2048 (fun d e => D (ix3 0 d (Fin.castAdd 64 e))) (fun d e => D (ix3 0 d (Fin.natAdd 64 e)))
      (win (fun s e => X (ix3 ⟨12 + h.val, by omega⟩ s e)) (fun j e => P (ix2 j e))))) ⟨4 * n.val + j.val, by omega⟩ d := by
  unfold res_main_v42
  refine (pre3_at (res_main_v36 V0) (V0 (Proc.devRef .tc main_arg2)) h n j d).trans (pre_congr 512 (fun _ _ => congrFun hD _) (fun _ _ => congrFun hD _) (fun r e => ?_) _ _)
  have hr : r.val < 1024 := r.isLt
  refine congrArg silu ((v36_at V0 X P D hX hP hD h _ _ e).trans (congrArg (fun a => pre 1024 _ _ _ a e) (Fin.ext ?_)))
  show 8 * (r.val / 8) + r.val % 8 = r.val
  omega

theorem v48_at (V0 : Valuation τ sig (Elt Ideal)) (X : FVec Ideal S36x2048x64 .f32) (P : FVec Ideal S32x64 .f32) (D : FVec Ideal S5x64x128 .f32)
    (hX : (V0 (Proc.devRef .tc main_arg0) : FVec Ideal S36x2048x64 .f32) = X) (hP : (V0 (Proc.devRef .tc main_arg1) : FVec Ideal S32x64 .f32) = P) (hD : (V0 (Proc.devRef .tc main_arg2) : FVec Ideal S5x64x128 .f32) = D) (h : Fin 12) (n : Fin 128) (j : Fin 2) (d : Fin 64) :
    res_main_v48 V0 (ix5 0 h n j d) = pre 256 (fun d e => D (ix3 3 d (Fin.castAdd 64 e))) (fun d e => D (ix3 3 d (Fin.natAdd 64 e)))
      (layer 512 (fun d e => D (ix3 2 d (Fin.castAdd 64 e))) (fun d e => D (ix3 2 d (Fin.natAdd 64 e)))
      (layer 1024 (fun d e => D (ix3 1 d (Fin.castAdd 64 e))) (fun d e => D (ix3 1 d (Fin.natAdd 64 e)))
      (layer 2048 (fun d e => D (ix3 0 d (Fin.castAdd 64 e))) (fun d e => D (ix3 0 d (Fin.natAdd 64 e)))
      (win (fun s e => X (ix3 ⟨12 + h.val, by omega⟩ s e)) (fun j e => P (ix2 j e)))))) ⟨2 * n.val + j.val, by omega⟩ d := by
  unfold res_main_v48
  refine (pre4_at (res_main_v42 V0) (V0 (Proc.devRef .tc main_arg2)) h n j d).trans (pre_congr 256 (fun _ _ => congrFun hD _) (fun _ _ => congrFun hD _) (fun r e => ?_) _ _)
  have hr : r.val < 512 := r.isLt
  refine congrArg silu ((v42_at V0 X P D hX hP hD h _ _ e).trans (congrArg (fun a => pre 512 _ _ _ a e) (Fin.ext ?_)))
  show 4 * (r.val / 4) + r.val % 4 = r.val
  omega

theorem v54_at (V0 : Valuation τ sig (Elt Ideal)) (X : FVec Ideal S36x2048x64 .f32) (P : FVec Ideal S32x64 .f32) (D : FVec Ideal S5x64x128 .f32)
    (hX : (V0 (Proc.devRef .tc main_arg0) : FVec Ideal S36x2048x64 .f32) = X) (hP : (V0 (Proc.devRef .tc main_arg1) : FVec Ideal S32x64 .f32) = P) (hD : (V0 (Proc.devRef .tc main_arg2) : FVec Ideal S5x64x128 .f32) = D) (h : Fin 12) (n : Fin 128) (j : Fin 1) (d : Fin 64) :
    res_main_v54 V0 (ix5 0 h n j d) = pre 128 (fun d e => D (ix3 4 d (Fin.castAdd 64 e))) (fun d e => D (ix3 4 d (Fin.natAdd 64 e)))
      (layer 256 (fun d e => D (ix3 3 d (Fin.castAdd 64 e))) (fun d e => D (ix3 3 d (Fin.natAdd 64 e)))
      (layer 512 (fun d e => D (ix3 2 d (Fin.castAdd 64 e))) (fun d e => D (ix3 2 d (Fin.natAdd 64 e)))
      (layer 1024 (fun d e => D (ix3 1 d (Fin.castAdd 64 e))) (fun d e => D (ix3 1 d (Fin.natAdd 64 e)))
      (layer 2048 (fun d e => D (ix3 0 d (Fin.castAdd 64 e))) (fun d e => D (ix3 0 d (Fin.natAdd 64 e)))
      (win (fun s e => X (ix3 ⟨12 + h.val, by omega⟩ s e)) (fun j e => P (ix2 j e))))))) ⟨1 * n.val + j.val, by omega⟩ d := by
  unfold res_main_v54
  refine (pre5_at (res_main_v48 V0) (V0 (Proc.devRef .tc main_arg2)) h n j d).trans (pre_congr 128 (fun _ _ => congrFun hD _) (fun _ _ => congrFun hD _) (fun r e => ?_) _ _)
  have hr : r.val < 256 := r.isLt
  refine congrArg silu ((v48_at V0 X P D hX hP hD h _ _ e).trans (congrArg (fun a => pre 256 _ _ _ a e) (Fin.ext ?_)))
  show 2 * (r.val / 2) + r.val % 2 = r.val
  omega

theorem keys_at (V0 : Valuation τ sig (Elt Ideal)) (X : FVec Ideal S36x2048x64 .f32) (P : FVec Ideal S32x64 .f32) (D : FVec Ideal S5x64x128 .f32) (S : FVec Ideal S64x64 .f32)
    (hX : (V0 (Proc.devRef .tc main_arg0) : FVec Ideal S36x2048x64 .f32) = X) (hP : (V0 (Proc.devRef .tc main_arg1) : FVec Ideal S32x64 .f32) = P) (hD : (V0 (Proc.devRef .tc main_arg2) : FVec Ideal S5x64x128 .f32) = D) (h : Fin 12) (n : Fin 128) (d : Fin 64) :
    ∑ e : Fin 64, silu (res_main_v54 V0 (ix5 0 h n 0 e)) * S (ix2 d e)
      = phi (fun s e => X (ix3 ⟨12 + h.val, by omega⟩ s e)) (fun j e => P (ix2 j e)) (fun i d e => D (ix3 i d e)) (fun d e => S (ix2 d e)) n d := by
  unfold phi
  refine Finset.sum_congr rfl fun e _ => congrArg₂ (fun a b : EReal => a * b) ?_ rfl
  refine congrArg silu ((v54_at V0 X P D hX hP hD h n 0 e).trans (congrArg (fun a => pre 128 _ _ _ a e) (Fin.ext ?_)))
  show 1 * n.val + 0 = n.val
  omega

/-- The windows of the values, and the layers over them. -/
theorem v77_at (V0 : Valuation τ sig (Elt Ideal)) (X : FVec Ideal S36x2048x64 .f32) (P : FVec Ideal S32x64 .f32) (D : FVec Ideal S5x64x128 .f32)
    (hX : (V0 (Proc.devRef .tc main_arg0) : FVec Ideal S36x2048x64 .f32) = X) (hP : (V0 (Proc.devRef .tc main_arg4) : FVec Ideal S32x64 .f32) = P) (hD : (V0 (Proc.devRef .tc main_arg5) : FVec Ideal S5x64x128 .f32) = D) (h : Fin 12) (n : Fin 127) (j : Fin 32) (d : Fin 64) :
    res_main_v77 V0 (ix5 0 h n j d) = X (ix3 ⟨24 + h.val, by omega⟩ ⟨16 * n.val + j.val, by omega⟩ d) + P (ix2 j d) := by
  subst hX hP
  unfold res_main_v77
  refine congrArg₂ (fun a b : EReal => a + b) ((gather_at _ _ h n j d (pos67_at V0 n j)).trans ?_) ?_
  · pointwise
  · pointwise

theorem v85_at (V0 : Valuation τ sig (Elt Ideal)) (X : FVec Ideal S36x2048x64 .f32) (P : FVec Ideal S32x64 .f32) (D : FVec Ideal S5x64x128 .f32)
    (hX : (V0 (Proc.devRef .tc main_arg0) : FVec Ideal S36x2048x64 .f32) = X) (hP : (V0 (Proc.devRef .tc main_arg4) : FVec Ideal S32x64 .f32) = P) (hD : (V0 (Proc.devRef .tc main_arg5) : FVec Ideal S5x64x128 .f32) = D) (h : Fin 12) (n : Fin 128) (j : Fin 16) (d : Fin 64) :
    res_main_v85 V0 (ix5 0 h n j d) = pre 2048 (fun d e => D (ix3 0 d (Fin.castAdd 64 e))) (fun d e => D (ix3 0 d (Fin.natAdd 64 e)))
      (win (fun s e => X (ix3 ⟨24 + h.val, by omega⟩ s e)) (fun j e => P (ix2 j e))) ⟨16 * n.val + j.val, by omega⟩ d := by
  unfold res_main_v85
  refine (pre1_at (res_main_v77 V0) (V0 (Proc.devRef .tc main_arg5)) h n j d).trans (pre_congr 2048 (fun _ _ => congrFun hD _) (fun _ _ => congrFun hD _) (fun r e => ?_) _ _)
  have hr : r.val < 4096 := r.isLt
  unfold win
  by_cases h1 : r.val / 32 < 1
  · exact (if_pos h1).trans (if_pos h1).symm
  refine (if_neg h1).trans (Eq.trans ?_ (if_neg h1).symm)
  refine (v77_at V0 X P D hX hP hD h _ _ e).trans (congrArg₂ (fun a b : EReal => a + b) (congrArg (fun a => X (ix3 ⟨24 + h.val, by omega⟩ a e)) (Fin.ext ?_)) rfl)
  show 16 * (r.val / 32 - 1) + r.val % 32 = (16 * (r.val / 32 - 1) + r.val % 32) % 2048
  omega

theorem v91_at (V0 : Valuation τ sig (Elt Ideal)) (X : FVec Ideal S36x2048x64 .f32) (P : FVec Ideal S32x64 .f32) (D : FVec Ideal S5x64x128 .f32)
    (hX : (V0 (Proc.devRef .tc main_arg0) : FVec Ideal S36x2048x64 .f32) = X) (hP : (V0 (Proc.devRef .tc main_arg4) : FVec Ideal S32x64 .f32) = P) (hD : (V0 (Proc.devRef .tc main_arg5) : FVec Ideal S5x64x128 .f32) = D) (h : Fin 12) (n : Fin 128) (j : Fin 8) (d : Fin 64) :
    res_main_v91 V0 (ix5 0 h n j d) = pre 1024 (fun d e => D (ix3 1 d (Fin.castAdd 64 e))) (fun d e => D (ix3 1 d (Fin.natAdd 64 e)))
      (layer 2048 (fun d e => D (ix3 0 d (Fin.castAdd 64 e))) (fun d e => D (ix3 0 d (Fin.natAdd 64 e)))
      (win (fun s e => X (ix3 ⟨24 + h.val, by omega⟩ s e)) (fun j e => P (ix2 j e)))) ⟨8 * n.val + j.val, by omega⟩ d := by
  unfold res_main_v91
  refine (pre2_at (res_main_v85 V0) (V0 (Proc.devRef .tc main_arg5)) h n j d).trans (pre_congr 1024 (fun _ _ => congrFun hD _) (fun _ _ => congrFun hD _) (fun r e => ?_) _ _)
  have hr : r.val < 2048 := r.isLt
  refine congrArg silu ((v85_at V0 X P D hX hP hD h _ _ e).trans (congrArg (fun a => pre 2048 _ _ _ a e) (Fin.ext ?_)))
  show 16 * (r.val / 16) + r.val % 16 = r.val
  omega

theorem v97_at (V0 : Valuation τ sig (Elt Ideal)) (X : FVec Ideal S36x2048x64 .f32) (P : FVec Ideal S32x64 .f32) (D : FVec Ideal S5x64x128 .f32)
    (hX : (V0 (Proc.devRef .tc main_arg0) : FVec Ideal S36x2048x64 .f32) = X) (hP : (V0 (Proc.devRef .tc main_arg4) : FVec Ideal S32x64 .f32) = P) (hD : (V0 (Proc.devRef .tc main_arg5) : FVec Ideal S5x64x128 .f32) = D) (h : Fin 12) (n : Fin 128) (j : Fin 4) (d : Fin 64) :
    res_main_v97 V0 (ix5 0 h n j d) = pre 512 (fun d e => D (ix3 2 d (Fin.castAdd 64 e))) (fun d e => D (ix3 2 d (Fin.natAdd 64 e)))
      (layer 1024 (fun d e => D (ix3 1 d (Fin.castAdd 64 e))) (fun d e => D (ix3 1 d (Fin.natAdd 64 e)))
      (layer 2048 (fun d e => D (ix3 0 d (Fin.castAdd 64 e))) (fun d e => D (ix3 0 d (Fin.natAdd 64 e)))
      (win (fun s e => X (ix3 ⟨24 + h.val, by omega⟩ s e)) (fun j e => P (ix2 j e))))) ⟨4 * n.val + j.val, by omega⟩ d := by
  unfold res_main_v97
  refine (pre3_at (res_main_v91 V0) (V0 (Proc.devRef .tc main_arg5)) h n j d).trans (pre_congr 512 (fun _ _ => congrFun hD _) (fun _ _ => congrFun hD _) (fun r e => ?_) _ _)
  have hr : r.val < 1024 := r.isLt
  refine congrArg silu ((v91_at V0 X P D hX hP hD h _ _ e).trans (congrArg (fun a => pre 1024 _ _ _ a e) (Fin.ext ?_)))
  show 8 * (r.val / 8) + r.val % 8 = r.val
  omega

theorem v103_at (V0 : Valuation τ sig (Elt Ideal)) (X : FVec Ideal S36x2048x64 .f32) (P : FVec Ideal S32x64 .f32) (D : FVec Ideal S5x64x128 .f32)
    (hX : (V0 (Proc.devRef .tc main_arg0) : FVec Ideal S36x2048x64 .f32) = X) (hP : (V0 (Proc.devRef .tc main_arg4) : FVec Ideal S32x64 .f32) = P) (hD : (V0 (Proc.devRef .tc main_arg5) : FVec Ideal S5x64x128 .f32) = D) (h : Fin 12) (n : Fin 128) (j : Fin 2) (d : Fin 64) :
    res_main_v103 V0 (ix5 0 h n j d) = pre 256 (fun d e => D (ix3 3 d (Fin.castAdd 64 e))) (fun d e => D (ix3 3 d (Fin.natAdd 64 e)))
      (layer 512 (fun d e => D (ix3 2 d (Fin.castAdd 64 e))) (fun d e => D (ix3 2 d (Fin.natAdd 64 e)))
      (layer 1024 (fun d e => D (ix3 1 d (Fin.castAdd 64 e))) (fun d e => D (ix3 1 d (Fin.natAdd 64 e)))
      (layer 2048 (fun d e => D (ix3 0 d (Fin.castAdd 64 e))) (fun d e => D (ix3 0 d (Fin.natAdd 64 e)))
      (win (fun s e => X (ix3 ⟨24 + h.val, by omega⟩ s e)) (fun j e => P (ix2 j e)))))) ⟨2 * n.val + j.val, by omega⟩ d := by
  unfold res_main_v103
  refine (pre4_at (res_main_v97 V0) (V0 (Proc.devRef .tc main_arg5)) h n j d).trans (pre_congr 256 (fun _ _ => congrFun hD _) (fun _ _ => congrFun hD _) (fun r e => ?_) _ _)
  have hr : r.val < 512 := r.isLt
  refine congrArg silu ((v97_at V0 X P D hX hP hD h _ _ e).trans (congrArg (fun a => pre 512 _ _ _ a e) (Fin.ext ?_)))
  show 4 * (r.val / 4) + r.val % 4 = r.val
  omega

theorem v109_at (V0 : Valuation τ sig (Elt Ideal)) (X : FVec Ideal S36x2048x64 .f32) (P : FVec Ideal S32x64 .f32) (D : FVec Ideal S5x64x128 .f32)
    (hX : (V0 (Proc.devRef .tc main_arg0) : FVec Ideal S36x2048x64 .f32) = X) (hP : (V0 (Proc.devRef .tc main_arg4) : FVec Ideal S32x64 .f32) = P) (hD : (V0 (Proc.devRef .tc main_arg5) : FVec Ideal S5x64x128 .f32) = D) (h : Fin 12) (n : Fin 128) (j : Fin 1) (d : Fin 64) :
    res_main_v109 V0 (ix5 0 h n j d) = pre 128 (fun d e => D (ix3 4 d (Fin.castAdd 64 e))) (fun d e => D (ix3 4 d (Fin.natAdd 64 e)))
      (layer 256 (fun d e => D (ix3 3 d (Fin.castAdd 64 e))) (fun d e => D (ix3 3 d (Fin.natAdd 64 e)))
      (layer 512 (fun d e => D (ix3 2 d (Fin.castAdd 64 e))) (fun d e => D (ix3 2 d (Fin.natAdd 64 e)))
      (layer 1024 (fun d e => D (ix3 1 d (Fin.castAdd 64 e))) (fun d e => D (ix3 1 d (Fin.natAdd 64 e)))
      (layer 2048 (fun d e => D (ix3 0 d (Fin.castAdd 64 e))) (fun d e => D (ix3 0 d (Fin.natAdd 64 e)))
      (win (fun s e => X (ix3 ⟨24 + h.val, by omega⟩ s e)) (fun j e => P (ix2 j e))))))) ⟨1 * n.val + j.val, by omega⟩ d := by
  unfold res_main_v109
  refine (pre5_at (res_main_v103 V0) (V0 (Proc.devRef .tc main_arg5)) h n j d).trans (pre_congr 128 (fun _ _ => congrFun hD _) (fun _ _ => congrFun hD _) (fun r e => ?_) _ _)
  have hr : r.val < 256 := r.isLt
  refine congrArg silu ((v103_at V0 X P D hX hP hD h _ _ e).trans (congrArg (fun a => pre 256 _ _ _ a e) (Fin.ext ?_)))
  show 2 * (r.val / 2) + r.val % 2 = r.val
  omega

theorem values_at (V0 : Valuation τ sig (Elt Ideal)) (X : FVec Ideal S36x2048x64 .f32) (P : FVec Ideal S32x64 .f32) (D : FVec Ideal S5x64x128 .f32) (S : FVec Ideal S64x64 .f32)
    (hX : (V0 (Proc.devRef .tc main_arg0) : FVec Ideal S36x2048x64 .f32) = X) (hP : (V0 (Proc.devRef .tc main_arg4) : FVec Ideal S32x64 .f32) = P) (hD : (V0 (Proc.devRef .tc main_arg5) : FVec Ideal S5x64x128 .f32) = D) (h : Fin 12) (n : Fin 128) (d : Fin 64) :
    ∑ e : Fin 64, silu (res_main_v109 V0 (ix5 0 h n 0 e)) * S (ix2 d e)
      = phi (fun s e => X (ix3 ⟨24 + h.val, by omega⟩ s e)) (fun j e => P (ix2 j e)) (fun i d e => D (ix3 i d e)) (fun d e => S (ix2 d e)) n d := by
  unfold phi
  refine Finset.sum_congr rfl fun e _ => congrArg₂ (fun a b : EReal => a * b) ?_ rfl
  refine congrArg silu ((v109_at V0 X P D hX hP hD h n 0 e).trans (congrArg (fun a => pre 128 _ _ _ a e) (Fin.ext ?_)))
  show 1 * n.val + 0 = n.val
  omega

/-- The last products, stacked. -/
theorem tail_at (A B : FVec Ideal S1x12x128x1x64 .f32) (S T : FVec Ideal S64x64 .f32) (k : Fin 2) (h : Fin 12) (n : Fin 128) (d : Fin 64) :
    concatenate S2x12x128x64 0 [⟨S1x12x128x64, (broadcastInDim S1x12x128x64 ![1, 2, 3] bcast_S12x128x64_S1x12x128x64_1_2_3 (shapeCast S12x128x64 (shapeCast S1x12x128x64 (Host.dotGeneral dot_S1x12x128x1x64_S64x64_S1x12x128x1x64_4_0_0123_1_n_n none (mulf A (Host.divf (broadcastInDim S1x12x128x1x64 ![] bcast_S_S1x12x128x1x64 (constant S_ .f32 0x3F800000#32)) (addf (broadcastInDim S1x12x128x1x64 ![] bcast_S_S1x12x128x1x64 (constant S_ .f32 0x3F800000#32)) (Host.exp (Host.negf A))))) (transpose S64x64 [1, 0] S transposes_S64x64_S64x64_1_0 : FVec Ideal S64x64 .f32)) shapeCasts_S1x12x128x1x64_S1x12x128x64) shapeCasts_S1x12x128x64_S12x128x64) : FVec Ideal S1x12x128x64 .f32)⟩,
      ⟨S1x12x128x64, (broadcastInDim S1x12x128x64 ![1, 2, 3] bcast_S12x128x64_S1x12x128x64_1_2_3 (shapeCast S12x128x64 (shapeCast S1x12x128x64 (Host.dotGeneral dot_S1x12x128x1x64_S64x64_S1x12x128x1x64_4_0_0123_1_n_n none (mulf B (Host.divf (broadcastInDim S1x12x128x1x64 ![] bcast_S_S1x12x128x1x64 (constant S_ .f32 0x3F800000#32)) (addf (broadcastInDim S1x12x128x1x64 ![] bcast_S_S1x12x128x1x64 (constant S_ .f32 0x3F800000#32)) (Host.exp (Host.negf B))))) (transpose S64x64 [1, 0] T transposes_S64x64_S64x64_1_0 : FVec Ideal S64x64 .f32)) shapeCasts_S1x12x128x1x64_S1x12x128x64) shapeCasts_S1x12x128x64_S12x128x64) : FVec Ideal S1x12x128x64 .f32)⟩] concatenates_S1x12x128x64_S1x12x128x64_S2x12x128x64_d0 (ix4 k h n d)
      = if k.val < 1 then ∑ e : Fin 64, silu (A (ix5 0 h n 0 e)) * S (ix2 d e) else ∑ e : Fin 64, silu (B (ix5 0 h n 0 e)) * T (ix2 d e) := by
  pointwise
  by_cases h1 : k.val < 1
  · rw [dif_pos h1, if_pos h1]
    rfl
  · rw [dif_neg h1, if_neg h1]
    rfl

variable (m : (ℓ : Loc nD τ sig) → Buf (Elt Ideal) ℓ)

/-- The reference's result array is the compression of its arguments. -/
theorem ref_at (c : Dev nD) (k : Fin 2) (h : Fin 12) (n : Fin 128) (d : Fin 64) :
    concatenate S2x12x128x64 0 [⟨S1x12x128x64, (broadcastInDim S1x12x128x64 ![1, 2, 3] bcast_S12x128x64_S1x12x128x64_1_2_3 (shapeCast S12x128x64 (shapeCast S1x12x128x64 (Host.dotGeneral dot_S1x12x128x1x64_S64x64_S1x12x128x1x64_4_0_0123_1_n_n none (mulf (res_main_v54 (launchContents m c)) (Host.divf (broadcastInDim S1x12x128x1x64 ![] bcast_S_S1x12x128x1x64 (constant S_ .f32 0x3F800000#32)) (addf (broadcastInDim S1x12x128x1x64 ![] bcast_S_S1x12x128x1x64 (constant S_ .f32 0x3F800000#32)) (Host.exp (Host.negf (res_main_v54 (launchContents m c))))))) (transpose S64x64 [1, 0] ((launchContents m c) (Proc.devRef .tc main_arg3) : FVec Ideal S64x64 .f32) transposes_S64x64_S64x64_1_0 : FVec Ideal S64x64 .f32)) shapeCasts_S1x12x128x1x64_S1x12x128x64) shapeCasts_S1x12x128x64_S12x128x64) : FVec Ideal S1x12x128x64 .f32)⟩,
      ⟨S1x12x128x64, (broadcastInDim S1x12x128x64 ![1, 2, 3] bcast_S12x128x64_S1x12x128x64_1_2_3 (shapeCast S12x128x64 (shapeCast S1x12x128x64 (Host.dotGeneral dot_S1x12x128x1x64_S64x64_S1x12x128x1x64_4_0_0123_1_n_n none (mulf (res_main_v109 (launchContents m c)) (Host.divf (broadcastInDim S1x12x128x1x64 ![] bcast_S_S1x12x128x1x64 (constant S_ .f32 0x3F800000#32)) (addf (broadcastInDim S1x12x128x1x64 ![] bcast_S_S1x12x128x1x64 (constant S_ .f32 0x3F800000#32)) (Host.exp (Host.negf (res_main_v109 (launchContents m c))))))) (transpose S64x64 [1, 0] ((launchContents m c) (Proc.devRef .tc main_arg6) : FVec Ideal S64x64 .f32) transposes_S64x64_S64x64_1_0 : FVec Ideal S64x64 .f32)) shapeCasts_S1x12x128x1x64_S1x12x128x64) shapeCasts_S1x12x128x64_S12x128x64) : FVec Ideal S1x12x128x64 .f32)⟩] concatenates_S1x12x128x64_S1x12x128x64_S2x12x128x64_d0 (ix4 k h n d)
      = compress (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) k h n d := by
  refine (tail_at _ _ _ _ k h n d).trans ?_
  unfold compress
  by_cases h1 : k.val < 1
  · refine (if_pos h1).trans ((keys_at (launchContents m c) _ _ _ _ rfl rfl rfl h n d).trans (phi_congr (fun s e => congrArg (fun a => (m ((c.tc : Thread nD τ).loc main_arg0) : FVec Ideal S36x2048x64 .f32) (ix3 a s e)) (Fin.ext ?_))
      (fun _ _ => (if_pos h1).symm) (fun _ _ _ => (if_pos h1).symm) (fun _ _ => (if_pos h1).symm) n d))
    show 12 + h.val = 12 * (k.val + 1) + h.val
    omega
  · refine (if_neg h1).trans ((values_at (launchContents m c) _ _ _ _ rfl rfl rfl h n d).trans (phi_congr (fun s e => congrArg (fun a => (m ((c.tc : Thread nD τ).loc main_arg0) : FVec Ideal S36x2048x64 .f32) (ix3 a s e)) (Fin.ext ?_))
      (fun _ _ => (if_neg h1).symm) (fun _ _ _ => (if_neg h1).symm) (fun _ _ => (if_neg h1).symm) n d))
    show 24 + h.val = 12 * (k.val + 1) + h.val
    omega

end Cert.Reference4Ideal.Hand
-- ==== Proof.SelectSpec.lean ====
/- The selection: the masked softmax of a query row over the compressed blocks, the blocks' scores and their ranks, in plain numbers. -/
module

public import Idealize.ShloMosaic.Lib.Pointwise
public import Idealize.ShloMosaic.Lib.SortPrefix

@[expose] public section

set_option maxRecDepth 16384

noncomputable section

namespace Cert.Select

open Idealize.ShloMosaic

/-- Whether a row sees a compressed block. -/
def sees (q : Fin 2048) (j : Fin 128) : Prop := j.val < q.val / 16 ∨ (j.val = 0 ∧ q.val < 512)

instance (q : Fin 2048) (j : Fin 128) : Decidable (sees q j) := inferInstanceAs (Decidable (_ ∨ _))

/-- The scaled scores. -/
def sc (Q : Fin 2048 → Fin 64 → EReal) (K : Fin 128 → Fin 64 → EReal) (q : Fin 2048) (j : Fin 128) : EReal :=
  (∑ d : Fin 64, Q q d * K j d) * Ideal.ofBits .f32 0x3E000000#32

/-- A row's maximum. -/
def mx (x : Fin 2048 → Fin 128 → EReal) (q : Fin 2048) : EReal :=
  Finset.univ.fold max (⊥ : EReal) fun j : Fin 128 => if sees q j then x q j else Ideal.ofBits .f32 0xFF7FFFFF#32

/-- The exponentials. -/
def ex (x : Fin 2048 → Fin 128 → EReal) (q : Fin 2048) (j : Fin 128) : EReal :=
  if sees q j then Ideal.exp (x q j - mx x q) else 0

/-- The probabilities. -/
def pr (x : Fin 2048 → Fin 128 → EReal) (q : Fin 2048) (j : Fin 128) : EReal :=
  Ideal.div (ex x q j) (max (∑ k : Fin 128, ex x q k) (Ideal.ofBits .f32 0x0DA24260#32))

/-- The five weights. -/
def w5 (t : Fin 5) : EReal := if 1 ≤ t.val ∧ t.val ≤ 3 then Ideal.ofBits .f32 0x40000000#32 else Ideal.ofBits .f32 0x3F800000#32

/-- The weight of a compressed block in a block's score. -/
def wt (i : Fin 128) (j : Fin 32) : EReal :=
  if 4 * j.val ≤ i.val + 1 ∧ i.val + 1 ≤ 4 * j.val + 4 then
    if 4 * j.val + 1 ≤ i.val + 1 ∧ i.val + 1 ≤ 4 * j.val + 3 then Ideal.ofBits .f32 0x40000000#32 else Ideal.ofBits .f32 0x3F800000#32
  else 0

/-- The blocks' scores. -/
def bs (p : Fin 128 → EReal) (j : Fin 32) : EReal := ∑ i : Fin 128, p i * wt i j

/-- Whether a block comes before another: its score is greater, or the same and its number is smaller. -/
def beats (f : Fin 32 → EReal) (l j : Fin 32) : Prop := f j < f l ∨ (f l = f j ∧ l < j)

instance (f : Fin 32 → EReal) (l j : Fin 32) : Decidable (beats f l j) := Classical.propDecidable _

/-- Whether fewer than sixteen blocks come before a block. -/
def top (f : Fin 32 → EReal) (j : Fin 32) : Prop := (Finset.univ.filter fun l => beats f l j).card < 16

open Classical in
/-- The selection. -/
def sel (x : Fin 2048 → Fin 128 → EReal) (q : Fin 2048) (j : Fin 32) : EReal :=
  if top (bs (pr x q)) j ∧ j.val < q.val / 64 then 1 else 0

/-- A block's score from the five entries it covers, of a row with a zero on each side. -/
theorem bs_five (p : Fin 128 → EReal) (j : Fin 32) :
    bs p j = ∑ t : Fin 5, (if h : 1 ≤ 4 * j.val + t.val ∧ 4 * j.val + t.val < 129 then p ⟨4 * j.val + t.val - 1, by omega⟩ else 0) * w5 t := by
  have hw : ∀ i : Fin 128, p i * wt i j = ∑ t : Fin 5, if i.val + 1 = 4 * j.val + t.val then p i * w5 t else 0 := by
    intro i
    unfold wt w5
    rw [Fin.sum_univ_five]
    by_cases h : 4 * j.val ≤ i.val + 1 ∧ i.val + 1 ≤ 4 * j.val + 4
    · rw [if_pos h]
      obtain ⟨t, ht⟩ : ∃ t : Fin 5, i.val + 1 = 4 * j.val + t.val := ⟨⟨i.val + 1 - 4 * j.val, by omega⟩, by dsimp only; omega⟩
      rw [ht]
      fin_cases t <;> simp
    · rw [if_neg h, mul_zero]
      have hn : ∀ t : Fin 5, ¬ (i.val + 1 = 4 * j.val + t.val) := fun t ht => h (by omega)
      rw [if_neg (hn 0), if_neg (hn 1), if_neg (hn 2), if_neg (hn 3), if_neg (hn 4)]
      simp
  unfold bs
  rw [Finset.sum_congr rfl fun i _ => hw i, Finset.sum_comm]
  refine Finset.sum_congr rfl fun t _ => ?_
  by_cases h : 1 ≤ 4 * j.val + t.val ∧ 4 * j.val + t.val < 129
  · rw [dif_pos h, Finset.sum_eq_single (⟨4 * j.val + t.val - 1, by omega⟩ : Fin 128)]
    · exact if_pos (by dsimp only; omega)
    · intro b _ hb
      exact if_neg fun e => hb (Fin.ext (by dsimp only; omega))
    · intro hn; exact absurd (Finset.mem_univ _) hn
  · rw [dif_neg h, zero_mul]
    exact Finset.sum_eq_zero fun i _ => if_neg fun e => h (by omega)

/-- A stable sort compares an element only with later ones. -/
theorem sort_eq {n : ℕ} (R R' : Fin n → Fin n → Bool) (h : ∀ a b, a < b → R b a = R' b a) (l : List (Fin n)) (hl : l.Pairwise (· < ·)) :
    stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The sort by a key alone is the sort by the key and then the position. -/
theorem sorted_eq {n : ℕ} (f : Fin n → EReal) :
    sortedFrom (fun k k' => decide (f k' < f k)) = sortedFrom fun k k' => decide (f k' < f k) || (decide (f k = f k') && decide (k < k')) := by
  funext k
  unfold sortedFrom
  have : sortPositions n (fun k k' => decide (f k' < f k)) = sortPositions n fun k k' => decide (f k' < f k) || (decide (f k = f k') && decide (k < k')) :=
    sort_eq _ _ (fun a b hab => by simp [not_lt.mpr hab.le]) _ (List.pairwise_lt_finRange n)
  rw [List.get_of_eq this]
  rfl

/-- A position of a strict total order's sort: how many come before its entry. -/
theorem sorted_rank {n : ℕ} {B : Fin n → Fin n → Bool} (hB : StrictTotalBefore B) (k : Fin n) :
    (Finset.univ.filter fun l => B l (sortedFrom B k) = true).card = k.val := by
  classical
  have hsurj : Function.Surjective (sortedFrom B) := sortedFrom_surjective B
  have hinj : Function.Injective (sortedFrom B) := sortedFrom_injective B
  have hno : ∀ i k : Fin n, i < k → B (sortedFrom B k) (sortedFrom B i) = false :=
    sortedFrom_noInversion B B (hB.asymm) (fun _ _ h => h) (by
      intro a b c h1 h2
      by_contra hc
      have hc : B a c = true := by simpa using hc
      by_cases hab : a = b
      · rw [hab, h2] at hc; exact absurd hc (by decide)
      · rcases hB.total a b hab with h | h
        · rw [h1] at h; exact absurd h (by decide)
        · have := hB.trans b a c h hc
          rw [h2] at this; exact absurd this (by decide))
  have hlt : ∀ i k : Fin n, B (sortedFrom B i) (sortedFrom B k) = true ↔ i < k := by
    intro i k
    constructor
    · intro h
      by_contra hn
      rcases eq_or_lt_of_le (not_lt.mp hn) with e | e
      · rw [e, hB.irrefl] at h; exact absurd h (by decide)
      · rw [hno k i e] at h; exact absurd h (by decide)
    · intro h
      rcases hB.total (sortedFrom B i) (sortedFrom B k) (fun e => absurd (hinj e) (ne_of_lt h)) with e | e
      · exact e
      · rw [hno i k h] at e; exact absurd e (by decide)
  have : (Finset.univ.filter fun l => B l (sortedFrom B k) = true) = (Finset.Iio k).image (sortedFrom B) := by
    ext l
    obtain ⟨i, rfl⟩ := hsurj l
    rw [Finset.mem_filter, Finset.mem_image, hlt]
    constructor
    · intro h; exact ⟨i, Finset.mem_Iio.mpr h.2, rfl⟩
    · rintro ⟨i', h, e⟩; exact ⟨Finset.mem_univ _, hinj e ▸ Finset.mem_Iio.mp h⟩
  rw [this, Finset.card_image_of_injective _ hinj, Fin.card_Iio]

/-- A position is among the first of the sort exactly when few come before it. -/
theorem sorted_first {n m : ℕ} (hm : m ≤ n) (f : Fin n → EReal) (j : Fin n) :
    (∃ r : Fin m, sortedFrom (fun k k' => decide (f k' < f k)) (r.castLE hm) = j)
      ↔ (Finset.univ.filter fun l => (decide (f j < f l) || (decide (f l = f j) && decide (l < j))) = true).card < m := by
  rw [sorted_eq]
  have hB := StrictTotalBefore.of_key_then_position (fun x y : EReal => decide (y < x)) f (by simp)
    (by intro a b c h1 h2; simp only [decide_eq_true_eq] at *; exact h2.trans h1)
    (by intro a b; simp only [decide_eq_true_eq]; rcases lt_trichotomy a b with h | h | h <;> simp [h])
  obtain ⟨k, hk⟩ := sortedFrom_surjective (fun k k' : Fin n => decide (f k' < f k) || (decide (f k = f k') && decide (k < k'))) j
  have hr := sorted_rank hB k
  rw [hk] at hr
  rw [hr]
  constructor
  · rintro ⟨r, h⟩
    have := sortedFrom_injective _ (h.trans hk.symm)
    rw [← this]; exact r.isLt
  · intro h
    exact ⟨⟨k.val, h⟩, hk⟩

/-- A block is among the first sixteen of the sort exactly when fewer than sixteen come before it. -/
theorem sorted_top (f : Fin 32 → EReal) (j : Fin 32) :
    (∃ r : Fin 16, sortedFrom (fun k k' => decide (f k' < f k)) (r.castLE (by decide)) = j) ↔ top f j := by
  refine (sorted_first (by decide) f j).trans ?_
  unfold top
  rw [Finset.filter_congr fun l _ => show ((decide (f j < f l) || (decide (f l = f j) && decide (l < j))) = true) ↔ beats f l j by
    simp only [Bool.or_eq_true, Bool.and_eq_true, decide_eq_true_eq]; rfl]

end Cert.Select
-- ==== Proof.SelectRef.lean ====
/- The selection as the reference writes it, read at an index. -/
module

public import proofs.«01_k».proof.Proof.Gen.Reference5Ideal.Run
public import proofs.«01_k».proof.Proof.SelectSpec
public import proofs.«01_k».proof.Proof.Words
public import proofs.«01_k».proof.Proof.Math
public import Idealize.ShloMosaic.Lib.Pointwise

@[expose] public section

set_option maxRecDepth 16384

noncomputable section

namespace Cert.Reference5Ideal.Hand

open Idealize.ShloMosaic Idealize.ShloMosaic.TcCoe Idealize.SL.Sem Cert.Reference5Ideal Cert.Reference5Ideal.Gen Cert.Select Cert.Attn

/-- The causal words of the compressed blocks, with the first block switched on for the first rows. -/
def scat : IVec S128x128 1 :=
  Host.scatter scatter_S128x128_S2_S32_0_1_01_0 (fun _ b => b) (select (cmpi .sge (addi (iotaInDim S128x128 32 0) (broadcastInDim S128x128 ![] bcast_S_S128x128 (constantI S_ 32 4294967295#32))) (iotaInDim S128x128 32 1)) (broadcastInDim S128x128 ![] bcast_S_S128x128 (constantI S_ 1 1#1)) (broadcastInDim S128x128 ![] bcast_S_S128x128 (constantI S_ 1 0#1))) (concatenate S2 0 [⟨S1, (broadcastInDim S1 ![] bcast_S_S1 (constantI S_ 32 0#32))⟩, ⟨S1, (broadcastInDim S1 ![] bcast_S_S1 (constantI S_ 32 0#32))⟩] concatenates_S1_S1_S2_d0) (broadcastInDim S32 ![] bcast_S_S32 (constantI S_ 1 1#1))

/-- The mask. -/
def mask : IVec S12x2048x128 1 :=
  broadcastInDim S12x2048x128 ![0, 1, 2] bcast_S1x2048x128_S12x2048x128_0_1_2 (broadcastInDim S1x2048x128 ![1, 2] bcast_S2048x128_S1x2048x128_1_2 (shapeCast _ (broadcastInDim S128x16x128 ![0, 2] bcast_S128x128_S128x16x128_0_2 scat) shapeCasts_S128x16x128_S2048x128))

/-- The scaled scores. -/
def scores (A : FVec Ideal S36x2048x64 .f32) (C : FVec Ideal S2x12x128x64 .f32) : FVec Ideal S12x2048x128 .f32 :=
  mulf (Host.dotGeneral dot_S12x2048x64_S12x128x64_S12x2048x128_2_2_1_1_0_0 none (extractStridedSlice S12x2048x64 ![0, 0, 0] A slices_S36x2048x64_S12x2048x64_0_0_0) (shapeCast _ (extractStridedSlice S1x12x128x64 ![0, 0, 0, 0] C slices_S2x12x128x64_S1x12x128x64_0_0_0_0) shapeCasts_S1x12x128x64_S12x128x64)) (broadcastInDim S12x2048x128 ![] bcast_S_S12x2048x128 (constant S_ .f32 0x3E000000#32))

/-- The rows' maxima. -/
def rmax (M : IVec S12x2048x128 1) (X : FVec Ideal S12x2048x128 .f32) : FVec Ideal S12x2048 .f32 :=
  Host.reduce FloatOps.maximumf (select M X (broadcastInDim S12x2048x128 ![] bcast_S_S12x2048x128 (constant S_ .f32 0xFF7FFFFF#32))) (constant S_ .f32 0xFF800000#32) reducesTo_S12x2048x128_S12x2048_d2 h_S_

/-- The exponentials. -/
def rexp (M : IVec S12x2048x128 1) (X : FVec Ideal S12x2048x128 .f32) : FVec Ideal S12x2048x128 .f32 :=
  select M (Host.exp (subf (select M X (broadcastInDim S12x2048x128 ![] bcast_S_S12x2048x128 (constant S_ .f32 0xFF7FFFFF#32))) (broadcastInDim S12x2048x128 ![0, 1, 2] bcast_S12x2048x1_S12x2048x128_0_1_2 (broadcastInDim S12x2048x1 ![0, 1] bcast_S12x2048_S12x2048x1_0_1 (rmax M X))))) (broadcastInDim S12x2048x128 ![] bcast_S_S12x2048x128 (id (constant S_ .f32 0x00000000#32)))

/-- The probabilities. -/
def probs (M : IVec S12x2048x128 1) (X : FVec Ideal S12x2048x128 .f32) : FVec Ideal S12x2048x128 .f32 :=
  Host.divf (rexp M X) (broadcastInDim S12x2048x128 ![0, 1, 2] bcast_S12x2048x1_S12x2048x128_0_1_2 (maximumf (broadcastInDim S12x2048x1 ![0, 1] bcast_S12x2048_S12x2048x1_0_1 (Host.reduceAdd (rexp M X) (constant S_ .f32 0x00000000#32) reducesTo_S12x2048x128_S12x2048_d2 h_S_)) (broadcastInDim S12x2048x1 ![] bcast_S_S12x2048x1 (constant S_ .f32 0x0DA24260#32))))

/-- The positions read. -/
def pos : IVec S32x5x1 32 :=
  broadcastInDim S32x5x1 ![0, 1] bcast_S32x5_S32x5x1_0_1 (select (cmpi .slt (addi (broadcastInDim S32x5 ![0, 1] bcast_S32x1_S32x5_0_1 (muli (broadcastInDim S32x1 ![0] bcast_S32_S32x1_0 (iotaInDim S32 32 0)) (broadcastInDim S32x1 ![] bcast_S_S32x1 (constantI S_ 32 4#32)))) (broadcastInDim S32x5 ![0, 1] bcast_S1x5_S32x5_0_1 (broadcastInDim S1x5 ![1] bcast_S5_S1x5_1 (iotaInDim S5 32 0)))) (broadcastInDim S32x5 ![] bcast_S_S32x5 (constantI S_ 32 0#32))) (addi (addi (broadcastInDim S32x5 ![0, 1] bcast_S32x1_S32x5_0_1 (muli (broadcastInDim S32x1 ![0] bcast_S32_S32x1_0 (iotaInDim S32 32 0)) (broadcastInDim S32x1 ![] bcast_S_S32x1 (constantI S_ 32 4#32)))) (broadcastInDim S32x5 ![0, 1] bcast_S1x5_S32x5_0_1 (broadcastInDim S1x5 ![1] bcast_S5_S1x5_1 (iotaInDim S5 32 0)))) (broadcastInDim S32x5 ![] bcast_S_S32x5 (constantI S_ 32 130#32))) (addi (broadcastInDim S32x5 ![0, 1] bcast_S32x1_S32x5_0_1 (muli (broadcastInDim S32x1 ![0] bcast_S32_S32x1_0 (iotaInDim S32 32 0)) (broadcastInDim S32x1 ![] bcast_S_S32x1 (constantI S_ 32 4#32)))) (broadcastInDim S32x5 ![0, 1] bcast_S1x5_S32x5_0_1 (broadcastInDim S1x5 ![1] bcast_S5_S1x5_1 (iotaInDim S5 32 0)))))

/-- The blocks' scores. -/
def blocks (P : FVec Ideal S12x2048x128 .f32) : FVec Ideal S12x2048x32 .f32 :=
  Host.reduceAdd (mulf (Host.gather gather_S12x2048x130_S32x5x1_S12x2048x32x5_01_2_n_n_2_2_1220481 (pad S12x2048x130 ![0, 0, 1] ![0, 0, 1] ![0, 0, 0] P (sitofp .f32 (constantI S_ 32 0#32)) pads_S12x2048x128_S12x2048x130_000_000_110 h_S_) pos) (broadcastInDim S12x2048x32x5 ![0, 1, 2, 3] bcast_S1x1x1x5_S12x2048x32x5_0_1_2_3 (broadcastInDim S1x1x1x5 ![3] bcast_S5_S1x1x1x5_3 ((fun i => FloatOps.ofBits .f32 (lit0 (S5.rowMajor i))))))) (constant S_ .f32 0x00000000#32) reducesTo_S12x2048x32x5_S12x2048x32_d3 h_S_

/-- The first sixteen blocks of every row. -/
def tops (B : FVec Ideal S12x2048x32 .f32) : IVec S12x2048x16 32 :=
  (Host.topK S12x2048x16 2 (FloatOps.cmpfTotal .gt) B sliceFits_S12x2048x32_S12x2048x16).2

/-- The selection of the blocks among them. -/
def chosen (T : IVec S12x2048x16 32) : FVec Ideal S12x2048x32 .f32 :=
  uitofp .f32 (andi (Host.reduce IntOp.ori (cmpi .eq (broadcastInDim S12x2048x16x32 ![0, 1, 2, 3] bcast_S12x2048x16x1_S12x2048x16x32_0_1_2_3 (broadcastInDim S12x2048x16x1 ![0, 1, 2] bcast_S12x2048x16_S12x2048x16x1_0_1_2 T)) (broadcastInDim S12x2048x16x32 ![0, 1, 2, 3] bcast_S1x1x1x32_S12x2048x16x32_0_1_2_3 (broadcastInDim S1x1x1x32 ![2, 3] bcast_S1x32_S1x1x1x32_2_3 (broadcastInDim S1x32 ![1] bcast_S32_S1x32_1 (iotaInDim S32 32 0))))) (constantI S_ 1 0#1) reducesTo_S12x2048x16x32_S12x2048x32_d2 h_S_) (broadcastInDim S12x2048x32 ![0, 1, 2] bcast_S1x2048x32_S12x2048x32_0_1_2 (broadcastInDim S1x2048x32 ![1, 2] bcast_S2048x32_S1x2048x32_1_2 (shapeCast _ (broadcastInDim S32x64x32 ![0, 2] bcast_S32x32_S32x64x32_0_2 (select (cmpi .sge (addi (iotaInDim S32x32 32 0) (broadcastInDim S32x32 ![] bcast_S_S32x32 (constantI S_ 32 4294967295#32))) (iotaInDim S32x32 32 1)) (broadcastInDim S32x32 ![] bcast_S_S32x32 (constantI S_ 1 1#1)) (broadcastInDim S32x32 ![] bcast_S_S32x32 (constantI S_ 1 0#1)))) shapeCasts_S32x64x32_S2048x32))))

/-- The weighted values. -/
def out (P : FVec Ideal S12x2048x128 .f32) (C : FVec Ideal S2x12x128x64 .f32) : FVec Ideal S12x2048x64 .f32 :=
  Host.dotGeneral dot_S12x2048x128_S12x128x64_S12x2048x64_2_1_1_2_0_0 none P (shapeCast _ (extractStridedSlice S1x12x128x64 ![1, 0, 0, 0] C slices_S2x12x128x64_S1x12x128x64_1_0_0_0) shapeCasts_S1x12x128x64_S12x128x64)

theorem out_at (P : FVec Ideal S12x2048x128 .f32) (C : FVec Ideal S2x12x128x64 .f32) (h : Fin 12) (q : Fin 2048) (d : Fin 64) :
    out P C (ix3 h q d) = ∑ j : Fin 128, P (ix3 h q j) * C (ix4 1 h j d) := by
  pointwise [out]

theorem scores_at (A : FVec Ideal S36x2048x64 .f32) (C : FVec Ideal S2x12x128x64 .f32) (h : Fin 12) (q : Fin 2048) (j : Fin 128) :
    scores A C (ix3 h q j) = sc (fun q d => A (ix3 ⟨h.val, by omega⟩ q d)) (fun j d => C (ix4 0 h j d)) q j := by
  pointwise [scores]
  rfl

theorem rmax_at (M : IVec S12x2048x128 1) (X : FVec Ideal S12x2048x128 .f32) (h : Fin 12) (q : Fin 2048) :
    rmax M X (ix2 h q) = Finset.univ.fold max (⊥ : EReal) fun k : Fin 128 => if M (ix3 h q k) = 1#1 then X (ix3 h q k) else Ideal.ofBits .f32 0xFF7FFFFF#32 := by
  rw [← ofBits_ninf]
  pointwise [rmax]
  rfl

theorem rexp_at (M : IVec S12x2048x128 1) (X : FVec Ideal S12x2048x128 .f32) (h : Fin 12) (q : Fin 2048) (j : Fin 128) :
    rexp M X (ix3 h q j) = if M (ix3 h q j) = 1#1 then Ideal.exp ((if M (ix3 h q j) = 1#1 then X (ix3 h q j) else Ideal.ofBits .f32 0xFF7FFFFF#32) - rmax M X (ix2 h q)) else 0 := by
  simp only [rexp, id_eq]
  pointwise
  rfl

theorem probs_at (M : IVec S12x2048x128 1) (X : FVec Ideal S12x2048x128 .f32) (h : Fin 12) (q : Fin 2048) (j : Fin 128) :
    probs M X (ix3 h q j) = Ideal.div (rexp M X (ix3 h q j)) (max (∑ k : Fin 128, rexp M X (ix3 h q k)) (Ideal.ofBits .f32 0x0DA24260#32)) := by
  pointwise [probs]

/-- An `or` of one-bit words is on when one of them is. -/
theorem fold_ori {n : ℕ} (f : Fin n → BitVec 1) : Finset.univ.fold IntOp.ori (0#1) f = 1#1 ↔ ∃ x, f x = 1#1 := by
  have key : ∀ s : Finset (Fin n), s.fold IntOp.ori (0#1) f = 1#1 ↔ ∃ x ∈ s, f x = 1#1 := by
    intro s
    induction s using Finset.induction_on with
    | empty => simp
    | insert a s ha ih =>
      rw [Finset.fold_insert ha]
      have ho : ∀ a b : BitVec 1, IntOp.ori a b = 1#1 ↔ a = 1#1 ∨ b = 1#1 := by decide
      rw [ho, ih]
      simp
  rw [key]; simp

/-- The edge of the diagonal blocks, as words. -/
theorem edge32 : ∀ a b : Fin 32, Scalar.select
    (IntOp.cmpi CmpIPredicate.sge (IntOp.addi (BitVec.ofNat 32 a.val) 4294967295#32) (BitVec.ofNat 32 b.val)) 1#1 0#1
      = if b.val < a.val then 1#1 else 0#1 := by decide +kernel

theorem edge128 : ∀ a b : Fin 128, Scalar.select
    (IntOp.cmpi CmpIPredicate.sge (IntOp.addi (BitVec.ofNat 32 a.val) 4294967295#32) (BitVec.ofNat 32 b.val)) 1#1 0#1
      = if b.val < a.val then 1#1 else 0#1 := by decide +kernel

open Classical in
theorem chosen_at (T : IVec S12x2048x16 32) (h : Fin 12) (q : Fin 2048) (j : Fin 32) :
    chosen T (ix3 h q j) = if (∃ r : Fin 16, T (ix3 h q r) = BitVec.ofNat 32 j.val) ∧ j.val < q.val / 64 then 1 else 0 := by
  pointwise [chosen]
  rw [edge32 ⟨q.val / 64, by omega⟩ j]
  have e : (Finset.univ.fold IntOp.ori (0#1) fun x : Fin 16 => IntOp.cmpi CmpIPredicate.eq (T (ix3 h q x)) (BitVec.ofNat 32 j.val))
      = if ∃ r : Fin 16, T (ix3 h q r) = BitVec.ofNat 32 j.val then 1#1 else 0#1 := by
    have hb : ∀ a : BitVec 1, a = 1#1 ∨ a = 0#1 := by decide
    have h1 := fold_ori fun x : Fin 16 => IntOp.cmpi CmpIPredicate.eq (T (ix3 h q x)) (BitVec.ofNat 32 j.val)
    have h2 : ∀ x : Fin 16, IntOp.cmpi CmpIPredicate.eq (T (ix3 h q x)) (BitVec.ofNat 32 j.val) = 1#1 ↔ T (ix3 h q x) = BitVec.ofNat 32 j.val := by
      intro x
      show BitVec.ofBool (decide _) = _ ↔ _
      by_cases hx : T (ix3 h q x) = BitVec.ofNat 32 j.val <;> simp [hx]
    simp only [h2] at h1
    by_cases hx : ∃ r : Fin 16, T (ix3 h q r) = BitVec.ofNat 32 j.val
    · rw [if_pos hx]; exact h1.mpr hx
    · rw [if_neg hx]; exact (hb _).resolve_left fun e => hx (h1.mp e)
  rw [e]
  show (((IntOp.andi _ _ : BitVec 1).toNat : ℝ) : EReal) = _
  by_cases h1 : ∃ r : Fin 16, T (ix3 h q r) = BitVec.ofNat 32 j.val
  · by_cases h2 : j.val < q.val / 64
    · rw [if_pos h1, if_pos h2, if_pos ⟨h1, h2⟩, show (IntOp.andi (1#1) (1#1) : BitVec 1).toNat = 1 by decide]; norm_num
    · rw [if_pos h1, if_neg h2, if_neg fun h => h2 h.2, show (IntOp.andi (1#1) (0#1) : BitVec 1).toNat = 0 by decide]; norm_num
  · by_cases h2 : j.val < q.val / 64
    · rw [if_neg h1, if_pos h2, if_neg fun h => h1 h.1, show (IntOp.andi (0#1) (1#1) : BitVec 1).toNat = 0 by decide]; norm_num
    · rw [if_neg h1, if_neg h2, if_neg fun h => h1 h.1, show (IntOp.andi (0#1) (0#1) : BitVec 1).toNat = 0 by decide]; norm_num

theorem tops_at (B : FVec Ideal S12x2048x32 .f32) (h : Fin 12) (q : Fin 2048) (r : Fin 16) :
    tops B (ix3 h q r) = BitVec.ofNat 32 (sortedFrom (fun k k' : Fin 32 => decide (B (ix3 h q k') < B (ix3 h q k))) (r.castLE (by decide))).val := by
  have e : (fun k k' : Fin 32 => decide (B (ix3 h q k') < B (ix3 h q k)))
      = fun k k' : Fin 32 => Ideal.cmp .ogt (B (ix3 h q k)) (B (ix3 h q k')) == 1#1 := by
    funext k k'
    show _ = (BitVec.ofBool (decide _) == 1#1)
    cases decide (B (ix3 h q k') < B (ix3 h q k)) <;> rfl
  rw [e]
  have key : ∀ J : S12x2048x32.Idx, J = ix3 h q (r.castLE (by decide)) →
      (J.along 2 (sortedFrom (fun k k' : Fin 32 => Ideal.cmp .ogt (B (J.along 2 k)) (B (J.along 2 k')) == 1#1) (J 2)) 2).val
        = (sortedFrom (fun k k' : Fin 32 => Ideal.cmp .ogt (B (ix3 h q k)) (B (ix3 h q k')) == 1#1) (r.castLE (by decide))).val := by
    rintro J rfl
    have hal : ∀ k : Fin 32, (ix3 h q (r.castLE (by decide : 16 ≤ 32)) : S12x2048x32.Idx).along 2 k = ix3 h q k := by
      intro k; funext a; fin_cases a <;> rfl
    have hu : ∀ x : Fin 32, ((ix3 h q (r.castLE (by decide : 16 ≤ 32)) : S12x2048x32.Idx).along 2 x 2).val = x.val := fun x =>
      congrArg Fin.val (congrFun (hal x) 2)
    refine (hu _).trans ?_
    exact congrArg (fun R : Fin 32 → Fin 32 → Bool => (sortedFrom R (r.castLE (by decide))).val)
      (funext fun k => funext fun k' => congrArg₂ (fun a b : S12x2048x32.Idx => Ideal.cmp .ogt (B a) (B b) == 1#1) (hal k) (hal k'))
  unfold tops Host.topK Host.sort2
  exact congrArg (BitVec.ofNat 32) (key _ (by funext a; fin_cases a <;> exact Fin.ext (Nat.zero_add _)))

theorem word4 : ∀ (j : Fin 32) (t : Fin 5), Scalar.select
      (IntOp.cmpi CmpIPredicate.slt (IntOp.addi (IntOp.muli (BitVec.ofNat 32 j.val) 4#32) (BitVec.ofNat 32 t.val)) 0#32)
      (IntOp.addi (IntOp.addi (IntOp.muli (BitVec.ofNat 32 j.val) 4#32) (BitVec.ofNat 32 t.val)) 130#32)
      (IntOp.addi (IntOp.muli (BitVec.ofNat 32 j.val) 4#32) (BitVec.ofNat 32 t.val)) =
    BitVec.ofNat 32 (4 * j.val + t.val) := by decide +kernel

theorem pos_at (j : Fin 32) (t : Fin 5) : pos (ix3 j t 0) = BitVec.ofNat 32 (4 * j.val + t.val) := by
  pointwise [pos]
  exact word4 j t

theorem mask_at (h : Fin 12) (q : Fin 2048) (j : Fin 128) : mask (ix3 h q j) = scat (ix2 ⟨q.val / 16, by omega⟩ j) := by
  pointwise [mask]

theorem gather_at (x : FVec Ideal S12x2048x130 .f32) (idx : IVec S32x5x1 32) (h : Fin 12) (q : Fin 2048) (j : Fin 32) (t : Fin 5)
    (hi : idx (ix3 j t 0) = BitVec.ofNat 32 (4 * j.val + t.val)) :
    Host.gather gather_S12x2048x130_S32x5x1_S12x2048x32x5_01_2_n_n_2_2_1220481 x idx (ix4 h q j t)
      = x (ix3 h q ⟨4 * j.val + t.val, by omega⟩) := by
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil]
  have key : (idx (ix3 j t 0)).toInt.toNat = 4 * j.val + t.val := by
    rw [hi, BitVec.toInt_eq_toNat_of_lt (by rw [BitVec.toNat_ofNat]; omega), BitVec.toNat_ofNat]
    omega
  have hs : ∀ b : Fin 3, b ≠ 2 → GatherDims.start gather_S12x2048x130_S32x5x1_S12x2048x32x5_01_2_n_n_2_2_1220481 (ix4 h q j t) idx b = 0 := by
    intro b hb
    unfold GatherDims.start
    exact dif_neg (show b ∉ [(2 : Fin 3)] by simpa using hb)
  fin_cases a
  · rw [hs _ (by decide)]; show 0 + 0 + h.val = h.val; omega
  · rw [hs _ (by decide)]; show 0 + 0 + q.val = q.val; omega
  · rw [GatherDims.offCoord_eq_zero _ _ _ (fun h => ((GatherDims.mem_sKept _ _).mp h).1 (List.mem_singleton.mpr rfl))]
    unfold GatherDims.start
    have hsi : ∀ r, (gather_S12x2048x130_S32x5x1_S12x2048x32x5_01_2_n_n_2_2_1220481).siIdx (ix4 h q j t) r = ix3 j t 0 := by
      intro r
      funext b; refine Fin.ext ?_
      match b with
      | ⟨0, _⟩ => rfl
      | ⟨1, _⟩ => rfl
      | ⟨2, _⟩ => exact Nat.lt_one_iff.mp r.isLt
    refine (congrArg (fun z : ℕ => z + 0 + 0) ((dif_pos (show (2 : Fin 3) ∈ [(2 : Fin 3)] from List.mem_singleton.mpr rfl)).trans
      (congrArg (fun r => min (idx r).toInt.toNat (130 - 1)) (hsi _)))).trans ?_
    show min (idx (ix3 j t 0)).toInt.toNat (130 - 1) + 0 + 0 = 4 * j.val + t.val
    rw [key]
    omega

theorem weight_at (t : Fin 5) : (Ideal.ofBits FTy.f32 (lit0 (S5.rowMajor (ix1 t))) : EReal) = w5 t := by
  fin_cases t <;> rfl

theorem pad_at (P : FVec Ideal S12x2048x128 .f32) (h : Fin 12) (q : Fin 2048) (u : Fin 130) :
    pad S12x2048x130 ![0, 0, 1] ![0, 0, 1] ![0, 0, 0] P (sitofp (F := Ideal) FTy.f32 (constantI S_ 32 0#32))
      pads_S12x2048x128_S12x2048x130_000_000_110 h_S_ (ix3 h q u)
      = if hu : 1 ≤ u.val ∧ u.val < 129 then P (ix3 h q ⟨u.val - 1, by omega⟩) else 0 := by
  pointwise
  by_cases hu : 1 ≤ u.val ∧ u.val < 129
  · rw [dif_pos hu]
    exact dif_pos ⟨hu.1, by omega⟩
  · rw [dif_neg hu]
    refine (dif_neg fun h => hu ⟨h.1, by omega⟩).trans ?_
    show (((0#32 : BitVec 32).toInt : ℝ) : EReal) = 0
    norm_num

theorem blocks_at (P : FVec Ideal S12x2048x128 .f32) (h : Fin 12) (q : Fin 2048) (j : Fin 32) :
    blocks P (ix3 h q j) = bs (fun i => P (ix3 h q i)) j := by
  rw [bs_five]
  pointwise [blocks]
  refine Finset.sum_congr rfl fun t _ => congrArg₂ (fun a b : EReal => a * b) ?_ (weight_at t)
  exact (gather_at _ _ h q j t (pos_at j t)).trans (pad_at P h q _)

/-- Updates that all write one word: it is where one of them lands. -/
theorem scatter_one {s si u : Shape} {w : ℕ} {α : Type} (d : ScatterDims s si u) (x : s.Idx → α) (idx : IVec si w) (c : α) (i : s.Idx)
    (P : Prop) [Decidable P] (hP : P ↔ ∃ k : u.Idx, d.resultIdx? k idx = some i) :
    Host.scatter d (fun _ b => b) x idx (fun _ => c) i = if P then c else x i := by
  classical
  have key : ∀ (l : List (Fin u.numel)) (x : s.Idx → α), l.foldl (fun r n =>
      match d.resultIdx? (u.rowMajor.symm n) idx with
      | some i => fun i' => if i' = i then c else r i'
      | none => r) x i = if ∃ n ∈ l, d.resultIdx? (u.rowMajor.symm n) idx = some i then c else x i := by
    intro l
    induction l with
    | nil => intro x; simp
    | cons a l ih =>
      intro x
      rw [List.foldl_cons, ih]
      by_cases h : ∃ n ∈ l, d.resultIdx? (u.rowMajor.symm n) idx = some i
      · rw [if_pos h]
        obtain ⟨n, hn, e⟩ := h
        rw [if_pos ⟨n, List.mem_cons_of_mem _ hn, e⟩]
      · rw [if_neg h]
        cases ha : d.resultIdx? (u.rowMajor.symm a) idx with
        | none =>
          refine (if_neg ?_).symm
          rintro ⟨n, hn, e⟩
          rcases List.mem_cons.mp hn with rfl | hn
          · rw [ha] at e; exact absurd e (by simp)
          · exact h ⟨n, hn, e⟩
        | some i0 =>
          by_cases hi : i = i0
          · rw [if_pos ⟨a, List.mem_cons_self, by rw [ha, hi]⟩]
            exact if_pos hi
          · refine (if_neg hi).trans (if_neg ?_).symm
            rintro ⟨n, hn, e⟩
            rcases List.mem_cons.mp hn with rfl | hn
            · rw [ha] at e; exact hi (Option.some.inj e).symm
            · exact h ⟨n, hn, e⟩
  refine (key (List.finRange u.numel) x).trans ?_
  have : (∃ n ∈ List.finRange u.numel, d.resultIdx? (u.rowMajor.symm n) idx = some i) ↔ P := by
    rw [hP]
    constructor
    · rintro ⟨n, _, e⟩; exact ⟨_, e⟩
    · rintro ⟨k, e⟩; exact ⟨u.rowMajor k, List.mem_finRange _, by rw [Equiv.symm_apply_apply]; exact e⟩
  by_cases h : P
  · rw [if_pos h, if_pos (this.mpr h)]
  · rw [if_neg h, if_neg fun e => h (this.mp e)]

/-- Where an update lands. -/
theorem lands (idx : IVec S2 32) (hi : ∀ k, idx k = 0#32) (n : Fin 32) :
    (scatter_S128x128_S2_S32_0_1_01_0).resultIdx? (ix1 n) idx = some (ix2 ⟨n.val, by omega⟩ 0) := by
  have hst : ∀ a, (scatter_S128x128_S2_S32_0_1_01_0).start (ix1 n) idx a = 0 := by
    intro a
    unfold ScatterDims.start
    split
    · rw [hi]; rfl
    · rfl
  have hw0 : (scatter_S128x128_S2_S32_0_1_01_0).window (ix1 n) 0 = n.val := rfl
  have hw1 : (scatter_S128x128_S2_S32_0_1_01_0).window (ix1 n) 1 = 0 := rfl
  unfold ScatterDims.resultIdx?
  rw [dif_pos]
  · refine congrArg some (funext fun a => Fin.ext ?_)
    dsimp only
    rw [hst]
    fin_cases a
    · show (0 + ((scatter_S128x128_S2_S32_0_1_01_0).window (ix1 n) 0 : ℤ)).toNat = n.val
      rw [hw0]; omega
    · show (0 + ((scatter_S128x128_S2_S32_0_1_01_0).window (ix1 n) 1 : ℤ)).toNat = 0
      rw [hw1]; rfl
  · intro a
    rw [hst]
    fin_cases a
    · show 0 ≤ 0 + ((scatter_S128x128_S2_S32_0_1_01_0).window (ix1 n) 0 : ℤ) ∧ 0 + ((scatter_S128x128_S2_S32_0_1_01_0).window (ix1 n) 0 : ℤ) < 128
      rw [hw0]; omega
    · show 0 ≤ 0 + ((scatter_S128x128_S2_S32_0_1_01_0).window (ix1 n) 1 : ℤ) ∧ 0 + ((scatter_S128x128_S2_S32_0_1_01_0).window (ix1 n) 1 : ℤ) < 128
      rw [hw1]; omega

theorem scat_at (a b : Fin 128) : scat (ix2 a b) = if b.val < a.val ∨ (b.val = 0 ∧ a.val < 32) then 1#1 else 0#1 := by
  unfold scat
  refine (scatter_one _ _ _ 1#1 _ (b.val = 0 ∧ a.val < 32) ⟨?_, ?_⟩).trans ?_
  · rintro ⟨hb, ha⟩
    refine ⟨ix1 ⟨a.val, ha⟩, (lands _ ?_ _).trans (congrArg some ?_)⟩
    · intro k
      obtain ⟨k, rfl⟩ : ∃ k' : Fin 2, k = ix1 k' := ⟨k 0, by funext a; fin_cases a; rfl⟩
      fin_cases k <;> rfl
    · exact congrArg (ix2 a) (Fin.ext hb.symm)
  · rintro ⟨k, hk⟩
    obtain ⟨k, rfl⟩ : ∃ k' : Fin 32, k = ix1 k' := ⟨k 0, by funext a; fin_cases a; rfl⟩
    rw [lands] at hk
    · have h0 := congrFun (Option.some.inj hk) 0
      have h1 := congrFun (Option.some.inj hk) 1
      have h0 : k.val = a.val := congrArg Fin.val h0
      have h1 : 0 = b.val := congrArg Fin.val h1
      exact ⟨h1.symm, by have := k.isLt; omega⟩
    · intro k
      obtain ⟨k, rfl⟩ : ∃ k' : Fin 2, k = ix1 k' := ⟨k 0, by funext a; fin_cases a; rfl⟩
      fin_cases k <;> rfl
  · by_cases h : b.val = 0 ∧ a.val < 32
    · rw [if_pos h, if_pos (Or.inr h)]
    · rw [if_neg h]
      pointwise
      rw [edge128]
      by_cases h2 : b.val < a.val
      · rw [if_pos h2, if_pos (Or.inl h2)]
      · rw [if_neg h2, if_neg (not_or.mpr ⟨h2, h⟩)]

theorem mask_sees (h : Fin 12) (q : Fin 2048) (j : Fin 128) : mask (ix3 h q j) = 1#1 ↔ sees q j := by
  rw [mask_at, scat_at]
  unfold sees
  dsimp only
  by_cases hs : j.val < q.val / 16 ∨ (j.val = 0 ∧ q.val / 16 < 32)
  · rw [if_pos hs]; exact ⟨fun _ => hs.imp id fun h => ⟨h.1, by omega⟩, fun _ => rfl⟩
  · rw [if_neg hs]; exact ⟨fun h => absurd h (by decide), fun h => absurd (h.imp id fun h => ⟨h.1, by omega⟩) hs⟩

theorem probs_pr (X : FVec Ideal S12x2048x128 .f32) (h : Fin 12) (q : Fin 2048) (j : Fin 128) :
    probs mask X (ix3 h q j) = pr (fun q j => X (ix3 h q j)) q j := by
  have hm : rmax mask X (ix2 h q) = mx (fun q j => X (ix3 h q j)) q := by
    rw [rmax_at]
    unfold mx
    refine congrArg (fun f => Finset.univ.fold max (⊥ : EReal) f) (funext fun k => ?_)
    by_cases hk : sees q k
    · rw [if_pos hk, if_pos ((mask_sees h q k).mpr hk)]
    · rw [if_neg hk, if_neg fun e => hk ((mask_sees h q k).mp e)]
  have he : ∀ j, rexp mask X (ix3 h q j) = ex (fun q j => X (ix3 h q j)) q j := by
    intro j
    rw [rexp_at, hm]
    unfold ex
    by_cases hk : sees q j
    · have := (mask_sees h q j).mpr hk
      rw [if_pos hk, if_pos this, if_pos this]
    · rw [if_neg hk, if_neg fun e => hk ((mask_sees h q j).mp e)]
  rw [probs_at, he]
  unfold pr
  rw [Finset.sum_congr rfl fun k _ => he k]

theorem chosen_sel (X : FVec Ideal S12x2048x128 .f32) (h : Fin 12) (q : Fin 2048) (j : Fin 32) :
    chosen (tops (blocks (probs mask X))) (ix3 h q j) = sel (fun q j => X (ix3 h q j)) q j := by
  have hb : (fun j => blocks (probs mask X) (ix3 h q j)) = bs (pr (fun q j => X (ix3 h q j)) q) := by
    funext j
    rw [blocks_at]
    exact congrArg (fun p => bs p j) (funext fun i => probs_pr X h q i)
  have ht : (∃ r : Fin 16, tops (blocks (probs mask X)) (ix3 h q r) = BitVec.ofNat 32 j.val) ↔ top (bs (pr (fun q j => X (ix3 h q j)) q)) j := by
    rw [← hb, ← sorted_top]
    refine exists_congr fun r => ?_
    rw [tops_at]
    constructor
    · intro e
      have e := congrArg BitVec.toNat e
      rw [BitVec.toNat_ofNat, BitVec.toNat_ofNat, Nat.mod_eq_of_lt (by omega), Nat.mod_eq_of_lt (by omega)] at e
      exact Fin.ext e
    · intro e; exact congrArg (fun x : Fin 32 => BitVec.ofNat 32 x.val) e
  rw [chosen_at]
  unfold sel
  by_cases hc : top (bs (pr (fun q j => X (ix3 h q j)) q)) j ∧ j.val < q.val / 64
  · rw [if_pos hc, if_pos ⟨ht.mpr hc.1, hc.2⟩]
  · rw [if_neg hc, if_neg fun e => hc ⟨ht.mp e.1, e.2⟩]

/-- The two results of the reference. -/
theorem v31_at (m : (l : Loc nD τ sig) → Buf (Elt Ideal) l) (c : Dev nD) (A : FVec Ideal S36x2048x64 .f32) (C : FVec Ideal S2x12x128x64 .f32)
    (hA : (m ((c.tc : Thread nD τ).loc main_arg0) : FVec Ideal S36x2048x64 .f32) = A) (hC : (m ((c.tc : Thread nD τ).loc main_arg1) : FVec Ideal S2x12x128x64 .f32) = C)
    (h : Fin 12) (q : Fin 2048) (d : Fin 64) :
    (Value.res_main_v31 m c : FVec Ideal S12x2048x64 .f32) (ix3 h q d) = ∑ j : Fin 128, pr (sc (fun q d => A (ix3 ⟨h.val, by omega⟩ q d)) (fun j d => C (ix4 0 h j d))) q j * C (ix4 1 h j d) := by
  subst hA hC
  have e : Value.res_main_v31 m c = out (probs mask (scores (m ((c.tc : Thread nD τ).loc main_arg0)) (m ((c.tc : Thread nD τ).loc main_arg1)))) (m ((c.tc : Thread nD τ).loc main_arg1)) := rfl
  refine (congrFun e _).trans ((out_at _ _ h q d).trans (Finset.sum_congr rfl fun j _ => ?_))
  rw [probs_pr]
  refine congrArg (fun x : Fin 2048 → Fin 128 → EReal => pr x q j * (m ((c.tc : Thread nD τ).loc main_arg1) : FVec Ideal S2x12x128x64 .f32) (ix4 1 h j d)) ?_
  funext q j
  exact scores_at _ _ h q j

theorem v68_at (m : (l : Loc nD τ sig) → Buf (Elt Ideal) l) (c : Dev nD) (A : FVec Ideal S36x2048x64 .f32) (C : FVec Ideal S2x12x128x64 .f32)
    (hA : (m ((c.tc : Thread nD τ).loc main_arg0) : FVec Ideal S36x2048x64 .f32) = A) (hC : (m ((c.tc : Thread nD τ).loc main_arg1) : FVec Ideal S2x12x128x64 .f32) = C)
    (h : Fin 12) (q : Fin 2048) (j : Fin 32) :
    (Value.res_main_v68 m c : FVec Ideal S12x2048x32 .f32) (ix3 h q j) = sel (sc (fun q d => A (ix3 ⟨h.val, by omega⟩ q d)) (fun j d => C (ix4 0 h j d))) q j := by
  subst hA hC
  have e : Value.res_main_v68 m c = chosen (tops (blocks (probs mask (scores (m ((c.tc : Thread nD τ).loc main_arg0)) (m ((c.tc : Thread nD τ).loc main_arg1)))))) := rfl
  rw [e, chosen_sel]
  refine congrArg (fun x => sel x q j) ?_
  funext q j
  exact scores_at _ _ h q j

end Cert.Reference5Ideal.Hand
-- ==== Proof.Select.lean ====
/- The selection call: its two result arrays as functions of its argument arrays. -/
module

public import proofs.«01_k».proof.Proof.Gen.Kernel5Ideal.Value
public import proofs.«01_k».proof.Proof.SelectRef
public import Idealize.ShloMosaic.Lib.Pointwise
public import Idealize.ShloMosaic.Lib.Pipeline.ValueKit.Basic
public import Idealize.ShloMosaic.Lib.Pipeline.ValueKit.Tiles

@[expose] public section

set_option maxRecDepth 16384

noncomputable section

namespace Cert.Kernel5Ideal.Hand

open Idealize.ShloMosaic Idealize.ShloMosaic.TcCoe Idealize.SL.Sem
open Cert.Kernel5Ideal Cert.Kernel5Ideal.Gen Cert.Select Cert.Attn

variable (m : (l : Loc nD τ sig) → Buf (Elt Ideal) l)

theorem pay3_at (v0 : Vec Ideal S1x2048x64 .f32) (v2 : Vec Ideal S1x1x128x64 .f32) (q : Fin 2048) (j : Fin 128) :
    k0_pay3 v0 v2 (ix2 q j) = sc (fun q d => v0 (ix3 0 q d)) (fun j d => v2 (ix4 0 0 j d)) q j := by
  unfold k0_pay3
  pointwise
  rfl

/-- The body's floor divisions of a row word. -/
theorem floor16 : ∀ q : Fin 2048, Scalar.select
      (IntOp.andi
        (IntOp.cmpi CmpIPredicate.ne
          (IntOp.subi (BitVec.setWidth 32 (IntOp.cmpi CmpIPredicate.sgt (BitVec.ofNat 32 q.val) 0#32))
            (BitVec.setWidth 32 (IntOp.cmpi CmpIPredicate.slt (BitVec.ofNat 32 q.val) 0#32)))
          (Scalar.subi (Scalar.extui (Scalar.cmpi CmpIPredicate.sgt 16#32 0#32))
            (Scalar.extui (Scalar.cmpi CmpIPredicate.slt 16#32 0#32))))
        (IntOp.cmpi CmpIPredicate.ne (IntOp.remsi ArithUnit.vector (BitVec.ofNat 32 q.val) 16#32) 0#32))
      (IntOp.subi (IntOp.divsi ArithUnit.vector (BitVec.ofNat 32 q.val) 16#32) 1#32)
      (IntOp.divsi ArithUnit.vector (BitVec.ofNat 32 q.val) 16#32) = BitVec.ofNat 32 (q.val / 16) := by decide +kernel

theorem floor64' : ∀ q : Fin 2048, Scalar.select
      (IntOp.andi
        (IntOp.cmpi CmpIPredicate.ne
          (IntOp.subi (BitVec.setWidth 32 (IntOp.cmpi CmpIPredicate.sgt (BitVec.ofNat 32 q.val) 0#32))
            (BitVec.setWidth 32 (IntOp.cmpi CmpIPredicate.slt (BitVec.ofNat 32 q.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 q.val) 64#32) 0#32))
      (IntOp.subi (IntOp.divsi ArithUnit.vector (BitVec.ofNat 32 q.val) 64#32) 1#32)
      (IntOp.divsi ArithUnit.vector (BitVec.ofNat 32 q.val) 64#32) = BitVec.ofNat 32 (q.val / 64) := by decide +kernel

/-- A comparison of small words. -/
theorem less_word {x y : ℕ} (hx : x < 2 ^ 30) (hy : y < 2 ^ 30) :
    IntOp.cmpi CmpIPredicate.slt (BitVec.ofNat 32 x) (BitVec.ofNat 32 y) = if x < y then 1#1 else 0#1 := by
  show BitVec.ofBool ((BitVec.ofNat 32 x).slt (BitVec.ofNat 32 y)) = _
  rw [BitVec.slt, toInt_small (by omega), toInt_small (by omega)]
  by_cases h : x < y
  · rw [if_pos h, decide_eq_true (by omega)]; rfl
  · rw [if_neg h, decide_eq_false (by omega)]; rfl

theorem pay4_at (q : Fin 2048) (j : Fin 128) : k0_pay4 (ix2 q j) = if j.val < q.val / 16 then 1#1 else 0#1 := by
  unfold k0_pay4
  pointwise
  rw [floor16, less_word (by omega) (by omega)]

/-- The mask's word. -/
def word (v9 : IVec S2048x1 32) (v10 : IVec S2048x128 32) (v36 : IVec S2048x128 1) (v37 : IVec S2048x128 32) (q : Fin 2048) (j : Fin 128) : BitVec 1 :=
  IntOp.ori (v36 (ix2 q j)) (IntOp.andi (IntOp.cmpi CmpIPredicate.eq (v10 (ix2 q j)) (v37 (ix2 q j))) (IntOp.cmpi CmpIPredicate.slt (v9 (ix2 q 0)) 512#32))

theorem or_and_word (a b c : Prop) [Decidable a] [Decidable b] [Decidable c] :
    IntOp.ori (if a then 1#1 else 0#1) (IntOp.andi (if b then 1#1 else 0#1) (if c then 1#1 else 0#1)) = if a ∨ (b ∧ c) then 1#1 else 0#1 := by
  by_cases ha : a <;> by_cases hb : b <;> by_cases hc : c <;> simp [ha, hb, hc] <;> decide

theorem zero_word : ∀ j : Fin 128, IntOp.cmpi CmpIPredicate.eq (BitVec.ofNat 32 j.val) 0#32 = if j.val = 0 then 1#1 else 0#1 := by decide +kernel

theorem word_sees (q : Fin 2048) (j : Fin 128) :
    word (iota .tc S2048x1 32 [0] iota_S2048x1_d0_w32) (iota .tc S2048x128 32 [1] iota_S2048x128_d1_w32) k0_pay4 k0_pay5 q j
      = if sees q j then 1#1 else 0#1 := by
  unfold word
  rw [pay4_at]
  unfold k0_pay5 sees
  pointwise
  rw [zero_word, show (512#32 : BitVec 32) = BitVec.ofNat 32 512 from rfl, less_word (by omega) (by omega)]
  exact or_and_word _ _ _

/-- The exponentials as the body takes them. -/
def kex (v8 : FVec Ideal S2048x128 .f32) (v9 : IVec S2048x1 32) (v10 : IVec S2048x128 32) (v36 : IVec S2048x128 1) (v37 : IVec S2048x128 32) (q : Fin 2048) (j : Fin 128) : EReal :=
  if word v9 v10 v36 v37 q j = 1#1 then Ideal.exp (v8 (ix2 q j) -
    Finset.univ.fold max (⊥ : EReal) fun k : Fin 128 => if word v9 v10 v36 v37 q k = 1#1 then v8 (ix2 q k) else Ideal.ofBits .f32 0xFF7FFFFF#32) else 0

theorem pay6_at (v8 : FVec Ideal S2048x128 .f32) (v9 : IVec S2048x1 32) (v10 : IVec S2048x128 32) (v36 : IVec S2048x128 1) (v37 : IVec S2048x128 32) (q : Fin 2048) (j : Fin 128) :
    k0_pay6 v8 v9 v10 v36 v37 (ix2 q j) = Ideal.div (kex v8 v9 v10 v36 v37 q j) (max (∑ k : Fin 128, kex v8 v9 v10 v36 v37 q k) (Ideal.ofBits .f32 0x0DA24260#32)) := by
  unfold k0_pay6 kex
  rw [← ofBits_ninf]
  pointwise
  rfl

/-- The probabilities. -/
theorem pay6_pr (v8 : FVec Ideal S2048x128 .f32) (q : Fin 2048) (j : Fin 128) :
    k0_pay6 v8 (iota .tc S2048x1 32 [0] iota_S2048x1_d0_w32) (iota .tc S2048x128 32 [1] iota_S2048x128_d1_w32) k0_pay4 k0_pay5 (ix2 q j)
      = pr (fun q j => v8 (ix2 q j)) q j := by
  have hw : ∀ k, word (iota .tc S2048x1 32 [0] iota_S2048x1_d0_w32) (iota .tc S2048x128 32 [1] iota_S2048x128_d1_w32) k0_pay4 k0_pay5 q k = 1#1 ↔ sees q k := by
    intro k
    rw [word_sees]
    by_cases hk : sees q k
    · rw [if_pos hk]; exact ⟨fun _ => hk, fun _ => rfl⟩
    · rw [if_neg hk]; exact ⟨fun h => absurd h (by decide), fun h => absurd h hk⟩
  have he : ∀ k, kex v8 (iota .tc S2048x1 32 [0] iota_S2048x1_d0_w32) (iota .tc S2048x128 32 [1] iota_S2048x128_d1_w32) k0_pay4 k0_pay5 q k
      = ex (fun q j => v8 (ix2 q j)) q k := by
    intro k
    unfold kex ex mx
    simp only [hw]
  rw [pay6_at, he]
  unfold pr
  rw [Finset.sum_congr rfl fun k _ => he k]

theorem pay7_at (v5 : FVec Ideal S128x64 .f32) (v8 : FVec Ideal S2048x128 .f32) (v9 : IVec S2048x1 32) (v10 : IVec S2048x128 32) (v36 : IVec S2048x128 1) (v37 : IVec S2048x128 32) (q : Fin 2048) (d : Fin 64) :
    k0_pay7 v5 v8 v9 v10 v36 v37 (ix3 0 q d) = ∑ j : Fin 128, k0_pay6 v8 v9 v10 v36 v37 (ix2 q j) * v5 (ix2 j d) := by
  unfold k0_pay7
  pointwise

theorem outer_word : ∀ (i : Fin 128) (j : Fin 32), IntOp.andi
      (IntOp.cmpi CmpIPredicate.sge
        (IntOp.subi (IntOp.addi (BitVec.ofNat 32 i.val) 1#32) (IntOp.muli (4#32) (BitVec.ofNat 32 j.val))) 0#32)
      (IntOp.cmpi CmpIPredicate.sle
        (IntOp.subi (IntOp.addi (BitVec.ofNat 32 i.val) 1#32) (IntOp.muli (4#32) (BitVec.ofNat 32 j.val))) 4#32)
      = if 4 * j.val ≤ i.val + 1 ∧ i.val + 1 ≤ 4 * j.val + 4 then 1#1 else 0#1 := by decide +kernel

theorem inner_word : ∀ (i : Fin 128) (j : Fin 32), IntOp.andi
      (IntOp.cmpi CmpIPredicate.sge
        (IntOp.subi (IntOp.addi (BitVec.ofNat 32 i.val) 1#32) (IntOp.muli (4#32) (BitVec.ofNat 32 j.val))) 1#32)
      (IntOp.cmpi CmpIPredicate.sle
        (IntOp.subi (IntOp.addi (BitVec.ofNat 32 i.val) 1#32) (IntOp.muli (4#32) (BitVec.ofNat 32 j.val))) 3#32)
      = if 4 * j.val + 1 ≤ i.val + 1 ∧ i.val + 1 ≤ 4 * j.val + 3 then 1#1 else 0#1 := by decide +kernel

theorem pay9_at (i : Fin 128) (j : Fin 32) : k0_pay9 (ix2 i j) = if 4 * j.val ≤ i.val + 1 ∧ i.val + 1 ≤ 4 * j.val + 4 then 1#1 else 0#1 := by
  refine Eq.trans ?_ (outer_word i j)
  unfold k0_pay9 k0_pay8
  pointwise

theorem pay10_at (i : Fin 128) (j : Fin 32) : k0_pay10 (ix2 i j) = if 4 * j.val + 1 ≤ i.val + 1 ∧ i.val + 1 ≤ 4 * j.val + 3 then 1#1 else 0#1 := by
  refine Eq.trans ?_ (inner_word i j)
  unfold k0_pay10 k0_pay8
  pointwise

/-- A term of a block's score. -/
theorem term_at (p : EReal) (i : Fin 128) (j : Fin 32) :
    Scalar.select (k0_pay9 (ix2 i j)) (p * Scalar.select (k0_pay10 (ix2 i j)) (Ideal.ofBits .f32 0x40000000#32) 1) (0 : EReal) = p * Select.wt i j := by
  rw [pay9_at, pay10_at]
  unfold Select.wt
  rw [ofBits_one, EReal.coe_one]
  by_cases h1 : 4 * j.val ≤ i.val + 1 ∧ i.val + 1 ≤ 4 * j.val + 4
  · rw [if_pos h1, if_pos h1]
    by_cases h2 : 4 * j.val + 1 ≤ i.val + 1 ∧ i.val + 1 ≤ 4 * j.val + 3
    · rw [if_pos h2, if_pos h2]; rfl
    · rw [if_neg h2, if_neg h2]; rfl
  · rw [if_neg h1, if_neg h1, mul_zero]; rfl

/-- Sixteen. -/
theorem ofBits_sixteen : Ideal.ofBits .f32 0x41800000#32 = ((16 : ℝ) : EReal) := by
  simp [Ideal.ofBits, Ideal.ieee, -EReal.coe_mul]; norm_num

/-- The number of blocks before a block, counted by the words. -/
theorem count_at (f : Fin 32 → EReal) (j : Fin 32) :
    (∑ x : Fin 32, FloatOps.sitofp (F := Ideal) FTy.f32 (BitVec.setWidth 32 (IntOp.ori (BitVec.ofBool (decide (f j < f x)))
      (IntOp.andi (BitVec.ofBool (decide (f x = f j))) (IntOp.cmpi CmpIPredicate.slt (BitVec.ofNat 32 x.val) (BitVec.ofNat 32 j.val))))) : EReal)
      = (((Finset.univ.filter fun l => beats f l j).card : ℝ) : EReal) := by
  have hw : ∀ x : Fin 32, IntOp.ori (BitVec.ofBool (decide (f j < f x)))
      (IntOp.andi (BitVec.ofBool (decide (f x = f j))) (IntOp.cmpi CmpIPredicate.slt (BitVec.ofNat 32 x.val) (BitVec.ofNat 32 j.val)))
      = if beats f x j then 1#1 else 0#1 := by
    intro x
    rw [less_word (by omega) (by omega)]
    by_cases h : beats f x j
    · rw [if_pos h]
      rcases h with h | ⟨h1, h2⟩
      · rw [decide_eq_true h]
        have : ∀ a : BitVec 1, IntOp.ori (BitVec.ofBool true) a = 1#1 := by decide
        exact this _
      · rw [decide_eq_true h1, if_pos (show x.val < j.val from h2)]
        have : ∀ a : BitVec 1, IntOp.ori a (IntOp.andi (BitVec.ofBool true) 1#1) = 1#1 := by decide
        exact this _
    · rw [if_neg h, decide_eq_false fun e => h (Or.inl e)]
      by_cases h1 : f x = f j
      · rw [if_neg (show ¬ x.val < j.val from fun e => h (Or.inr ⟨h1, e⟩))]
        have : ∀ a : BitVec 1, IntOp.ori (BitVec.ofBool false) (IntOp.andi a 0#1) = 0#1 := by decide
        exact this _
      · rw [decide_eq_false h1]
        have : ∀ a : BitVec 1, IntOp.ori (BitVec.ofBool false) (IntOp.andi (BitVec.ofBool false) a) = 0#1 := by decide
        exact this _
  rw [Finset.sum_congr rfl fun x _ => (congrArg (fun b : BitVec 1 => FloatOps.sitofp (F := Ideal) FTy.f32 (BitVec.setWidth 32 b)) (hw x)).trans (number_of (beats f x j))]
  rw [← coe_sum, Finset.sum_boole]

open Classical in
theorem pay11_at (v58 : FVec Ideal S2048x128 .f32) (q : Fin 2048) (j : Fin 32) :
    k0_pay11 v58 k0_pay9 k0_pay10 (Scalar.ofBits .f32 0x40000000#32) (ix2 q j)
      = if top (bs fun i => v58 (ix2 q i)) j then 1#1 else 0#1 := by
  unfold k0_pay11
  pointwise
  have hb : ∀ l : Fin 32, (∑ x : Fin 128, Scalar.select (k0_pay9 (ix2 x l)) (v58 (ix2 q x) * Scalar.select (k0_pay10 (ix2 x l)) (Ideal.ofBits .f32 0x40000000#32) 1) (0 : EReal))
      = bs (fun i => v58 (ix2 q i)) l := fun l => Finset.sum_congr rfl fun i _ => term_at _ i l
  refine (congrArg (fun z : EReal => BitVec.ofBool (decide (z < Ideal.ofBits .f32 0x41800000#32))) ((Finset.sum_congr rfl fun x _ => ?_).trans (count_at (bs fun i => v58 (ix2 q i)) j))).trans ?_
  · exact congrArg₂ (fun a b : EReal => FloatOps.sitofp (F := Ideal) FTy.f32 (BitVec.setWidth 32 (IntOp.ori (BitVec.ofBool (decide (a < b)))
      (IntOp.andi (BitVec.ofBool (decide (b = a))) (IntOp.cmpi CmpIPredicate.slt (BitVec.ofNat 32 x.val) (BitVec.ofNat 32 j.val)))))) (hb j) (hb x)
  · have : ((((Finset.univ.filter fun l => beats (bs fun i => v58 (ix2 q i)) l j).card : ℝ) : EReal) < Ideal.ofBits .f32 0x41800000#32) ↔ top (bs fun i => v58 (ix2 q i)) j := by
      rw [ofBits_sixteen, EReal.coe_lt_coe_iff]
      unfold top
      exact_mod_cast Iff.rfl
    by_cases h : top (bs fun i => v58 (ix2 q i)) j
    · rw [if_pos h, decide_eq_true (this.mpr h)]; rfl
    · rw [if_neg h, decide_eq_false fun e => h (this.mp e)]; rfl

open Classical in
theorem pay1_at (v104 : IVec S2048x32 1) (q : Fin 2048) (j : Fin 32) (T : Prop) (hT : v104 (ix2 q j) = if T then 1#1 else 0#1) :
    k0_pay1 (F := Ideal) (iota .tc S2048x32 32 [1] iota_S2048x32_d1_w32) v104 (k0_pay12 (iota .tc S2048x1 32 [0] iota_S2048x1_d0_w32))
      (k0_pay13 (iota .tc S2048x1 32 [0] iota_S2048x1_d0_w32)) (k0_pay14 (iota .tc S2048x1 32 [0] iota_S2048x1_d0_w32)) (ix3 0 q j)
      = if T ∧ j.val < q.val / 64 then (1 : EReal) else 0 := by
  unfold k0_pay1 k0_pay14 k0_pay13 k0_pay12
  pointwise
  rw [floor64', less_word (by omega) (by omega), hT]
  have : IntOp.andi (if T then 1#1 else 0#1) (if j.val < q.val / 64 then 1#1 else 0#1) = if T ∧ j.val < q.val / 64 then 1#1 else 0#1 := by
    by_cases h1 : T <;> by_cases h2 : j.val < q.val / 64 <;> simp [h1, h2] <;> decide
  rw [this, number_of]
  by_cases h : T ∧ j.val < q.val / 64
  · rw [if_pos h, if_pos h, EReal.coe_one]
  · rw [if_neg h, if_neg h, EReal.coe_zero]

theorem out_at (x0 : Vec Ideal S1x2048x64 .f32) (x1 x2 : Vec Ideal S1x1x128x64 .f32) (q : Fin 2048) (d : Fin 64) :
    out0_3 x0 x1 x2 (ix3 0 q d)
      = ∑ j : Fin 128, pr (sc (fun q d => x0 (ix3 0 q d)) (fun j d => x1 (ix4 0 0 j d))) q j * x2 (ix4 0 0 j d) := by
  unfold out0_3 k0_pay19 k0_pay18 k0_pay17 k0_pay16 k0_pay15
  refine (congrFun (View.canon_cons_unit_lit _ _ _ (by decide)) _).trans ((pay7_at _ _ _ _ _ _ q d).trans (Finset.sum_congr rfl fun j _ => congrArg₂ (fun a b : EReal => a * b) ((pay6_pr _ q j).trans ?_) ?_))
  · refine congrArg (fun x => pr x q j) (funext fun q => funext fun j => (pay3_at _ _ q j).trans ?_)
    pointwise
  · unfold k0_pay2
    pointwise

theorem sel_at (x0 : Vec Ideal S1x2048x64 .f32) (x1 x2 : Vec Ideal S1x1x128x64 .f32) (q : Fin 2048) (j : Fin 32) :
    out0_4 x0 x1 x2 (ix3 0 q j) = sel (sc (fun q d => x0 (ix3 0 q d)) (fun j d => x1 (ix4 0 0 j d))) q j := by
  unfold out0_4 k0_pay19 k0_pay18 k0_pay17 k0_pay16 k0_pay15
  refine (congrFun (View.canon_cons_unit_lit _ _ _ (by decide)) _).trans ((pay1_at _ q j _ (pay11_at _ q j)).trans ?_)
  unfold sel
  have e : (fun i => k0_pay6 (k0_pay3 (View.ld x0 r0_0) (View.ld x1 r0_1)) (iota .tc S2048x1 32 [0] iota_S2048x1_d0_w32) (iota .tc S2048x128 32 [1] iota_S2048x128_d1_w32) k0_pay4 k0_pay5 (ix2 q i))
      = pr (sc (fun q d => x0 (ix3 0 q d)) (fun j d => x1 (ix4 0 0 j d))) q := by
    funext i
    refine (pay6_pr _ q i).trans (congrArg (fun x => pr x q i) (funext fun q => funext fun j => (pay3_at _ _ q j).trans ?_))
    pointwise
  rw [e]

theorem lt12 (t : Fin cfg0.N) : t.val < 12 := lt_of_lt_of_eq t.isLt N_0

theorem index_q (t : Fin cfg0.N) : win0_0.index t 0 = t.val ∧ win0_0.index t 1 = 0 ∧ win0_0.index t 2 = 0 := by
  revert t; decide +kernel
theorem index_k (t : Fin cfg0.N) : win0_1.index t 0 = 0 ∧ win0_1.index t 1 = t.val ∧ win0_1.index t 2 = 0 ∧ win0_1.index t 3 = 0 := by
  revert t; decide +kernel
theorem index_v (t : Fin cfg0.N) : win0_2.index t 0 = 1 ∧ win0_2.index t 1 = t.val ∧ win0_2.index t 2 = 0 ∧ win0_2.index t 3 = 0 := by
  revert t; decide +kernel
theorem index_out (t : Fin cfg0.N) : win0_3.index t 0 = t.val ∧ win0_3.index t 1 = 0 ∧ win0_3.index t 2 = 0 := by
  revert t; decide +kernel
theorem index_sel (t : Fin cfg0.N) : win0_4.index t 0 = t.val ∧ win0_4.index t 1 = 0 ∧ win0_4.index t 2 = 0 := by
  revert t; decide +kernel

theorem blk_q (c : Dev nD) (t : Fin cfg0.N) (q : Fin 2048) (d : Fin 64) :
    iblk m c 0 t (ix3 0 q d) = m ((c : Thread nD τ).loc main_arg0) (ix3 ⟨t.val, by have := lt12 t; omega⟩ q d) := by
  refine (congrFun (V_main_arg0 m c) _).trans (congrArg (m ((c : Thread nD τ).loc main_arg0)) (funext fun a => Fin.ext ?_))
  obtain ⟨e0, e1, e2⟩ := index_q t
  fin_cases a
  · show win0_0.index t 0 * 1 + 1 * 0 = t.val; omega
  · show win0_0.index t 1 * 2048 + 1 * q.val = q.val; omega
  · show win0_0.index t 2 * 64 + 1 * d.val = d.val; omega

theorem blk_k (c : Dev nD) (t : Fin cfg0.N) (j : Fin 128) (d : Fin 64) :
    iblk m c 1 t (ix4 0 0 j d) = m ((c : Thread nD τ).loc main_arg1) (ix4 0 ⟨t.val, lt12 t⟩ j d) := by
  refine (congrFun (V_main_arg1 m c) _).trans (congrArg (m ((c : Thread nD τ).loc main_arg1)) (funext fun a => Fin.ext ?_))
  obtain ⟨e0, e1, e2, e3⟩ := index_k t
  fin_cases a
  · show win0_1.index t 0 * 1 + 1 * 0 = 0; omega
  · show win0_1.index t 1 * 1 + 1 * 0 = t.val; omega
  · show win0_1.index t 2 * 128 + 1 * j.val = j.val; omega
  · show win0_1.index t 3 * 64 + 1 * d.val = d.val; omega

theorem blk_v (c : Dev nD) (t : Fin cfg0.N) (j : Fin 128) (d : Fin 64) :
    iblk m c 2 t (ix4 0 0 j d) = m ((c : Thread nD τ).loc main_arg1) (ix4 1 ⟨t.val, lt12 t⟩ j d) := by
  refine (congrFun (V_main_arg1 m c) _).trans (congrArg (m ((c : Thread nD τ).loc main_arg1)) (funext fun a => Fin.ext ?_))
  obtain ⟨e0, e1, e2, e3⟩ := index_v t
  fin_cases a
  · show win0_2.index t 0 * 1 + 1 * 0 = 1; omega
  · show win0_2.index t 1 * 1 + 1 * 0 = t.val; omega
  · show win0_2.index t 2 * 128 + 1 * j.val = j.val; omega
  · show win0_2.index t 3 * 64 + 1 * d.val = d.val; omega

/-- A head's weighted values, -/
def headOut (A : FVec Ideal S36x2048x64 .f32) (C : FVec Ideal S2x12x128x64 .f32) (h : Fin 12) (q : Fin 2048) (d : Fin 64) : EReal :=
  ∑ j : Fin 128, pr (sc (fun q d => A (ix3 ⟨h.val, by omega⟩ q d)) (fun j d => C (ix4 0 h j d))) q j * C (ix4 1 h j d)

/-- and its selection. -/
def headSel (A : FVec Ideal S36x2048x64 .f32) (C : FVec Ideal S2x12x128x64 .f32) (h : Fin 12) (q : Fin 2048) (j : Fin 32) : EReal :=
  sel (sc (fun q d => A (ix3 ⟨h.val, by omega⟩ q d)) (fun j d => C (ix4 0 h j d))) q j

/-- The first result array, -/
def result (c : Dev nD) : Buf (Elt Ideal) ((c : Thread nD τ).loc main_v0_0) := fun i =>
  headOut (m ((c : Thread nD τ).loc main_arg0)) (m ((c : Thread nD τ).loc main_arg1)) (i 0) (i 1) (i 2)

/-- and the second. -/
def picks (c : Dev nD) : Buf (Elt Ideal) ((c : Thread nD τ).loc main_v0_1) := fun i =>
  headSel (m ((c : Thread nD τ).loc main_arg0)) (m ((c : Thread nD τ).loc main_arg1)) (i 0) (i 1) (i 2)

theorem sc_blk (c : Dev nD) (t : Fin cfg0.N) :
    sc (fun q d => iblk m c 0 t (ix3 0 q d)) (fun j d => iblk m c 1 t (ix4 0 0 j d))
      = sc (fun q d => (m ((c : Thread nD τ).loc main_arg0) : FVec Ideal S36x2048x64 .f32) (ix3 ⟨t.val, by have := lt12 t; omega⟩ q d))
        (fun j d => (m ((c : Thread nD τ).loc main_arg1) : FVec Ideal S2x12x128x64 .f32) (ix4 0 ⟨t.val, lt12 t⟩ j d)) :=
  congrArg₂ sc (funext fun q => funext fun d => blk_q m c t q d) (funext fun j => funext fun d => blk_k m c t j d)

/-- An entry of grid point `t`'s first output block, -/
theorem out_row (c : Dev nD) (t : Fin cfg0.N) (q : Fin 2048) (d : Fin 64) :
    out0_3 (iblk m c 0 t) (iblk m c 1 t) (iblk m c 2 t) (ix3 0 q d)
      = headOut (m ((c : Thread nD τ).loc main_arg0)) (m ((c : Thread nD τ).loc main_arg1)) ⟨t.val, lt12 t⟩ q d :=
  (out_at _ _ _ q d).trans (Finset.sum_congr rfl fun j _ => congrArg₂ (fun a b : EReal => a * b) (congrArg (fun x => pr x q j) (sc_blk m c t)) (blk_v m c t j d))

/-- and one of its second. -/
theorem sel_row (c : Dev nD) (t : Fin cfg0.N) (q : Fin 2048) (j : Fin 32) :
    out0_4 (iblk m c 0 t) (iblk m c 1 t) (iblk m c 2 t) (ix3 0 q j)
      = headSel (m ((c : Thread nD τ).loc main_arg0)) (m ((c : Thread nD τ).loc main_arg1)) ⟨t.val, lt12 t⟩ q j :=
  (sel_at _ _ _ q j).trans (congrArg (fun x => sel x q j) (sc_blk m c t))

/-- Grid point `t` writes back its block of the weighted values, -/
theorem flushed_eq (c : Dev nD) (t : Fin cfg0.N) : (dats m 0 c).flushed 3 t = (win0_3.blk t).view.read (Elt Ideal) (result m c) := by
  rw [Value.flushed3]
  funext y
  obtain ⟨e0, e1, e2⟩ := index_out t
  have h0 : (y 0).val < 1 := (y 0).isLt
  have ey : y = ix3 0 (y 1) (y 2) := by
    funext a; fin_cases a
    · exact Fin.ext (Nat.lt_one_iff.mp h0)
    · rfl
    · rfl
  rw [ey]
  refine (out_row m c t (y 1) (y 2)).trans ?_
  show headOut _ _ _ _ _ = headOut _ _ _ _ _
  congr 1
  · exact Fin.ext (by show t.val = win0_3.index t 0 * 1 + 1 * 0; omega)
  · exact Fin.ext (by show (y 1).val = win0_3.index t 1 * 2048 + 1 * (y 1).val; omega)
  · exact Fin.ext (by show (y 2).val = win0_3.index t 2 * 64 + 1 * (y 2).val; omega)

/-- and its block of the selection. -/
theorem picks_flushed (c : Dev nD) (t : Fin cfg0.N) : (dats m 0 c).flushed 4 t = (win0_4.blk t).view.read (Elt Ideal) (picks m c) := by
  rw [Value.flushed4]
  funext y
  obtain ⟨e0, e1, e2⟩ := index_sel t
  have h0 : (y 0).val < 1 := (y 0).isLt
  have ey : y = ix3 0 (y 1) (y 2) := by
    funext a; fin_cases a
    · exact Fin.ext (Nat.lt_one_iff.mp h0)
    · rfl
    · rfl
  rw [ey]
  refine (sel_row m c t (y 1) (y 2)).trans ?_
  show headSel _ _ _ _ _ = headSel _ _ _ _ _
  congr 1
  · exact Fin.ext (by show t.val = win0_4.index t 0 * 1 + 1 * 0; omega)
  · exact Fin.ext (by show (y 1).val = win0_4.index t 1 * 2048 + 1 * (y 1).val; omega)
  · exact Fin.ext (by show (y 2).val = win0_4.index t 2 * 32 + 1 * (y 2).val; omega)

/-- An index of the first result array is in grid point `t`'s block, -/
theorem mem_blk (t : Fin cfg0.N) (i : S12x2048x64.Idx) : i ∈ ((cfg0.win 3).blk t).view.set ↔ (i 0).val = t.val := by
  show i ∈ ((View.whole main_v0_0).slice (win0_3.rect t)).set ↔ _
  rw [View.set_slice_whole, Rect.mem_set_unit]
  obtain ⟨e0, e1, e2⟩ := index_out t
  have h1 : (i 1).val < 2048 := (i 1).isLt
  have h2 : (i 2).val < 64 := (i 2).isLt
  constructor
  · intro h
    have a0 : win0_3.index t 0 * 1 ≤ (i 0).val ∧ (i 0).val < win0_3.index t 0 * 1 + 1 := h 0
    omega
  · intro a0 a
    match a with
    | ⟨0, _⟩ => show win0_3.index t 0 * 1 ≤ (i 0).val ∧ (i 0).val < win0_3.index t 0 * 1 + 1; omega
    | ⟨1, _⟩ => show win0_3.index t 1 * 2048 ≤ (i 1).val ∧ (i 1).val < win0_3.index t 1 * 2048 + 2048; omega
    | ⟨2, _⟩ => show win0_3.index t 2 * 64 ≤ (i 2).val ∧ (i 2).val < win0_3.index t 2 * 64 + 64; omega

/-- and one of the second. -/
theorem mem_sel (t : Fin cfg0.N) (i : S12x2048x32.Idx) : i ∈ ((cfg0.win 4).blk t).view.set ↔ (i 0).val = t.val := by
  show i ∈ ((View.whole main_v0_1).slice (win0_4.rect t)).set ↔ _
  rw [View.set_slice_whole, Rect.mem_set_unit]
  obtain ⟨e0, e1, e2⟩ := index_sel t
  have h1 : (i 1).val < 2048 := (i 1).isLt
  have h2 : (i 2).val < 32 := (i 2).isLt
  constructor
  · intro h
    have a0 : win0_4.index t 0 * 1 ≤ (i 0).val ∧ (i 0).val < win0_4.index t 0 * 1 + 1 := h 0
    omega
  · intro a0 a
    match a with
    | ⟨0, _⟩ => show win0_4.index t 0 * 1 ≤ (i 0).val ∧ (i 0).val < win0_4.index t 0 * 1 + 1; omega
    | ⟨1, _⟩ => show win0_4.index t 1 * 2048 ≤ (i 1).val ∧ (i 1).val < win0_4.index t 1 * 2048 + 2048; omega
    | ⟨2, _⟩ => show win0_4.index t 2 * 32 ≤ (i 2).val ∧ (i 2).val < win0_4.index t 2 * 32 + 32; omega

/-- The first result array ends at the weighted values, -/
theorem final_out (c : Dev nD) : (dats m 0 c).arrAt 3 cfg0.N = result m c :=
  (dats m 0 c).arrAt_eq_of_cover 3 (result m c) (fun t _ => flushed_eq m c t) fun i => by
    have h0 : (i 0).val < 12 := (i 0).isLt
    have hN : cfg0.N = 12 := N_0
    exact ⟨⟨(i 0).val, by omega⟩, flush0_3 _, (mem_blk _ i).2 rfl⟩

/-- and the second at the selection. -/
theorem final_picks (c : Dev nD) : (dats m 0 c).arrAt 4 cfg0.N = picks m c :=
  (dats m 0 c).arrAt_eq_of_cover 4 (picks m c) (fun t _ => picks_flushed m c t) fun i => by
    have h0 : (i 0).val < 12 := (i 0).isLt
    have hN : cfg0.N = 12 := N_0
    exact ⟨⟨(i 0).val, by omega⟩, flush0_4 _, (mem_sel _ i).2 rfl⟩

end Cert.Kernel5Ideal.Hand

end
-- ==== Proof.lean ====
/- The certificate: the frames of each call and of its reference, and the equality of their results. -/
module

public import proofs.«01_k».proof.Defs
public import proofs.«01_k».proof.Proof.Gen.Kernel
public import proofs.«01_k».proof.Proof.Value
public import proofs.«01_k».proof.Proof.RefRead
public import proofs.«01_k».proof.Proof.PreRead
public import Idealize.ShloMosaic.Lib.Quiescent
public import proofs.«01_k».proof.Proof.Gen.Kernel2.Frame
public import proofs.«01_k».proof.Proof.Gen.Kernel2Ideal.Value
public import proofs.«01_k».proof.Proof.Gen.Reference2Ideal.Run
public import proofs.«01_k».proof.Proof.Proj
public import proofs.«01_k».proof.Proof.Gen.Kernel3.Frame
public import proofs.«01_k».proof.Proof.Gen.Kernel3Ideal.Value
public import proofs.«01_k».proof.Proof.Gen.Reference3Ideal.Run
public import proofs.«01_k».proof.Proof.Oproj
public import proofs.«01_k».proof.Proof.Gen.Kernel4.Frame
public import proofs.«01_k».proof.Proof.Gen.Kernel4Ideal.Value
public import proofs.«01_k».proof.Proof.Gen.Reference4Ideal.Run
public import proofs.«01_k».proof.Proof.Compress
public import proofs.«01_k».proof.Proof.Gen.Kernel5.Frame
public import proofs.«01_k».proof.Proof.Gen.Kernel5Ideal.Value
public import proofs.«01_k».proof.Proof.Gen.Reference5Ideal.Run
public import proofs.«01_k».proof.Proof.Select

@[expose] public section

noncomputable section

namespace Cert.Proof

open Idealize.ShloMosaic Idealize.ShloMosaic.TcCoe Idealize.SL.Sem

/-- The two printed texts of the call have the same body, -/
theorem same_bodies (F : FTy → Type) [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) =>
    show Cert.Kernel.cc0__flash_body _ _ _ _ _ _ _ _ _ _ _ _ _ _ _ = Cert.KernelIdeal.cc0__flash_body _ _ _ _ _ _ _ _ _ _ _ _ _ _ _
    rfl

/-- and so the same table of bodies and pipelines. -/
theorem same_defs (F : FTy → Type) [FloatOps F] : Cert.Kernel.defs (F := F) = Cert.KernelIdeal.defs (F := F) := by
  unfold Cert.Kernel.defs Cert.KernelIdeal.defs
  rw [same_bodies]
  rfl

/-- The call as printed runs and leaves its arguments and every counter as they were, -/
theorem frame_kernel : Cert.quiescent_Kernel := fun m ρ _ => by
  rw [same_defs]
  exact (θ_run Cert.KernelIdeal.defs _ _).mono (fun _ h => h) (Cert.KernelIdeal.Hand.flash_frame (F := Bits) m ρ)

/-- and so does its idealization, -/
theorem frame_ideal : Cert.quiescent_KernelIdeal := fun m ρ _ => Cert.KernelIdeal.Hand.flash_frame (F := Ideal) m ρ

/-- and the reference. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- Where the precondition holds, the attention call and the reference end with equal results. -/
theorem equal_results : Cert.algebraic_KernelIdeal_ReferenceIdeal_pre_bounded := fun m ρ m' ρ' hp ha => by
  have g := fun c => Cert.Pre_bounded.Hand.good _ _ _ _ (hp c).1 (hp c).2
  refine ⟨Cert.KernelIdeal.Hand.result m, Cert.KernelIdeal.Hand.run_value ρ g,
    (θ_run Cert.ReferenceIdeal.defs _ _).mono (fun _ h c => ⟨(h c).1.trans ?_, (h c).2⟩) (Cert.ReferenceIdeal.Value.run (F := Ideal) m' ρ')⟩
  obtain ⟨e0, e1, e2, e3⟩ := ha c
  funext i
  obtain ⟨h, p, d, rfl⟩ : ∃ (h : Fin 12) (p : Fin 2048) (d : Fin 64), i = ix3 h p d :=
    ⟨i 0, i 1, i 2, funext fun a => by fin_cases a <;> rfl⟩
  rw [Cert.ReferenceIdeal.Hand.result_at m' c (by rw [e0, e1]; exact g c), e0, e1, e2, e3]
  rfl

/-- The projection call as printed runs and leaves its arguments and every counter as they were, -/
theorem frame_kernel2 : Cert.quiescent_Kernel2 := fun m ρ _ => Cert.Kernel2.Gen.frame m ρ

/-- and so does its idealization, -/
theorem frame_ideal2 : Cert.quiescent_Kernel2Ideal := fun m ρ _ => Cert.Kernel2Ideal.Gen.frame m ρ

/-- and its reference. -/
theorem frame_reference2 : Cert.quiescent_Reference2Ideal := fun m ρ _ =>
  (θ_run Cert.Reference2Ideal.defs _ _).mono (fun r h => ⟨fun c => (h c).2.2, sem_eq_zero_of_no_sems rfl r.2⟩)
    (Cert.Reference2Ideal.Value.run (F := Ideal) m ρ)

/-- The projection call and its reference end with equal results. -/
theorem equal_results2 : Cert.algebraic_Kernel2Ideal_Reference2Ideal := fun m ρ m' ρ' _ ha => by
  refine ⟨Cert.Kernel2Ideal.Hand.result m, Cert.Kernel2Ideal.Hand.gates m,
    (θ_run Cert.Kernel2Ideal.defs _ _).mono (fun _ h c => ⟨(h c).1.trans (Cert.Kernel2Ideal.Hand.final_out m c),
      (h c).2.1.trans (Cert.Kernel2Ideal.Hand.final_gates m c), (h c).2.2⟩) (Cert.Kernel2Ideal.Value.run_blocks m ρ),
    (θ_run Cert.Reference2Ideal.defs _ _).mono (fun _ h c => ⟨(h c).1.trans ?_, (h c).2.1.trans ?_, (h c).2.2⟩)
      (Cert.Reference2Ideal.Value.run (F := Ideal) m' ρ')⟩
  · obtain ⟨e0, e1, e2, e3, e4, e5⟩ := ha c
    funext i
    obtain ⟨h, p, d, rfl⟩ : ∃ (h : Fin 36) (p : Fin 2048) (d : Fin 64), i = ix3 h p d :=
      ⟨i 0, i 1, i 2, funext fun a => by fin_cases a <;> rfl⟩
    refine (Cert.Reference2Ideal.Hand.ref_at _ _ _ _ h p d).trans ?_
    rw [e0, e1, e2, e3]
    rfl
  · obtain ⟨e0, e1, e2, e3, e4, e5⟩ := ha c
    funext i
    obtain ⟨p, g, rfl⟩ : ∃ (p : Fin 2048) (g : Fin 36), i = ix2 p g := ⟨i 0, i 1, funext fun a => by fin_cases a <;> rfl⟩
    refine (Cert.Reference2Ideal.Hand.refgate_at _ _ _ p g).trans ?_
    rw [e0, e4, e5]
    rfl

/-- The output projection call as printed runs and leaves its arguments and every counter as they were, -/
theorem frame_kernel3 : Cert.quiescent_Kernel3 := fun m ρ _ => Cert.Kernel3.Gen.frame m ρ

/-- and so does its idealization, -/
theorem frame_ideal3 : Cert.quiescent_Kernel3Ideal := fun m ρ _ => Cert.Kernel3Ideal.Gen.frame m ρ

/-- and its reference. -/
theorem frame_reference3 : Cert.quiescent_Reference3Ideal := fun m ρ _ =>
  (θ_run Cert.Reference3Ideal.defs _ _).mono (fun r h => ⟨fun c => (h c).2, sem_eq_zero_of_no_sems rfl r.2⟩)
    (Cert.Reference3Ideal.Value.run (F := Ideal) m ρ)

/-- The output projection call and its reference end with equal results. -/
theorem equal_results3 : Cert.algebraic_Kernel3Ideal_Reference3Ideal := fun m ρ m' ρ' _ ha => by
  refine ⟨Cert.Kernel3Ideal.Hand.result m,
    (θ_run Cert.Kernel3Ideal.defs _ _).mono (fun _ h c => ⟨(h c).1.trans (Cert.Kernel3Ideal.Hand.final_out m c), (h c).2⟩)
      (Cert.Kernel3Ideal.Value.run_blocks m ρ),
    (θ_run Cert.Reference3Ideal.defs _ _).mono (fun _ h c => ⟨(h c).1.trans ?_, (h c).2⟩)
      (Cert.Reference3Ideal.Value.run (F := Ideal) m' ρ')⟩
  obtain ⟨e0, e1⟩ := ha c
  funext i
  obtain ⟨p, n, rfl⟩ : ∃ (p : Fin 2048) (n : Fin 768), i = ix2 p n := ⟨i 0, i 1, funext fun a => by fin_cases a <;> rfl⟩
  refine (Cert.Reference3Ideal.Hand.ref_at _ _ p n).trans ?_
  rw [e0, e1]
  rfl

/-- The block compression call as printed runs and leaves its arguments and every counter as they were, -/
theorem frame_kernel4 : Cert.quiescent_Kernel4 := fun m ρ _ => Cert.Kernel4.Gen.frame m ρ

/-- and so does its idealization, -/
theorem frame_ideal4 : Cert.quiescent_Kernel4Ideal := fun m ρ _ => Cert.Kernel4Ideal.Gen.frame m ρ

/-- and its reference. -/
theorem frame_reference4 : Cert.quiescent_Reference4Ideal := fun m ρ _ =>
  (θ_run Cert.Reference4Ideal.defs _ _).mono (fun r h => ⟨fun c => (h c).2, sem_eq_zero_of_no_sems rfl r.2⟩)
    (Cert.Reference4Ideal.Value.run (F := Ideal) m ρ)

/-- The compression call's result is the reference's. -/
theorem equal_results4 : Cert.algebraic_Kernel4Ideal_Reference4Ideal := fun m ρ m' ρ' _ ha => by
  refine ⟨Cert.Kernel4Ideal.Hand.result m,
    (θ_run Cert.Kernel4Ideal.defs _ _).mono (fun _ h c => ⟨(h c).1.trans (Cert.Kernel4Ideal.Hand.final_out m c), (h c).2⟩)
      (Cert.Kernel4Ideal.Value.run_blocks m ρ),
    (θ_run Cert.Reference4Ideal.defs _ _).mono (fun _ h c => ⟨(h c).1.trans ?_, (h c).2⟩)
      (Cert.Reference4Ideal.Value.run (F := Ideal) m' ρ')⟩
  obtain ⟨e0, e1, e2, e3, e4, e5, e6⟩ := ha c
  funext i
  obtain ⟨k, h, n, d, rfl⟩ : ∃ (k : Fin 2) (h : Fin 12) (n : Fin 128) (d : Fin 64), i = ix4 k h n d := ⟨i 0, i 1, i 2, i 3, funext fun a => by fin_cases a <;> rfl⟩
  refine (Cert.Reference4Ideal.Hand.ref_at m' c k h n d).trans ?_
  rw [e0, e1, e2, e3, e4, e5, e6]
  rfl

/-- The call that selects the blocks as printed runs and leaves its arguments and every counter as they were, -/
theorem frame_kernel5 : Cert.quiescent_Kernel5 := fun m ρ _ => Cert.Kernel5.Gen.frame m ρ

/-- and so does its idealization, -/
theorem frame_ideal5 : Cert.quiescent_Kernel5Ideal := fun m ρ _ => Cert.Kernel5Ideal.Gen.frame m ρ

/-- and its reference. -/
theorem frame_reference5 : Cert.quiescent_Reference5Ideal := fun m ρ _ =>
  (θ_run Cert.Reference5Ideal.defs _ _).mono (fun r h => ⟨fun c => (h c).2.2, sem_eq_zero_of_no_sems rfl r.2⟩)
    (Cert.Reference5Ideal.Value.run (F := Ideal) m ρ)

/-- The selecting call and its reference end with equal results. -/
theorem equal_results5 : Cert.algebraic_Kernel5Ideal_Reference5Ideal := fun m ρ m' ρ' _ ha => by
  refine ⟨Cert.Kernel5Ideal.Hand.result m, Cert.Kernel5Ideal.Hand.picks m,
    (θ_run Cert.Kernel5Ideal.defs _ _).mono (fun _ h c => ⟨(h c).1.trans (Cert.Kernel5Ideal.Hand.final_out m c),
      (h c).2.1.trans (Cert.Kernel5Ideal.Hand.final_picks m c), (h c).2.2⟩) (Cert.Kernel5Ideal.Value.run_blocks m ρ),
    (θ_run Cert.Reference5Ideal.defs _ _).mono (fun _ h c => ⟨(h c).1.trans ?_, (h c).2.1.trans ?_, (h c).2.2⟩)
      (Cert.Reference5Ideal.Value.run (F := Ideal) m' ρ')⟩
  · obtain ⟨e0, e1⟩ := ha c
    funext i
    obtain ⟨h, q, d, rfl⟩ : ∃ (h : Fin 12) (q : Fin 2048) (d : Fin 64), i = ix3 h q d :=
      ⟨i 0, i 1, i 2, funext fun a => by fin_cases a <;> rfl⟩
    exact Cert.Reference5Ideal.Hand.v31_at m' c _ _ e0 e1 h q d
  · obtain ⟨e0, e1⟩ := ha c
    funext i
    obtain ⟨h, q, j, rfl⟩ : ∃ (h : Fin 12) (q : Fin 2048) (j : Fin 32), i = ix3 h q j :=
      ⟨i 0, i 1, i 2, funext fun a => by fin_cases a <;> rfl⟩
    exact Cert.Reference5Ideal.Hand.v68_at m' c _ _ e0 e1 h q j

/-- Everything that is claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_bounded.Gen.facts,
    Cert.Proof.frame_kernel, Cert.Proof.frame_ideal, fun m ρ _ => Cert.Proof.frame_ideal m ρ trivial,
    Cert.Proof.frame_reference, fun m ρ _ => Cert.Proof.frame_reference m ρ trivial,
    Cert.Proof.frame_kernel2, Cert.Proof.frame_ideal2, Cert.Proof.frame_reference2,
    Cert.Proof.frame_kernel3, Cert.Proof.frame_ideal3, Cert.Proof.frame_reference3,
    Cert.Proof.frame_kernel4, Cert.Proof.frame_ideal4, Cert.Proof.frame_reference4,
    Cert.Proof.frame_kernel5, Cert.Proof.frame_ideal5, Cert.Proof.frame_reference5,
    trivial, Cert.Proof.equal_results, trivial, Cert.Proof.equal_results2, trivial, Cert.Proof.equal_results3, trivial, Cert.Proof.equal_results4, trivial, Cert.Proof.equal_results5⟩

end Cert.Proof

end
